-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "log2_scale" .f32 0x3E0293EE#32 (((Real.sqrt 128)⁻¹ * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)) (v3 : (c : Dev Cert.KernelIdeal.nD) → Buf (Elt Ideal) ((c.tc : Thread Cert.KernelIdeal.nD Cert.KernelIdeal.τ).loc Cert.KernelIdeal.main_v10_3)) (v4 : (c : Dev Cert.KernelIdeal.nD) → Buf (Elt Ideal) ((c.tc : Thread Cert.KernelIdeal.nD Cert.KernelIdeal.τ).loc Cert.KernelIdeal.main_v10_4)) (v5 : (c : Dev Cert.KernelIdeal.nD) → Buf (Elt Ideal) ((c.tc : Thread Cert.KernelIdeal.nD Cert.KernelIdeal.τ).loc Cert.KernelIdeal.main_v10_5)) (v6 : (c : Dev Cert.KernelIdeal.nD) → Buf (Elt Ideal) ((c.tc : Thread Cert.KernelIdeal.nD Cert.KernelIdeal.τ).loc Cert.KernelIdeal.main_v10_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_v10_3) = v3 c
          ∧ r.2.mem ((c.tc : Thread Cert.KernelIdeal.nD Cert.KernelIdeal.τ).loc Cert.KernelIdeal.main_v10_4) = v4 c
          ∧ r.2.mem ((c.tc : Thread Cert.KernelIdeal.nD Cert.KernelIdeal.τ).loc Cert.KernelIdeal.main_v10_5) = v5 c
          ∧ r.2.mem ((c.tc : Thread Cert.KernelIdeal.nD Cert.KernelIdeal.τ).loc Cert.KernelIdeal.main_v10_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_v142) = v1 c
          ∧ r.2.mem ((c.tc : Thread Cert.ReferenceIdeal.nD Cert.ReferenceIdeal.τ).loc Cert.ReferenceIdeal.main_v150) = v2 c
          ∧ r.2.mem ((c.tc : Thread Cert.ReferenceIdeal.nD Cert.ReferenceIdeal.τ).loc Cert.ReferenceIdeal.main_v151) = v3 c
          ∧ r.2.mem ((c.tc : Thread Cert.ReferenceIdeal.nD Cert.ReferenceIdeal.τ).loc Cert.ReferenceIdeal.main_v149) = v4 c
          ∧ r.2.mem ((c.tc : Thread Cert.ReferenceIdeal.nD Cert.ReferenceIdeal.τ).loc Cert.ReferenceIdeal.main_v152) = v5 c
          ∧ r.2.mem ((c.tc : Thread Cert.ReferenceIdeal.nD Cert.ReferenceIdeal.τ).loc Cert.ReferenceIdeal.main_v153) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x128x4096 : Shape := ⟨3, ![32, 128, 4096]⟩
abbrev S32x128x4x128 : Shape := ⟨4, ![32, 128, 4, 128]⟩
abbrev S32x16256x4x64 : Shape := ⟨4, ![32, 16256, 4, 64]⟩
abbrev S32x508x4x128 : Shape := ⟨4, ![32, 508, 4, 128]⟩
abbrev S32x16256x4 : Shape := ⟨3, ![32, 16256, 4]⟩
abbrev S32x4x64x16256 : Shape := ⟨4, ![32, 4, 64, 16256]⟩
abbrev S32x2032x128 : Shape := ⟨3, ![32, 2032, 128]⟩
abbrev S32x4x16256 : Shape := ⟨3, ![32, 4, 16256]⟩
abbrev S32x4x128x128 : Shape := ⟨4, ![32, 4, 128, 128]⟩
abbrev S32x4x64x128 : Shape := ⟨4, ![32, 4, 64, 128]⟩
abbrev S32x4x4x128 : Shape := ⟨4, ![32, 4, 4, 128]⟩
abbrev S32x4x128 : Shape := ⟨3, ![32, 4, 128]⟩
abbrev S1x128x4096 : Shape := ⟨3, ![1, 128, 4096]⟩
abbrev S1x4x64x1024 : Shape := ⟨4, ![1, 4, 64, 1024]⟩
abbrev S1x128x128 : Shape := ⟨3, ![1, 128, 128]⟩
abbrev S1x4x1024 : Shape := ⟨3, ![1, 4, 1024]⟩
abbrev S1x4x128x128 : Shape := ⟨4, ![1, 4, 128, 128]⟩
abbrev S1x4x64x128 : Shape := ⟨4, ![1, 4, 64, 128]⟩
abbrev S1x4x4x128 : Shape := ⟨4, ![1, 4, 4, 128]⟩
abbrev S1x4x128 : Shape := ⟨3, ![1, 4, 128]⟩
abbrev S128x128 : Shape := ⟨2, ![128, 128]⟩
abbrev S128x4096 : Shape := ⟨2, ![128, 4096]⟩
abbrev S4x1024x128 : Shape := ⟨3, ![4, 1024, 128]⟩
abbrev S4x128x1024 : Shape := ⟨3, ![4, 128, 1024]⟩
abbrev S1x4096 : Shape := ⟨2, ![1, 4096]⟩
abbrev S1x1x64x1024 : Shape := ⟨4, ![1, 1, 64, 1024]⟩
abbrev S64x1024 : Shape := ⟨2, ![64, 1024]⟩
abbrev S16x1024 : Shape := ⟨2, ![16, 1024]⟩
abbrev S128x1024 : Shape := ⟨2, ![128, 1024]⟩
abbrev S1x1x1024 : Shape := ⟨3, ![1, 1, 1024]⟩
abbrev S1x1024 : Shape := ⟨2, ![1, 1024]⟩
abbrev S1x128x1024 : Shape := ⟨3, ![1, 128, 1024]⟩
abbrev S1024x128 : Shape := ⟨2, ![1024, 128]⟩
abbrev S1x128 : Shape := ⟨2, ![1, 128]⟩
abbrev S32x128 : Shape := ⟨2, ![32, 128]⟩
abbrev S1x32x128 : Shape := ⟨3, ![1, 32, 128]⟩
abbrev S1x112x128 : Shape := ⟨3, ![1, 112, 128]⟩
abbrev S112x128 : Shape := ⟨2, ![112, 128]⟩
abbrev S1x1x64x896 : Shape := ⟨4, ![1, 1, 64, 896]⟩
abbrev S64x896 : Shape := ⟨2, ![64, 896]⟩
abbrev S16x896 : Shape := ⟨2, ![16, 896]⟩
abbrev S128x896 : Shape := ⟨2, ![128, 896]⟩
abbrev S1x1x896 : Shape := ⟨3, ![1, 1, 896]⟩
abbrev S1x896 : Shape := ⟨2, ![1, 896]⟩
abbrev S1x128x896 : Shape := ⟨3, ![1, 128, 896]⟩
abbrev S896x128 : Shape := ⟨2, ![896, 128]⟩
abbrev S1x1x128x128 : Shape := ⟨4, ![1, 1, 128, 128]⟩
abbrev S1x1024x128 : Shape := ⟨3, ![1, 1024, 128]⟩
abbrev S128x256 : Shape := ⟨2, ![128, 256]⟩
abbrev S1024x256 : Shape := ⟨2, ![1024, 256]⟩
abbrev S1x256 : Shape := ⟨2, ![1, 256]⟩
abbrev S256 : Shape := ⟨1, ![256]⟩
abbrev S64x128 : Shape := ⟨2, ![64, 128]⟩
abbrev S4x32x128 : Shape := ⟨3, ![4, 32, 128]⟩
abbrev S4x128 : Shape := ⟨2, ![4, 128]⟩
abbrev S4x1x128 : Shape := ⟨3, ![4, 1, 128]⟩
abbrev S1x1x4x128 : Shape := ⟨4, ![1, 1, 4, 128]⟩
abbrev S1x1x64x128 : Shape := ⟨4, ![1, 1, 64, 128]⟩
abbrev S128 : Shape := ⟨1, ![128]⟩
abbrev S1x1x128 : Shape := ⟨3, ![1, 1, 128]⟩

abbrev nBuf : Space → Nat
  | .hbm => 28
  | .vmem => 45
  | .smem => 0
  | _ => 0

abbrev bufTy : (tb : Table) → Fin (tcTables nBuf tb) → BufTy
  | .hbm, ⟨0, _⟩ => ⟨S32x128x4096, .bf16⟩
  | .hbm, ⟨1, _⟩ => ⟨S32x128x4x128, .bf16⟩
  | .hbm, ⟨2, _⟩ => ⟨S32x128x4x128, .bf16⟩
  | .hbm, ⟨3, _⟩ => ⟨S32x16256x4x64, .i8⟩
  | .hbm, ⟨4, _⟩ => ⟨S32x508x4x128, .f32⟩
  | .hbm, ⟨5, _⟩ => ⟨S32x508x4x128, .f32⟩
  | .hbm, ⟨6, _⟩ => ⟨S32x16256x4x64, .i8⟩
  | .hbm, ⟨7, _⟩ => ⟨S32x16256x4, .f32⟩
  | .hbm, ⟨8, _⟩ => ⟨S32x16256x4, .f32⟩
  | .hbm, ⟨9, _⟩ => ⟨S32x128x4x128, .bf16⟩
  | .hbm, ⟨10, _⟩ => ⟨S32x128x4x128, .bf16⟩
  | .hbm, ⟨11, _⟩ => ⟨S32x4x64x16256, .i8⟩
  | .hbm, ⟨12, _⟩ => ⟨S32x2032x128, .f32⟩
  | .hbm, ⟨13, _⟩ => ⟨S32x2032x128, .f32⟩
  | .hbm, ⟨14, _⟩ => ⟨S32x4x64x16256, .i8⟩
  | .hbm, ⟨15, _⟩ => ⟨S32x4x16256, .f32⟩
  | .hbm, ⟨16, _⟩ => ⟨S32x4x16256, .f32⟩
  | .hbm, ⟨17, _⟩ => ⟨S32x4x128x128, .bf16⟩
  | .hbm, ⟨18, _⟩ => ⟨S32x4x128x128, .bf16⟩
  | .hbm, ⟨19, _⟩ => ⟨S32x4x128x128, .bf16⟩
  | .hbm, ⟨20, _⟩ => ⟨S32x4x128x128, .bf16⟩
  | .hbm, ⟨21, _⟩ => ⟨S32x128x4096, .bf16⟩
  | .hbm, ⟨22, _⟩ => ⟨S32x4x64x128, .i8⟩
  | .hbm, ⟨23, _⟩ => ⟨S32x4x4x128, .f32⟩
  | .hbm, ⟨24, _⟩ => ⟨S32x4x4x128, .f32⟩
  | .hbm, ⟨25, _⟩ => ⟨S32x4x64x128, .i8⟩
  | .hbm, ⟨26, _⟩ => ⟨S32x4x128, .f32⟩
  | .hbm, ⟨27, _⟩ => ⟨S32x4x128, .f32⟩
  | .local _ .vmem, ⟨0, _⟩ => ⟨S1x128x4096, .bf16⟩
  | .local _ .vmem, ⟨1, _⟩ => ⟨S1x128x4096, .bf16⟩
  | .local _ .vmem, ⟨2, _⟩ => ⟨S1x4x64x1024, .i8⟩
  | .local _ .vmem, ⟨3, _⟩ => ⟨S1x4x64x1024, .i8⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S1x4x64x1024, .i8⟩
  | .local _ .vmem, ⟨9, _⟩ => ⟨S1x4x64x1024, .i8⟩
  | .local _ .vmem, ⟨10, _⟩ => ⟨S1x4x1024, .f32⟩
  | .local _ .vmem, ⟨11, _⟩ => ⟨S1x4x1024, .f32⟩
  | .local _ .vmem, ⟨12, _⟩ => ⟨S1x4x1024, .f32⟩
  | .local _ .vmem, ⟨13, _⟩ => ⟨S1x4x1024, .f32⟩
  | .local _ .vmem, ⟨14, _⟩ => ⟨S1x4x128x128, .bf16⟩
  | .local _ .vmem, ⟨15, _⟩ => ⟨S1x4x128x128, .bf16⟩
  | .local _ .vmem, ⟨16, _⟩ => ⟨S1x4x128x128, .bf16⟩
  | .local _ .vmem, ⟨17, _⟩ => ⟨S1x4x128x128, .bf16⟩
  | .local _ .vmem, ⟨18, _⟩ => ⟨S1x4x128x128, .bf16⟩
  | .local _ .vmem, ⟨19, _⟩ => ⟨S1x4x128x128, .bf16⟩
  | .local _ .vmem, ⟨20, _⟩ => ⟨S1x4x128x128, .bf16⟩
  | .local _ .vmem, ⟨21, _⟩ => ⟨S1x4x128x128, .bf16⟩
  | .local _ .vmem, ⟨22, _⟩ => ⟨S1x128x4096, .bf16⟩
  | .local _ .vmem, ⟨23, _⟩ => ⟨S1x128x4096, .bf16⟩
  | .local _ .vmem, ⟨24, _⟩ => ⟨S1x4x64x128, .i8⟩
  | .local _ .vmem, ⟨25, _⟩ => ⟨S1x4x64x128, .i8⟩
  | .local _ .vmem, ⟨26, _⟩ => ⟨S1x4x4x128, .f32⟩
  | .local _ .vmem, ⟨27, _⟩ => ⟨S1x4x4x128, .f32⟩
  | .local _ .vmem, ⟨28, _⟩ => ⟨S1x4x4x128, .f32⟩
  | .local _ .vmem, ⟨29, _⟩ => ⟨S1x4x4x128, .f32⟩
  | .local _ .vmem, ⟨30, _⟩ => ⟨S1x4x64x128, .i8⟩
  | .local _ .vmem, ⟨31, _⟩ => ⟨S1x4x64x128, .i8⟩
  | .local _ .vmem, ⟨32, _⟩ => ⟨S1x4x128, .f32⟩
  | .local _ .vmem, ⟨33, _⟩ => ⟨S1x4x128, .f32⟩
  | .local _ .vmem, ⟨34, _⟩ => ⟨S1x4x128, .f32⟩
  | .local _ .vmem, ⟨35, _⟩ => ⟨S1x4x128, .f32⟩
  | .local _ .vmem, ⟨36, _⟩ => ⟨S128x128, .bf16⟩
  | .local _ .vmem, ⟨37, _⟩ => ⟨S128x4096, .bf16⟩
  | .local _ .vmem, ⟨38, _⟩ => ⟨S4x1024x128, .bf16⟩
  | .local _ .vmem, ⟨39, _⟩ => ⟨S4x128x1024, .bf16⟩
  | .local _ .vmem, ⟨40, _⟩ => ⟨S128x128, .f32⟩
  | .local _ .vmem, ⟨41, _⟩ => ⟨S128x128, .f32⟩
  | .local _ .vmem, ⟨42, _⟩ => ⟨S128x4096, .f32⟩
  | .local _ .vmem, ⟨43, _⟩ => ⟨S1x4096, .f32⟩
  | .local _ .vmem, ⟨44, _⟩ => ⟨S1x4096, .f32⟩
  | _, _ => ⟨S32x128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev main_v10_3 : Ref sig .tc := ⟨.hbm, 24, rfl⟩
abbrev main_v10_4 : Ref sig .tc := ⟨.hbm, 25, rfl⟩
abbrev main_v10_5 : Ref sig .tc := ⟨.hbm, 26, rfl⟩
abbrev main_v10_6 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_scratch0 : Ref sig .tc := ⟨.vmem, 36, rfl⟩
abbrev cc0_scratch1 : Ref sig .tc := ⟨.vmem, 37, rfl⟩
abbrev cc0_scratch2 : Ref sig .tc := ⟨.vmem, 38, rfl⟩
abbrev cc0_scratch3 : Ref sig .tc := ⟨.vmem, 39, rfl⟩
abbrev cc0_scratch4 : Ref sig .tc := ⟨.vmem, 40, rfl⟩
abbrev cc0_scratch5 : Ref sig .tc := ⟨.vmem, 41, rfl⟩
abbrev cc0_scratch6 : Ref sig .tc := ⟨.vmem, 42, rfl⟩
abbrev cc0_scratch7 : Ref sig .tc := ⟨.vmem, 43, rfl⟩
abbrev cc0_scratch8 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨2, ![32, 16], ![false, false]⟩

def k0_cond4 (i : grid0.Coords) : BitVec 1 :=
  let arg1 : BitVec 32 := BitVec.ofNat 32 (i 1).val
  let c15_i32_330 : BitVec 32 := 15#32
  let v586 : BitVec 1 := Scalar.cmpi .eq arg1 c15_i32_330
  let v587 : BitVec 32 := Scalar.extui v586
  let c0_i32_331 : BitVec 32 := 0#32
  let v588 : BitVec 1 := Scalar.cmpi .ne v587 c0_i32_331
  v588

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4x64x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x64x1024 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x4x128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x4x128x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x4x128x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x128x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x4x64x128 .i8 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x4x4x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x4x4x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x4x64x128 .i8 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x4x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x4x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== KernelIdeal.lean ====
variable {F : FTy → Type} [FloatOps F] [Named F]
def κ : String → Option EReal := fun
  | "log2_scale" => some (((Real.sqrt 128)⁻¹ * (Real.log 2)⁻¹ : ℝ) : EReal)
  | _ => none
-- ==== ReferenceIdeal.lean ====
abbrev S32x128x4096 : Shape := ⟨3, ![32, 128, 4096]⟩
abbrev S32x128x4x128 : Shape := ⟨4, ![32, 128, 4, 128]⟩
abbrev S32x16256x4x64 : Shape := ⟨4, ![32, 16256, 4, 64]⟩
abbrev S32x508x4x128 : Shape := ⟨4, ![32, 508, 4, 128]⟩
abbrev S32x16256x4 : Shape := ⟨3, ![32, 16256, 4]⟩
abbrev S32x128x4x8x128 : Shape := ⟨5, ![32, 128, 4, 8, 128]⟩
abbrev S32x4x32x4x128 : Shape := ⟨5, ![32, 4, 32, 4, 128]⟩
abbrev S_ : Shape := ⟨0, ![]⟩
abbrev S32x4x4x128 : Shape := ⟨4, ![32, 4, 4, 128]⟩
abbrev S32x4x1x4x128 : Shape := ⟨5, ![32, 4, 1, 4, 128]⟩
abbrev S32x128x4 : Shape := ⟨3, ![32, 128, 4]⟩
abbrev S32x128x4x1 : Shape := ⟨4, ![32, 128, 4, 1]⟩
abbrev S32x16256x4x64x1 : Shape := ⟨5, ![32, 16256, 4, 64, 1]⟩
abbrev S32x16256x4x64x2 : Shape := ⟨5, ![32, 16256, 4, 64, 2]⟩
abbrev S32x16256x4x128 : Shape := ⟨4, ![32, 16256, 4, 128]⟩
abbrev S32x508x32x4x128 : Shape := ⟨5, ![32, 508, 32, 4, 128]⟩
abbrev S32x508x1x4x128 : Shape := ⟨5, ![32, 508, 1, 4, 128]⟩
abbrev S32x16512x4x128 : Shape := ⟨4, ![32, 16512, 4, 128]⟩
abbrev S32x16256x4x1 : Shape := ⟨4, ![32, 16256, 4, 1]⟩
abbrev S16512 : Shape := ⟨1, ![16512]⟩
abbrev S1x16512 : Shape := ⟨2, ![1, 16512]⟩
abbrev S128 : Shape := ⟨1, ![128]⟩
abbrev S128x1 : Shape := ⟨2, ![128, 1]⟩
abbrev S128x16512 : Shape := ⟨2, ![128, 16512]⟩
abbrev S32x4x16512x128x8 : Shape := ⟨5, ![32, 4, 16512, 128, 8]⟩
abbrev S32x4x8x128x16512 : Shape := ⟨5, ![32, 4, 8, 128, 16512]⟩
abbrev S32x4x8x128 : Shape := ⟨4, ![32, 4, 8, 128]⟩
abbrev S32x4x8x128x1 : Shape := ⟨5, ![32, 4, 8, 128, 1]⟩
abbrev S32x4x8x128x128 : Shape := ⟨5, ![32, 4, 8, 128, 128]⟩
abbrev S32x128x4x64 : Shape := ⟨4, ![32, 128, 4, 64]⟩
abbrev S32x4x64x128 : Shape := ⟨4, ![32, 4, 64, 128]⟩
abbrev S32x4x128 : Shape := ⟨3, ![32, 4, 128]⟩

abbrev nBuf : Space → Nat
  | .hbm => 207
  | .vmem => 0
  | .smem => 0
  | _ => 0

abbrev hbmTy0_0 (i : Nat) : BufTy := match i % 128 with
  | 0 => ⟨S32x128x4096, .bf16⟩
  | 1 => ⟨S32x128x4x128, .bf16⟩
  | 2 => ⟨S32x128x4x128, .bf16⟩
  | 3 => ⟨S32x16256x4x64, .i8⟩
  | 4 => ⟨S32x508x4x128, .f32⟩
  | 5 => ⟨S32x508x4x128, .f32⟩
  | 6 => ⟨S32x16256x4x64, .i8⟩
  | 7 => ⟨S32x16256x4, .f32⟩
  | 8 => ⟨S32x16256x4, .f32⟩
  | 9 => ⟨S32x128x4x128, .bf16⟩
  | 10 => ⟨S32x128x4x128, .bf16⟩
  | 11 => ⟨S32x128x4x8x128, .bf16⟩
  | 12 => ⟨S32x4x32x4x128, .bf16⟩
  | 13 => ⟨S32x4x32x4x128, .f32⟩
  | 14 => ⟨S_, .f32⟩
  | 15 => ⟨S32x4x4x128, .f32⟩
  | 16 => ⟨S32x4x1x4x128, .f32⟩
  | 17 => ⟨S_, .f32⟩
  | 18 => ⟨S32x4x4x128, .f32⟩
  | 19 => ⟨S32x4x1x4x128, .f32⟩
  | 20 => ⟨S32x4x1x4x128, .f32⟩
  | 21 => ⟨S_, .f32⟩
  | 22 => ⟨S32x4x1x4x128, .f32⟩
  | 23 => ⟨S32x4x1x4x128, .i1⟩
  | 24 => ⟨S_, .f32⟩
  | 25 => ⟨S32x4x1x4x128, .f32⟩
  | 26 => ⟨S32x4x1x4x128, .f32⟩
  | 27 => ⟨S_, .f32⟩
  | 28 => ⟨S_, .f32⟩
  | 29 => ⟨S32x4x1x4x128, .f32⟩
  | 30 => ⟨S32x4x1x4x128, .f32⟩
  | 31 => ⟨S32x4x32x4x128, .f32⟩
  | 32 => ⟨S32x4x32x4x128, .f32⟩
  | 33 => ⟨S32x4x32x4x128, .f32⟩
  | 34 => ⟨S32x4x32x4x128, .f32⟩
  | 35 => ⟨S32x4x32x4x128, .f32⟩
  | 36 => ⟨S_, .i32⟩
  | 37 => ⟨S_, .f32⟩
  | 38 => ⟨S_, .f32⟩
  | 39 => ⟨S32x4x32x4x128, .f32⟩
  | 40 => ⟨S32x4x32x4x128, .f32⟩
  | 41 => ⟨S_, .f32⟩
  | 42 => ⟨S32x4x32x4x128, .f32⟩
  | 43 => ⟨S32x4x32x4x128, .f32⟩
  | 44 => ⟨S32x4x32x4x128, .i32⟩
  | 45 => ⟨S32x4x4x128, .f32⟩
  | 46 => ⟨S32x4x4x128, .f32⟩
  | 47 => ⟨S32x128x4x128, .f32⟩
  | 48 => ⟨S_, .f32⟩
  | 49 => ⟨S32x128x4, .f32⟩
  | 50 => ⟨S32x128x4x1, .f32⟩
  | 51 => ⟨S_, .f32⟩
  | 52 => ⟨S32x128x4, .f32⟩
  | 53 => ⟨S32x128x4x1, .f32⟩
  | 54 => ⟨S32x128x4x1, .f32⟩
  | 55 => ⟨S_, .f32⟩
  | 56 => ⟨S32x128x4x1, .f32⟩
  | 57 => ⟨S32x128x4x1, .i1⟩
  | 58 => ⟨S_, .f32⟩
  | 59 => ⟨S32x128x4x1, .f32⟩
  | 60 => ⟨S32x128x4x1, .f32⟩
  | 61 => ⟨S_, .f32⟩
  | 62 => ⟨S_, .f32⟩
  | 63 => ⟨S32x128x4x1, .f32⟩
  | 64 => ⟨S32x128x4x1, .f32⟩
  | 65 => ⟨S32x128x4x128, .f32⟩
  | 66 => ⟨S32x128x4x128, .f32⟩
  | 67 => ⟨S32x128x4x128, .f32⟩
  | 68 => ⟨S32x128x4x128, .f32⟩
  | 69 => ⟨S32x128x4x128, .f32⟩
  | 70 => ⟨S_, .i32⟩
  | 71 => ⟨S_, .f32⟩
  | 72 => ⟨S_, .f32⟩
  | 73 => ⟨S32x128x4x128, .f32⟩
  | 74 => ⟨S32x128x4x128, .f32⟩
  | 75 => ⟨S_, .f32⟩
  | 76 => ⟨S32x128x4x128, .f32⟩
  | 77 => ⟨S32x128x4x128, .f32⟩
  | 78 => ⟨S32x128x4x128, .i32⟩
  | 79 => ⟨S32x128x4, .f32⟩
  | 80 => ⟨S32x128x4, .f32⟩
  | 81 => ⟨S32x16256x4x64, .i32⟩
  | 82 => ⟨S_, .i32⟩
  | 83 => ⟨S32x16256x4x64, .i32⟩
  | 84 => ⟨S32x16256x4x64, .i32⟩
  | 85 => ⟨S_, .i32⟩
  | 86 => ⟨S32x16256x4x64, .i32⟩
  | 87 => ⟨S32x16256x4x64, .i32⟩
  | 88 => ⟨S32x16256x4x64x1, .i32⟩
  | 89 => ⟨S32x16256x4x64x1, .i32⟩
  | 90 => ⟨S32x16256x4x64x2, .i32⟩
  | 91 => ⟨S32x16256x4x128, .i32⟩
  | 92 => ⟨S32x508x32x4x128, .i32⟩
  | 93 => ⟨S32x508x32x4x128, .f32⟩
  | 94 => ⟨S32x508x32x4x128, .bf16⟩
  | 95 => ⟨S32x508x1x4x128, .f32⟩
  | 96 => ⟨S32x508x1x4x128, .bf16⟩
  | 97 => ⟨S32x508x32x4x128, .bf16⟩
  | 98 => ⟨S32x508x32x4x128, .bf16⟩
  | 99 => ⟨S32x508x1x4x128, .f32⟩
  | 100 => ⟨S32x508x1x4x128, .bf16⟩
  | 101 => ⟨S32x508x32x4x128, .bf16⟩
  | 102 => ⟨S32x508x32x4x128, .bf16⟩
  | 103 => ⟨S32x16256x4x128, .bf16⟩
  | 104 => ⟨S32x4x32x4x128, .f32⟩
  | 105 => ⟨S32x4x32x4x128, .bf16⟩
  | 106 => ⟨S32x4x1x4x128, .f32⟩
  | 107 => ⟨S32x4x1x4x128, .bf16⟩
  | 108 => ⟨S32x4x32x4x128, .bf16⟩
  | 109 => ⟨S32x4x32x4x128, .bf16⟩
  | 110 => ⟨S32x4x1x4x128, .f32⟩
  | 111 => ⟨S32x4x1x4x128, .bf16⟩
  | 112 => ⟨S32x4x32x4x128, .bf16⟩
  | 113 => ⟨S32x4x32x4x128, .bf16⟩
  | 114 => ⟨S32x128x4x128, .bf16⟩
  | 115 => ⟨S32x16512x4x128, .bf16⟩
  | 116 => ⟨S32x16256x4x64, .i32⟩
  | 117 => ⟨S_, .i32⟩
  | 118 => ⟨S32x16256x4x64, .i32⟩
  | 119 => ⟨S32x16256x4x64, .i32⟩
  | 120 => ⟨S_, .i32⟩
  | 121 => ⟨S32x16256x4x64, .i32⟩
  | 122 => ⟨S32x16256x4x64, .i32⟩
  | 123 => ⟨S32x16256x4x64x1, .i32⟩
  | 124 => ⟨S32x16256x4x64x1, .i32⟩
  | 125 => ⟨S32x16256x4x64x2, .i32⟩
  | 126 => ⟨S32x16256x4x128, .i32⟩
  | 127 => ⟨S32x16256x4x128, .f32⟩
  | _ => ⟨S32x128x4096, .bf16⟩

abbrev hbmTy0_1 (i : Nat) : BufTy := match i % 128 with
  | 0 => ⟨S32x16256x4x128, .bf16⟩
  | 1 => ⟨S32x16256x4x1, .f32⟩
  | 2 => ⟨S32x16256x4x1, .bf16⟩
  | 3 => ⟨S32x16256x4x128, .bf16⟩
  | 4 => ⟨S32x16256x4x128, .bf16⟩
  | 5 => ⟨S32x16256x4x1, .f32⟩
  | 6 => ⟨S32x16256x4x1, .bf16⟩
  | 7 => ⟨S32x16256x4x128, .bf16⟩
  | 8 => ⟨S32x16256x4x128, .bf16⟩
  | 9 => ⟨S32x128x4x128, .f32⟩
  | 10 => ⟨S32x128x4x128, .bf16⟩
  | 11 => ⟨S32x128x4x1, .f32⟩
  | 12 => ⟨S32x128x4x1, .bf16⟩
  | 13 => ⟨S32x128x4x128, .bf16⟩
  | 14 => ⟨S32x128x4x128, .bf16⟩
  | 15 => ⟨S32x128x4x1, .f32⟩
  | 16 => ⟨S32x128x4x1, .bf16⟩
  | 17 => ⟨S32x128x4x128, .bf16⟩
  | 18 => ⟨S32x128x4x128, .bf16⟩
  | 19 => ⟨S32x16512x4x128, .bf16⟩
  | 20 => ⟨S16512, .i32⟩
  | 21 => ⟨S1x16512, .i32⟩
  | 22 => ⟨S128, .i32⟩
  | 23 => ⟨S128x1, .i32⟩
  | 24 => ⟨S_, .i32⟩
  | 25 => ⟨S128x1, .i32⟩
  | 26 => ⟨S128x1, .i32⟩
  | 27 => ⟨S128x16512, .i32⟩
  | 28 => ⟨S128x16512, .i32⟩
  | 29 => ⟨S128x16512, .i1⟩
  | 30 => ⟨S32x4x16512x128x8, .f32⟩
  | 31 => ⟨S32x4x8x128x16512, .f32⟩
  | 32 => ⟨S_, .f32⟩
  | 33 => ⟨S_, .f32⟩
  | 34 => ⟨S_, .f32⟩
  | 35 => ⟨S32x4x8x128x16512, .f32⟩
  | 36 => ⟨S32x4x8x128x16512, .f32⟩
  | 37 => ⟨S_, .f32⟩
  | 38 => ⟨S_, .f32⟩
  | 39 => ⟨S32x4x8x128x16512, .i1⟩
  | 40 => ⟨S32x4x8x128x16512, .f32⟩
  | 41 => ⟨S32x4x8x128x16512, .f32⟩
  | 42 => ⟨S_, .f32⟩
  | 43 => ⟨S32x4x8x128, .f32⟩
  | 44 => ⟨S32x4x8x128x1, .f32⟩
  | 45 => ⟨S32x4x8x128x16512, .f32⟩
  | 46 => ⟨S32x4x8x128x16512, .f32⟩
  | 47 => ⟨S32x4x8x128x16512, .f32⟩
  | 48 => ⟨S_, .f32⟩
  | 49 => ⟨S32x4x8x128, .f32⟩
  | 50 => ⟨S32x4x8x128x1, .f32⟩
  | 51 => ⟨S32x4x8x128x16512, .bf16⟩
  | 52 => ⟨S32x4x8x128x128, .f32⟩
  | 53 => ⟨S32x4x8x128x128, .f32⟩
  | 54 => ⟨S32x4x8x128x128, .f32⟩
  | 55 => ⟨S32x128x4x8x128, .f32⟩
  | 56 => ⟨S32x128x4096, .f32⟩
  | 57 => ⟨S32x128x4096, .bf16⟩
  | 58 => ⟨S32x128x4x128, .i32⟩
  | 59 => ⟨S32x128x4x64, .i32⟩
  | 60 => ⟨S32x128x4x64, .i32⟩
  | 61 => ⟨S_, .i32⟩
  | 62 => ⟨S32x128x4x64, .i32⟩
  | 63 => ⟨S32x128x4x64, .i32⟩
  | 64 => ⟨S32x128x4x64, .i32⟩
  | 65 => ⟨S32x128x4x64, .i8⟩
  | 66 => ⟨S32x4x64x128, .i8⟩
  | 67 => ⟨S32x128x4x64, .i32⟩
  | 68 => ⟨S32x128x4x64, .i32⟩
  | 69 => ⟨S_, .i32⟩
  | 70 => ⟨S32x128x4x64, .i32⟩
  | 71 => ⟨S32x128x4x64, .i32⟩
  | 72 => ⟨S32x128x4x64, .i32⟩
  | 73 => ⟨S32x128x4x64, .i8⟩
  | 74 => ⟨S32x4x64x128, .i8⟩
  | 75 => ⟨S32x4x4x128, .f32⟩
  | 76 => ⟨S32x4x4x128, .f32⟩
  | 77 => ⟨S32x4x128, .f32⟩
  | 78 => ⟨S32x4x128, .f32⟩
  | _ => ⟨S32x128x4096, .bf16⟩

abbrev hbmTy (i : Nat) : BufTy := match i / 128 with
  | 0 => hbmTy0_0 i
  | 1 => hbmTy0_1 i
  | _ => ⟨S32x128x4096, .bf16⟩

abbrev bufTy : (tb : Table) → Fin (tcTables nBuf tb) → BufTy
  | .hbm, ⟨i, _⟩ => hbmTy i
  | _, _ => ⟨S32x128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c : Ref sig .tc := ⟨.hbm, 36, rfl⟩
abbrev main_cst_4 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_5 : Ref sig .tc := ⟨.hbm, 48, rfl⟩
abbrev main_v23 : Ref sig .tc := ⟨.hbm, 49, rfl⟩
abbrev main_v24 : Ref sig .tc := ⟨.hbm, 50, rfl⟩
abbrev main_cst_6 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_7 : Ref sig .tc := ⟨.hbm, 55, rfl⟩
abbrev main_v28 : Ref sig .tc := ⟨.hbm, 56, rfl⟩
abbrev main_v29 : Ref sig .tc := ⟨.hbm, 57, rfl⟩
abbrev main_cst_8 : Ref sig .tc := ⟨.hbm, 58, rfl⟩
abbrev main_v30 : Ref sig .tc := ⟨.hbm, 59, rfl⟩
abbrev main_v31 : Ref sig .tc := ⟨.hbm, 60, rfl⟩
abbrev main_cst_9 : Ref sig .tc := ⟨.hbm, 61, rfl⟩
abbrev main_call3_v0 : Ref sig .tc := ⟨.hbm, 62, rfl⟩
abbrev main_call3_v1 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_c_10 : Ref sig .tc := ⟨.hbm, 70, rfl⟩
abbrev main_cst_11 : Ref sig .tc := ⟨.hbm, 71, rfl⟩
abbrev main_call5_v0 : Ref sig .tc := ⟨.hbm, 72, rfl⟩
abbrev main_call5_v1 : Ref sig .tc := ⟨.hbm, 73, rfl⟩
abbrev main_call5_v2 : Ref sig .tc := ⟨.hbm, 74, rfl⟩
abbrev main_call5_v3 : Ref sig .tc := ⟨.hbm, 75, rfl⟩
abbrev main_call5_v4 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_c_12 : Ref sig .tc := ⟨.hbm, 82, rfl⟩
abbrev main_v43 : Ref sig .tc := ⟨.hbm, 83, rfl⟩
abbrev main_v44 : Ref sig .tc := ⟨.hbm, 84, rfl⟩
abbrev main_c_13 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_c_14 : Ref sig .tc := ⟨.hbm, 117, rfl⟩
abbrev main_v76 : Ref sig .tc := ⟨.hbm, 118, rfl⟩
abbrev main_v77 : Ref sig .tc := ⟨.hbm, 119, rfl⟩
abbrev main_c_15 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_c_16 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_cst_17 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_cst_18 : Ref sig .tc := ⟨.hbm, 165, rfl⟩
abbrev main_call6_v0 : Ref sig .tc := ⟨.hbm, 166, rfl⟩
abbrev main_call6_v1 : Ref sig .tc := ⟨.hbm, 167, rfl⟩
abbrev main_call6_v2 : Ref sig .tc := ⟨.hbm, 168, rfl⟩
abbrev main_v120 : Ref sig .tc := ⟨.hbm, 169, rfl⟩
abbrev main_cst_19 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_cst_20 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_c_21 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_c_22 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩

abbrev nD : Nat := 1
abbrev τ : Topo := Topo.v7x

variable {F : FTy → Type} [FloatOps F]
-- ==== Proof.K.Base.lean ====
/-
  What the three runs of the kernel's body share: the branch conditions in closed form over the grid points, the staging
  and scratch buffers by name, and the class invariant opened.
-/
module

public import proofs.«01_k».proof.Proof.Gen.Kernel.Frame
public import proofs.«01_k».proof.Proof.Gen.Kernel.Skeleton

@[expose] public section

-- membership in a rectangle of production extents (`View.cover_of_tiled`): the elaborator's structural look
-- recurses once per coordinate of the long axes
set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 16) — by arithmetic of the point. -/
theorem hcond0_0 : ∀ t : Fin cfg0.N, cond0_0 (grid0.coords t) ↔ t.val % 16 = 0 :=
  (fun t => by
    have ht : t.val < 512 := Nat.lt_of_lt_of_eq t.isLt N_0
    have e0 : (grid0.coords t 0).val = t.val / 16 % 32 := Pipeline.Grid.coords_val t 0 (by decide) rfl
    have e1 : (grid0.coords t 1).val = t.val / 1 % 16 := Pipeline.Grid.coords_val t 1 (by decide) rfl
    simp only [cond0_0, e0, e1]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := (Scalar.cmpi .ne (Scalar.extui (Scalar.cmpi .slt (BitVec.ofNat 32 (i 1).val) 15#32)) 0#32) = 1#1
/-- It holds at the points whose coordinates have i1 ≤ 14 — decided over the grid. -/
theorem hcond0_1 : ∀ t : Fin cfg0.N, cond0_1 (grid0.coords t) ↔ t.val % 16 ≤ 14 :=
  (by decide +kernel : ∀ t : Fin grid0.N, cond0_1 (grid0.coords t) ↔ t.val % 16 ≤ 14)

/-- The condition of the body's `scf.if` 2 (`k0_h3`), from the grid coordinates (the skeleton's scalar
    chain substituted). -/
abbrev cond0_2 (i : grid0.Coords) : Prop := (Scalar.cmpi .ne (Scalar.extui (Scalar.cmpi .eq (BitVec.ofNat 32 (i 1).val) 15#32)) 0#32) = 1#1
/-- It holds at the points ≡ 15 (mod 16) — by arithmetic of the point. -/
theorem hcond0_2 : ∀ t : Fin cfg0.N, cond0_2 (grid0.coords t) ↔ t.val % 16 = 15 :=
  (fun t => by
    have ht : t.val < 512 := Nat.lt_of_lt_of_eq t.isLt N_0
    have e0 : (grid0.coords t 0).val = t.val / 16 % 32 := Pipeline.Grid.coords_val t 0 (by decide) rfl
    have e1 : (grid0.coords t 1).val = t.val / 1 % 16 := Pipeline.Grid.coords_val t 1 (by decide) rfl
    simp only [cond0_2, e0, e1]
    word_cmp
   : ∀ t : Fin grid0.N, cond0_2 (grid0.coords t) ↔ t.val % 16 = 15)

/-- The condition of the body's `scf.if` 3 (`k0_h4`), from the grid coordinates (the skeleton's scalar
    chain substituted). -/
abbrev cond0_3 (i : grid0.Coords) : Prop := k0_cond4 i = 1#1
/-- It holds at the points ≡ 15 (mod 16) — by arithmetic of the point. -/
theorem hcond0_3 : ∀ t : Fin cfg0.N, cond0_3 (grid0.coords t) ↔ t.val % 16 = 15 :=
  (fun t => by
    have ht : t.val < 512 := Nat.lt_of_lt_of_eq t.isLt N_0
    have e0 : (grid0.coords t 0).val = t.val / 16 % 32 := Pipeline.Grid.coords_val t 0 (by decide) rfl
    have e1 : (grid0.coords t 1).val = t.val / 1 % 16 := Pipeline.Grid.coords_val t 1 (by decide) rfl
    simp only [cond0_3, k0_cond4, e0, e1]
    word_cmp
   : ∀ t : Fin grid0.N, cond0_3 (grid0.coords t) ↔ t.val % 16 = 15)

abbrev ms0_0 (t : Fin cfg0.N) : Memref sig .tc .vmem S1x128x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4x64x1024 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4x64x1024 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x4x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x4x128x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x4x128x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x4x128x128 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x4x128x128 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x128x4096 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x4x64x128 .i8 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x4x4x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x4x4x128 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x4x64x128 .i8 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x4x128 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x4x128 .f32 := win0_17.stage (cfg0.slots t 17)
abbrev hs0_17 (t : Fin cfg0.N) : (ms0_17 t).IsWhole := hstage0_17 ((cfg0.slots t 17).cast nbuf0_17)
abbrev scM0_0 : Memref sig .tc .vmem S128x128 .bf16 := Memref.whole cc0_scratch0
abbrev scM0_1 : Memref sig .tc .vmem S128x4096 .bf16 := Memref.whole cc0_scratch1
abbrev scM0_2 : Memref sig .tc .vmem S4x1024x128 .bf16 := Memref.whole cc0_scratch2
abbrev scM0_3 : Memref sig .tc .vmem S4x128x1024 .bf16 := Memref.whole cc0_scratch3
abbrev scM0_4 : Memref sig .tc .vmem S128x128 .f32 := Memref.whole cc0_scratch4
abbrev scM0_5 : Memref sig .tc .vmem S128x128 .f32 := Memref.whole cc0_scratch5
abbrev scM0_6 : Memref sig .tc .vmem S128x4096 .f32 := Memref.whole cc0_scratch6
abbrev scM0_7 : Memref sig .tc .vmem S1x4096 .f32 := Memref.whole cc0_scratch7
abbrev scM0_8 : Memref sig .tc .vmem S1x4096 .f32 := Memref.whole cc0_scratch8
abbrev VS0_0 : View sig .tc .vmem S128x128 .bf16 := scM0_0.view
abbrev VS0_1 : View sig .tc .vmem S128x4096 .bf16 := scM0_1.view
abbrev VS0_6 : View sig .tc .vmem S128x4096 .f32 := scM0_6.view
abbrev VS0_7 : View sig .tc .vmem S1x4096 .f32 := scM0_7.view
abbrev VS0_8 : View sig .tc .vmem S1x4096 .f32 := scM0_8.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := by
  unfold Pipeline.ΦA; rw [scopedRest0_eq]; simp only [scM0_0, scM0_1, scM0_2, scM0_3, scM0_4, scM0_5, scM0_6, scM0_7, scM0_8, owns_whole]; try rfl

end Cert.Kernel.Body

end
-- ==== Proof.K.RunA.lean ====
/-
  The kernel's body run whole in case A: the first point of a batch row.
-/
module

public import proofs.«01_k».proof.Proof.K.Base

@[expose] public section

-- membership in a rectangle of production extents (`View.cover_of_tiled`): the elaborator's structural look
-- recurses once per coordinate of the long axes
set_option maxRecDepth 16384

noncomputable section

namespace Cert.Kernel.Body

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 4960000 in
/-- The pieces the body's stores leave in each buffer in case A (last first), with the proof that from the inputs' buffers at `x·`, the
    scratch the body reads before writing at `xs·` and everything else at anything, the body runs to the same inputs and those pieces written. -/
noncomputable def run_A (c : Dev nD) (i : grid0.Coords) (arg2 : Memref sig .tc .vmem S1x128x4096 .bf16) (harg2 : arg2.IsWhole) (arg3 : Memref sig .tc .vmem S1x4x64x1024 .i8) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S1x4x64x1024 .i8) (harg6 : arg6.IsWhole) (arg7 : Memref sig .tc .vmem S1x4x1024 .f32) (harg7 : arg7.IsWhole) (arg8 : Memref sig .tc .vmem S1x4x1024 .f32) (harg8 : arg8.IsWhole) (arg9 : Memref sig .tc .vmem S1x4x128x128 .bf16) (harg9 : arg9.IsWhole) (arg10 : Memref sig .tc .vmem S1x4x128x128 .bf16) (harg10 : arg10.IsWhole) (arg11 : Memref sig .tc .vmem S1x4x128x128 .bf16) (harg11 : arg11.IsWhole) (arg12 : Memref sig .tc .vmem S1x4x128x128 .bf16) (harg12 : arg12.IsWhole) (arg13 : Memref sig .tc .vmem S1x128x4096 .bf16) (harg13 : arg13.IsWhole) (arg14 : Memref sig .tc .vmem S1x4x64x128 .i8) (harg14 : arg14.IsWhole) (arg15 : Memref sig .tc .vmem S1x4x4x128 .f32) (harg15 : arg15.IsWhole) (arg16 : Memref sig .tc .vmem S1x4x4x128 .f32) (harg16 : arg16.IsWhole) (arg17 : Memref sig .tc .vmem S1x4x64x128 .i8) (harg17 : arg17.IsWhole) (arg18 : Memref sig .tc .vmem S1x4x128 .f32) (harg18 : arg18.IsWhole) (arg19 : Memref sig .tc .vmem S1x4x128 .f32) (harg19 : arg19.IsWhole) (arg20 : Memref sig .tc .vmem S128x128 .bf16) (harg20 : arg20.IsWhole) (arg21 : Memref sig .tc .vmem S128x4096 .bf16) (harg21 : arg21.IsWhole) (arg22 : Memref sig .tc .vmem S4x1024x128 .bf16) (harg22 : arg22.IsWhole) (arg23 : Memref sig .tc .vmem S4x128x1024 .bf16) (harg23 : arg23.IsWhole) (arg24 : Memref sig .tc .vmem S128x128 .f32) (harg24 : arg24.IsWhole) (arg25 : Memref sig .tc .vmem S128x128 .f32) (harg25 : arg25.IsWhole) (arg26 : Memref sig .tc .vmem S128x4096 .f32) (harg26 : arg26.IsWhole) (arg27 : Memref sig .tc .vmem S1x4096 .f32) (harg27 : arg27.IsWhole) (arg28 : Memref sig .tc .vmem S1x4096 .f32) (harg28 : arg28.IsWhole) (hc0 : cond0_0 i) (hc1 : cond0_1 i) (hc2 : ¬cond0_2 i) (hc3 : ¬cond0_3 i)
    (x0 : Vec F S1x128x4096 .bf16) (x1 : Vec F S1x4x64x1024 .i8) (x2 : Vec F S1x128x128 .f32) (x3 : Vec F S1x128x128 .f32) (x4 : Vec F S1x4x64x1024 .i8) (x5 : Vec F S1x4x1024 .f32) (x6 : Vec F S1x4x1024 .f32) (x7 : Vec F S1x4x128x128 .bf16) (x8 : Vec F S1x4x128x128 .bf16) (x9 : Vec F S1x4x128x128 .bf16) (x10 : Vec F S1x4x128x128 .bf16) :
    Σ' (L11 : List (View.Piece (Elt F) S1x128x4096 .bf16)), Σ' (L12 : List (View.Piece (Elt F) S1x4x64x128 .i8)), Σ' (L13 : List (View.Piece (Elt F) S1x4x4x128 .f32)), Σ' (L14 : List (View.Piece (Elt F) S1x4x4x128 .f32)), Σ' (L15 : List (View.Piece (Elt F) S1x4x64x128 .i8)), Σ' (L16 : List (View.Piece (Elt F) S1x4x128 .f32)), Σ' (L17 : List (View.Piece (Elt F) S1x4x128 .f32)), Σ' (LS0 : List (View.Piece (Elt F) S128x128 .bf16)), Σ' (LS1 : List (View.Piece (Elt F) S128x4096 .bf16)), Σ' (LS6 : List (View.Piece (Elt F) S128x4096 .f32)), Σ' (LS7 : List (View.Piece (Elt F) S1x4096 .f32)), Σ' (LS8 : List (View.Piece (Elt F) S1x4096 .f32)), Σ' (LT2 : List (View.Piece (Elt F) S4x1024x128 .bf16)), Σ' (LT3 : List (View.Piece (Elt F) S4x128x1024 .bf16)), Σ' (LT4 : List (View.Piece (Elt F) S128x128 .f32)), { LT5 : List (View.Piece (Elt F) S128x128 .f32) //
      ∀ (xi11 : Vec F S1x128x4096 .bf16) (xi12 : Vec F S1x4x64x128 .i8) (xi13 : Vec F S1x4x4x128 .f32) (xi14 : Vec F S1x4x4x128 .f32) (xi15 : Vec F S1x4x64x128 .i8) (xi16 : Vec F S1x4x128 .f32) (xi17 : Vec F S1x4x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ owns (c : Thread nD τ) arg14 fullShare xi12 ∗ owns (c : Thread nD τ) arg15 fullShare xi13 ∗ owns (c : Thread nD τ) arg16 fullShare xi14 ∗ owns (c : Thread nD τ) arg17 fullShare xi15 ∗ owns (c : Thread nD τ) arg18 fullShare xi16 ∗ owns (c : Thread nD τ) arg19 fullShare xi17 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ owns (c : Thread nD τ) arg14 fullShare xi12 ∗ owns (c : Thread nD τ) arg15 fullShare xi13 ∗ owns (c : Thread nD τ) arg16 fullShare xi14 ∗ owns (c : Thread nD τ) arg17 fullShare xi15 ∗ owns (c : Thread nD τ) arg18 fullShare xi16 ∗ owns (c : Thread nD τ) arg19 fullShare xi17 ∗ (∃ f, arg20.view.loc (c : Thread nD τ) ↦[arg20.view.set]{fullShare} arg20.view.writes (Elt F) f LS0) ∗ (∃ f, arg21.view.loc (c : Thread nD τ) ↦[arg21.view.set]{fullShare} arg21.view.writes (Elt F) f LS1) ∗ (∃ f, arg22.view.loc (c : Thread nD τ) ↦[arg22.view.set]{fullShare} arg22.view.writes (Elt F) f LT2) ∗ (∃ f, arg23.view.loc (c : Thread nD τ) ↦[arg23.view.set]{fullShare} arg23.view.writes (Elt F) f LT3) ∗ (∃ f, arg24.view.loc (c : Thread nD τ) ↦[arg24.view.set]{fullShare} arg24.view.writes (Elt F) f LT4) ∗ (∃ f, arg25.view.loc (c : Thread nD τ) ↦[arg25.view.set]{fullShare} arg25.view.writes (Elt F) f LT5) ∗ (∃ f, arg26.view.loc (c : Thread nD τ) ↦[arg26.view.set]{fullShare} arg26.view.writes (Elt F) f LS6) ∗ (∃ f, arg27.view.loc (c : Thread nD τ) ↦[arg27.view.set]{fullShare} arg27.view.writes (Elt F) f LS7) ∗ (∃ f, arg28.view.loc (c : Thread nD τ) ↦[arg28.view.set]{fullShare} arg28.view.writes (Elt F) f LS8)) -∗ K ⟨⟩))
          ⊢ wp frame (wpE (defs₀ (F := F)) Variants.none c none) E (cc0_kivi4_gqa_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨[], [], [], [], [], [], [], ?_, ?_, ?_, ?_, ?_, ?_, ?_, ?_, ?_, fun xi11 xi12 xi13 xi14 xi15 xi16 xi17 E K => ?run⟩
  case run =>
    simp only [cc0_kivi4_gqa_attention_eq_skeleton]; unfold cc0_kivi4_gqa_attention_skel
    simp only [k0_part146_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part60_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    iexists _; iexact HS8

end Cert.Kernel.Body

end
-- ==== Proof.K.RunB.lean ====
/-
  The kernel's body run whole in case B: a point in the middle of a batch row.
-/
module

public import proofs.«01_k».proof.Proof.K.Base

@[expose] public section

-- membership in a rectangle of production extents (`View.cover_of_tiled`): the elaborator's structural look
-- recurses once per coordinate of the long axes
set_option maxRecDepth 16384

noncomputable section

namespace Cert.Kernel.Body

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 4336000 in
/-- The pieces the body's stores leave in each buffer in case B (last first), with the proof that from the inputs' buffers at `x·`, the
    scratch the body reads before writing at `xs·` and everything else at anything, the body runs to the same inputs and those pieces written. -/
noncomputable def run_B (c : Dev nD) (i : grid0.Coords) (arg2 : Memref sig .tc .vmem S1x128x4096 .bf16) (harg2 : arg2.IsWhole) (arg3 : Memref sig .tc .vmem S1x4x64x1024 .i8) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S1x4x64x1024 .i8) (harg6 : arg6.IsWhole) (arg7 : Memref sig .tc .vmem S1x4x1024 .f32) (harg7 : arg7.IsWhole) (arg8 : Memref sig .tc .vmem S1x4x1024 .f32) (harg8 : arg8.IsWhole) (arg9 : Memref sig .tc .vmem S1x4x128x128 .bf16) (harg9 : arg9.IsWhole) (arg10 : Memref sig .tc .vmem S1x4x128x128 .bf16) (harg10 : arg10.IsWhole) (arg11 : Memref sig .tc .vmem S1x4x128x128 .bf16) (harg11 : arg11.IsWhole) (arg12 : Memref sig .tc .vmem S1x4x128x128 .bf16) (harg12 : arg12.IsWhole) (arg13 : Memref sig .tc .vmem S1x128x4096 .bf16) (harg13 : arg13.IsWhole) (arg14 : Memref sig .tc .vmem S1x4x64x128 .i8) (harg14 : arg14.IsWhole) (arg15 : Memref sig .tc .vmem S1x4x4x128 .f32) (harg15 : arg15.IsWhole) (arg16 : Memref sig .tc .vmem S1x4x4x128 .f32) (harg16 : arg16.IsWhole) (arg17 : Memref sig .tc .vmem S1x4x64x128 .i8) (harg17 : arg17.IsWhole) (arg18 : Memref sig .tc .vmem S1x4x128 .f32) (harg18 : arg18.IsWhole) (arg19 : Memref sig .tc .vmem S1x4x128 .f32) (harg19 : arg19.IsWhole) (arg20 : Memref sig .tc .vmem S128x128 .bf16) (harg20 : arg20.IsWhole) (arg21 : Memref sig .tc .vmem S128x4096 .bf16) (harg21 : arg21.IsWhole) (arg22 : Memref sig .tc .vmem S4x1024x128 .bf16) (harg22 : arg22.IsWhole) (arg23 : Memref sig .tc .vmem S4x128x1024 .bf16) (harg23 : arg23.IsWhole) (arg24 : Memref sig .tc .vmem S128x128 .f32) (harg24 : arg24.IsWhole) (arg25 : Memref sig .tc .vmem S128x128 .f32) (harg25 : arg25.IsWhole) (arg26 : Memref sig .tc .vmem S128x4096 .f32) (harg26 : arg26.IsWhole) (arg27 : Memref sig .tc .vmem S1x4096 .f32) (harg27 : arg27.IsWhole) (arg28 : Memref sig .tc .vmem S1x4096 .f32) (harg28 : arg28.IsWhole) (hc0 : ¬cond0_0 i) (hc1 : cond0_1 i) (hc2 : ¬cond0_2 i) (hc3 : ¬cond0_3 i)
    (x0 : Vec F S1x128x4096 .bf16) (x1 : Vec F S1x4x64x1024 .i8) (x2 : Vec F S1x128x128 .f32) (x3 : Vec F S1x128x128 .f32) (x4 : Vec F S1x4x64x1024 .i8) (x5 : Vec F S1x4x1024 .f32) (x6 : Vec F S1x4x1024 .f32) (x7 : Vec F S1x4x128x128 .bf16) (x8 : Vec F S1x4x128x128 .bf16) (x9 : Vec F S1x4x128x128 .bf16) (x10 : Vec F S1x4x128x128 .bf16) (xs0 : Vec F S128x128 .bf16) (xs1 : Vec F S128x4096 .bf16) (xs6 : Vec F S128x4096 .f32) (xs7 : Vec F S1x4096 .f32) (xs8 : Vec F S1x4096 .f32) :
    Σ' (L11 : List (View.Piece (Elt F) S1x128x4096 .bf16)), Σ' (L12 : List (View.Piece (Elt F) S1x4x64x128 .i8)), Σ' (L13 : List (View.Piece (Elt F) S1x4x4x128 .f32)), Σ' (L14 : List (View.Piece (Elt F) S1x4x4x128 .f32)), Σ' (L15 : List (View.Piece (Elt F) S1x4x64x128 .i8)), Σ' (L16 : List (View.Piece (Elt F) S1x4x128 .f32)), Σ' (L17 : List (View.Piece (Elt F) S1x4x128 .f32)), Σ' (LS0 : List (View.Piece (Elt F) S128x128 .bf16)), Σ' (LS1 : List (View.Piece (Elt F) S128x4096 .bf16)), Σ' (LS6 : List (View.Piece (Elt F) S128x4096 .f32)), Σ' (LS7 : List (View.Piece (Elt F) S1x4096 .f32)), Σ' (LS8 : List (View.Piece (Elt F) S1x4096 .f32)), Σ' (LT2 : List (View.Piece (Elt F) S4x1024x128 .bf16)), Σ' (LT3 : List (View.Piece (Elt F) S4x128x1024 .bf16)), Σ' (LT4 : List (View.Piece (Elt F) S128x128 .f32)), { LT5 : List (View.Piece (Elt F) S128x128 .f32) //
      ∀ (xi11 : Vec F S1x128x4096 .bf16) (xi12 : Vec F S1x4x64x128 .i8) (xi13 : Vec F S1x4x4x128 .f32) (xi14 : Vec F S1x4x4x128 .f32) (xi15 : Vec F S1x4x64x128 .i8) (xi16 : Vec F S1x4x128 .f32) (xi17 : Vec F S1x4x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ owns (c : Thread nD τ) arg14 fullShare xi12 ∗ owns (c : Thread nD τ) arg15 fullShare xi13 ∗ owns (c : Thread nD τ) arg16 fullShare xi14 ∗ owns (c : Thread nD τ) arg17 fullShare xi15 ∗ owns (c : Thread nD τ) arg18 fullShare xi16 ∗ owns (c : Thread nD τ) arg19 fullShare xi17 ∗ owns (c : Thread nD τ) arg20 fullShare xs0 ∗ owns (c : Thread nD τ) arg21 fullShare xs1 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ owns (c : Thread nD τ) arg26 fullShare xs6 ∗ owns (c : Thread nD τ) arg27 fullShare xs7 ∗ owns (c : Thread nD τ) arg28 fullShare xs8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ owns (c : Thread nD τ) arg14 fullShare xi12 ∗ owns (c : Thread nD τ) arg15 fullShare xi13 ∗ owns (c : Thread nD τ) arg16 fullShare xi14 ∗ owns (c : Thread nD τ) arg17 fullShare xi15 ∗ owns (c : Thread nD τ) arg18 fullShare xi16 ∗ owns (c : Thread nD τ) arg19 fullShare xi17 ∗ owns (c : Thread nD τ) arg20 fullShare xs0 ∗ owns (c : Thread nD τ) arg21 fullShare xs1 ∗ (∃ f, arg22.view.loc (c : Thread nD τ) ↦[arg22.view.set]{fullShare} arg22.view.writes (Elt F) f LT2) ∗ (∃ f, arg23.view.loc (c : Thread nD τ) ↦[arg23.view.set]{fullShare} arg23.view.writes (Elt F) f LT3) ∗ (∃ f, arg24.view.loc (c : Thread nD τ) ↦[arg24.view.set]{fullShare} arg24.view.writes (Elt F) f LT4) ∗ (∃ f, arg25.view.loc (c : Thread nD τ) ↦[arg25.view.set]{fullShare} arg25.view.writes (Elt F) f LT5) ∗ (∃ f, arg26.view.loc (c : Thread nD τ) ↦[arg26.view.set]{fullShare} arg26.view.writes (Elt F) f LS6) ∗ (∃ f, arg27.view.loc (c : Thread nD τ) ↦[arg27.view.set]{fullShare} arg27.view.writes (Elt F) f LS7) ∗ (∃ f, arg28.view.loc (c : Thread nD τ) ↦[arg28.view.set]{fullShare} arg28.view.writes (Elt F) f LS8)) -∗ K ⟨⟩))
          ⊢ wp frame (wpE (defs₀ (F := F)) Variants.none c none) E (cc0_kivi4_gqa_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨[], [], [], [], [], [], [], [], [], ?_, ?_, ?_, ?_, ?_, ?_, ?_, fun xi11 xi12 xi13 xi14 xi15 xi16 xi17 E K => ?run⟩
  case run =>
    simp only [cc0_kivi4_gqa_attention_eq_skeleton]; unfold cc0_kivi4_gqa_attention_skel
    simp only [k0_part146_eq_skeleton, k0_part60_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%fs0, %hfs0, HS0⟩, ⟨%fs1, %hfs1, HS1⟩, ⟨%ds2, %fs2, -, HS2⟩, ⟨%ds3, %fs3, -, HS3⟩, ⟨%ds4, %fs4, -, HS4⟩, ⟨%ds5, %fs5, -, HS5⟩, ⟨%fs6, %hfs6, HS6⟩, ⟨%fs7, %hfs7, HS7⟩, ⟨%fs8, %hfs8, HS8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hfs0; obtain rfl := harg21.eq_unread hfs1; obtain rfl := harg26.eq_unread hfs6; obtain rfl := harg27.eq_unread hfs7; obtain rfl := harg28.eq_unread hfs8
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [HS0]
    · iexists _; isplitr; · ipureintro; exact harg20.read_unread _
      iexact HS0
    isplitl [HS1]
    · iexists _; isplitr; · ipureintro; exact harg21.read_unread _
      iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    iexists _; iexact HS8

end Cert.Kernel.Body

end
-- ==== Proof.K.RunC.lean ====
/-
  The kernel's body run whole in case C: the last point of a batch row.
-/
module

public import proofs.«01_k».proof.Proof.K.Base

@[expose] public section

-- membership in a rectangle of production extents (`View.cover_of_tiled`): the elaborator's structural look
-- recurses once per coordinate of the long axes
set_option maxRecDepth 16384

noncomputable section

namespace Cert.Kernel.Body

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 6404000 in
/-- The pieces the body's stores leave in each buffer in case C (last first), with the proof that from the inputs' buffers at `x·`, the
    scratch the body reads before writing at `xs·` and everything else at anything, the body runs to the same inputs and those pieces written. -/
noncomputable def run_C (c : Dev nD) (i : grid0.Coords) (arg2 : Memref sig .tc .vmem S1x128x4096 .bf16) (harg2 : arg2.IsWhole) (arg3 : Memref sig .tc .vmem S1x4x64x1024 .i8) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S1x4x64x1024 .i8) (harg6 : arg6.IsWhole) (arg7 : Memref sig .tc .vmem S1x4x1024 .f32) (harg7 : arg7.IsWhole) (arg8 : Memref sig .tc .vmem S1x4x1024 .f32) (harg8 : arg8.IsWhole) (arg9 : Memref sig .tc .vmem S1x4x128x128 .bf16) (harg9 : arg9.IsWhole) (arg10 : Memref sig .tc .vmem S1x4x128x128 .bf16) (harg10 : arg10.IsWhole) (arg11 : Memref sig .tc .vmem S1x4x128x128 .bf16) (harg11 : arg11.IsWhole) (arg12 : Memref sig .tc .vmem S1x4x128x128 .bf16) (harg12 : arg12.IsWhole) (arg13 : Memref sig .tc .vmem S1x128x4096 .bf16) (harg13 : arg13.IsWhole) (arg14 : Memref sig .tc .vmem S1x4x64x128 .i8) (harg14 : arg14.IsWhole) (arg15 : Memref sig .tc .vmem S1x4x4x128 .f32) (harg15 : arg15.IsWhole) (arg16 : Memref sig .tc .vmem S1x4x4x128 .f32) (harg16 : arg16.IsWhole) (arg17 : Memref sig .tc .vmem S1x4x64x128 .i8) (harg17 : arg17.IsWhole) (arg18 : Memref sig .tc .vmem S1x4x128 .f32) (harg18 : arg18.IsWhole) (arg19 : Memref sig .tc .vmem S1x4x128 .f32) (harg19 : arg19.IsWhole) (arg20 : Memref sig .tc .vmem S128x128 .bf16) (harg20 : arg20.IsWhole) (arg21 : Memref sig .tc .vmem S128x4096 .bf16) (harg21 : arg21.IsWhole) (arg22 : Memref sig .tc .vmem S4x1024x128 .bf16) (harg22 : arg22.IsWhole) (arg23 : Memref sig .tc .vmem S4x128x1024 .bf16) (harg23 : arg23.IsWhole) (arg24 : Memref sig .tc .vmem S128x128 .f32) (harg24 : arg24.IsWhole) (arg25 : Memref sig .tc .vmem S128x128 .f32) (harg25 : arg25.IsWhole) (arg26 : Memref sig .tc .vmem S128x4096 .f32) (harg26 : arg26.IsWhole) (arg27 : Memref sig .tc .vmem S1x4096 .f32) (harg27 : arg27.IsWhole) (arg28 : Memref sig .tc .vmem S1x4096 .f32) (harg28 : arg28.IsWhole) (hc0 : ¬cond0_0 i) (hc1 : ¬cond0_1 i) (hc2 : cond0_2 i) (hc3 : cond0_3 i)
    (x0 : Vec F S1x128x4096 .bf16) (x1 : Vec F S1x4x64x1024 .i8) (x2 : Vec F S1x128x128 .f32) (x3 : Vec F S1x128x128 .f32) (x4 : Vec F S1x4x64x1024 .i8) (x5 : Vec F S1x4x1024 .f32) (x6 : Vec F S1x4x1024 .f32) (x7 : Vec F S1x4x128x128 .bf16) (x8 : Vec F S1x4x128x128 .bf16) (x9 : Vec F S1x4x128x128 .bf16) (x10 : Vec F S1x4x128x128 .bf16) (xs0 : Vec F S128x128 .bf16) (xs1 : Vec F S128x4096 .bf16) (xs6 : Vec F S128x4096 .f32) (xs7 : Vec F S1x4096 .f32) (xs8 : Vec F S1x4096 .f32) :
    Σ' (L11 : List (View.Piece (Elt F) S1x128x4096 .bf16)), Σ' (L12 : List (View.Piece (Elt F) S1x4x64x128 .i8)), Σ' (L13 : List (View.Piece (Elt F) S1x4x4x128 .f32)), Σ' (L14 : List (View.Piece (Elt F) S1x4x4x128 .f32)), Σ' (L15 : List (View.Piece (Elt F) S1x4x64x128 .i8)), Σ' (L16 : List (View.Piece (Elt F) S1x4x128 .f32)), Σ' (L17 : List (View.Piece (Elt F) S1x4x128 .f32)), Σ' (LS0 : List (View.Piece (Elt F) S128x128 .bf16)), Σ' (LS1 : List (View.Piece (Elt F) S128x4096 .bf16)), Σ' (LS6 : List (View.Piece (Elt F) S128x4096 .f32)), Σ' (LS7 : List (View.Piece (Elt F) S1x4096 .f32)), Σ' (LS8 : List (View.Piece (Elt F) S1x4096 .f32)), Σ' (LT2 : List (View.Piece (Elt F) S4x1024x128 .bf16)), Σ' (LT3 : List (View.Piece (Elt F) S4x128x1024 .bf16)), Σ' (LT4 : List (View.Piece (Elt F) S128x128 .f32)), { LT5 : List (View.Piece (Elt F) S128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare xs0 ∗ owns (c : Thread nD τ) arg21 fullShare xs1 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ owns (c : Thread nD τ) arg26 fullShare xs6 ∗ owns (c : Thread nD τ) arg27 fullShare xs7 ∗ owns (c : Thread nD τ) arg28 fullShare xs8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ owns (c : Thread nD τ) arg20 fullShare xs0 ∗ owns (c : Thread nD τ) arg21 fullShare xs1 ∗ (∃ f, arg22.view.loc (c : Thread nD τ) ↦[arg22.view.set]{fullShare} arg22.view.writes (Elt F) f LT2) ∗ (∃ f, arg23.view.loc (c : Thread nD τ) ↦[arg23.view.set]{fullShare} arg23.view.writes (Elt F) f LT3) ∗ (∃ f, arg24.view.loc (c : Thread nD τ) ↦[arg24.view.set]{fullShare} arg24.view.writes (Elt F) f LT4) ∗ (∃ f, arg25.view.loc (c : Thread nD τ) ↦[arg25.view.set]{fullShare} arg25.view.writes (Elt F) f LT5) ∗ (∃ f, arg26.view.loc (c : Thread nD τ) ↦[arg26.view.set]{fullShare} arg26.view.writes (Elt F) f LS6) ∗ (∃ f, arg27.view.loc (c : Thread nD τ) ↦[arg27.view.set]{fullShare} arg27.view.writes (Elt F) f LS7) ∗ (∃ f, arg28.view.loc (c : Thread nD τ) ↦[arg28.view.set]{fullShare} arg28.view.writes (Elt F) f LS8)) -∗ K ⟨⟩))
          ⊢ wp frame (wpE (defs₀ (F := F)) Variants.none c none) E (cc0_kivi4_gqa_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, ?_, ?_, ?_, ?_, ?_, ?_, [], [], ?_, ?_, ?_, ?_, ?_, ?_, ?_, fun E K => ?run⟩
  case run =>
    simp only [cc0_kivi4_gqa_attention_eq_skeleton]; unfold cc0_kivi4_gqa_attention_skel
    simp only [k0_part146_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part145_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%fs0, %hfs0, HS0⟩, ⟨%fs1, %hfs1, HS1⟩, ⟨%ds2, %fs2, -, HS2⟩, ⟨%ds3, %fs3, -, HS3⟩, ⟨%ds4, %fs4, -, HS4⟩, ⟨%ds5, %fs5, -, HS5⟩, ⟨%fs6, %hfs6, HS6⟩, ⟨%fs7, %hfs7, HS7⟩, ⟨%fs8, %hfs8, HS8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg20.eq_unread hfs0; obtain rfl := harg21.eq_unread hfs1; obtain rfl := harg26.eq_unread hfs6; obtain rfl := harg27.eq_unread hfs7; obtain rfl := harg28.eq_unread hfs8
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [HS0]
    · iexists _; isplitr; · ipureintro; exact harg20.read_unread _
      iexact HS0
    isplitl [HS1]
    · iexists _; isplitr; · ipureintro; exact harg21.read_unread _
      iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    iexists _; iexact HS8

end Cert.Kernel.Body

end
-- ==== Proof.K.Body.lean ====
/-
  The three runs of the kernel's body at a grid point, on the pipeline's own staging buffers, with what each leaves in the
  scratch carried to the next point and in the output buffers named.
-/
module

public import proofs.«01_k».proof.Proof.K.RunA
public import proofs.«01_k».proof.Proof.K.RunB
public import proofs.«01_k».proof.Proof.K.RunC

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-- The contents of the eleven input buffers at one grid point. -/
structure Ins (F : FTy → Type) where
  x0 : Vec F S1x128x4096 .bf16
  x1 : Vec F S1x4x64x1024 .i8
  x2 : Vec F S1x128x128 .f32
  x3 : Vec F S1x128x128 .f32
  x4 : Vec F S1x4x64x1024 .i8
  x5 : Vec F S1x4x1024 .f32
  x6 : Vec F S1x4x1024 .f32
  x7 : Vec F S1x4x128x128 .bf16
  x8 : Vec F S1x4x128x128 .bf16
  x9 : Vec F S1x4x128x128 .bf16
  x10 : Vec F S1x4x128x128 .bf16

/-- The contents of the five scratch buffers carried from point to point: the permutation matrix, the permuted queries,
    the accumulator, the running maximum and the running sum. -/
structure Scr (F : FTy → Type) where
  s0 : Vec F S128x128 .bf16
  s1 : Vec F S128x4096 .bf16
  s6 : Vec F S128x4096 .f32
  s7 : Vec F S1x4096 .f32
  s8 : Vec F S1x4096 .f32

/-- The body's run at the first point of a batch row. -/
abbrev rA (c : Dev nD) (t : Fin cfg0.N) (h : t.val % 16 = 0) (x : Ins F) :=
  run_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h) ((hcond0_1 t).mpr (by omega)) (fun h' => by have := (hcond0_2 t).mp h'; omega) (fun h' => by have := (hcond0_3 t).mp h'; omega) x.x0 x.x1 x.x2 x.x3 x.x4 x.x5 x.x6 x.x7 x.x8 x.x9 x.x10

/-- The pieces it writes to scratch 0 cover it. -/
theorem coverA_s0 (c : Dev nD) (t : Fin cfg0.N) (h : t.val % 16 = 0) (x : Ins F) (y : S128x128.Idx) : ∃ pc ∈ (rA c t h x).2.2.2.2.2.2.2.1, y ∈ pc.1.set :=
  View.cover_of_tiledL (rA c t h x).2.2.2.2.2.2.2.1 S128x128.size (by sl_kernel_rfl) y

/-- The pieces it writes to scratch 1 cover it. -/
theorem coverA_s1 (c : Dev nD) (t : Fin cfg0.N) (h : t.val % 16 = 0) (x : Ins F) (y : S128x4096.Idx) : ∃ pc ∈ (rA c t h x).2.2.2.2.2.2.2.2.1, y ∈ pc.1.set :=
  View.cover_of_tiledL (rA c t h x).2.2.2.2.2.2.2.2.1 S128x128.size (by sl_kernel_rfl) y

/-- The pieces it writes to scratch 6 cover it. -/
theorem coverA_s6 (c : Dev nD) (t : Fin cfg0.N) (h : t.val % 16 = 0) (x : Ins F) (y : S128x4096.Idx) : ∃ pc ∈ (rA c t h x).2.2.2.2.2.2.2.2.2.1, y ∈ pc.1.set :=
  View.cover_of_wholeMem (rA c t h x).2.2.2.2.2.2.2.2.2.1 (by sl_whole_mem) y

/-- The pieces it writes to scratch 7 cover it. -/
theorem coverA_s7 (c : Dev nD) (t : Fin cfg0.N) (h : t.val % 16 = 0) (x : Ins F) (y : S1x4096.Idx) : ∃ pc ∈ (rA c t h x).2.2.2.2.2.2.2.2.2.2.1, y ∈ pc.1.set :=
  View.cover_of_wholeMem (rA c t h x).2.2.2.2.2.2.2.2.2.2.1 (by sl_whole_mem) y

/-- The pieces it writes to scratch 8 cover it. -/
theorem coverA_s8 (c : Dev nD) (t : Fin cfg0.N) (h : t.val % 16 = 0) (x : Ins F) (y : S1x4096.Idx) : ∃ pc ∈ (rA c t h x).2.2.2.2.2.2.2.2.2.2.2.1, y ∈ pc.1.set :=
  View.cover_of_wholeMem (rA c t h x).2.2.2.2.2.2.2.2.2.2.2.1 (by sl_whole_mem) y

/-- The carried scratch after it. -/
def afterA (c : Dev nD) (t : Fin cfg0.N) (h : t.val % 16 = 0) (x : Ins F) : Scr F where
  s0 := VS0_0.read (Elt F) (VS0_0.writes (Elt F) VS0_0.junk (rA c t h x).2.2.2.2.2.2.2.1)
  s1 := VS0_1.read (Elt F) (VS0_1.writes (Elt F) VS0_1.junk (rA c t h x).2.2.2.2.2.2.2.2.1)
  s6 := VS0_6.read (Elt F) (VS0_6.writes (Elt F) VS0_6.junk (rA c t h x).2.2.2.2.2.2.2.2.2.1)
  s7 := VS0_7.read (Elt F) (VS0_7.writes (Elt F) VS0_7.junk (rA c t h x).2.2.2.2.2.2.2.2.2.2.1)
  s8 := VS0_8.read (Elt F) (VS0_8.writes (Elt F) VS0_8.junk (rA c t h x).2.2.2.2.2.2.2.2.2.2.2.1)

/-- The body's run at a point in the middle of a batch row. -/
abbrev rB (c : Dev nD) (t : Fin cfg0.N) (h : t.val % 16 ≠ 0 ∧ t.val % 16 ≠ 15) (x : Ins F) (s : Scr F) :=
  run_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h' => by have := (hcond0_0 t).mp h'; omega) ((hcond0_1 t).mpr (by omega)) (fun h' => by have := (hcond0_2 t).mp h'; omega) (fun h' => by have := (hcond0_3 t).mp h'; omega) x.x0 x.x1 x.x2 x.x3 x.x4 x.x5 x.x6 x.x7 x.x8 x.x9 x.x10 s.s0 s.s1 s.s6 s.s7 s.s8

/-- The pieces it writes to scratch 6 cover it. -/
theorem coverB_s6 (c : Dev nD) (t : Fin cfg0.N) (h : t.val % 16 ≠ 0 ∧ t.val % 16 ≠ 15) (x : Ins F) (s : Scr F) (y : S128x4096.Idx) : ∃ pc ∈ (rB c t h x s).2.2.2.2.2.2.2.2.2.1, y ∈ pc.1.set :=
  View.cover_of_tiledL (rB c t h x s).2.2.2.2.2.2.2.2.2.1 S128x256.size (by sl_kernel_rfl) y

/-- The pieces it writes to scratch 7 cover it. -/
theorem coverB_s7 (c : Dev nD) (t : Fin cfg0.N) (h : t.val % 16 ≠ 0 ∧ t.val % 16 ≠ 15) (x : Ins F) (s : Scr F) (y : S1x4096.Idx) : ∃ pc ∈ (rB c t h x s).2.2.2.2.2.2.2.2.2.2.1, y ∈ pc.1.set :=
  View.cover_of_tiledL (rB c t h x s).2.2.2.2.2.2.2.2.2.2.1 S1x256.size (by sl_kernel_rfl) y

/-- The pieces it writes to scratch 8 cover it. -/
theorem coverB_s8 (c : Dev nD) (t : Fin cfg0.N) (h : t.val % 16 ≠ 0 ∧ t.val % 16 ≠ 15) (x : Ins F) (s : Scr F) (y : S1x4096.Idx) : ∃ pc ∈ (rB c t h x s).2.2.2.2.2.2.2.2.2.2.2.1, y ∈ pc.1.set :=
  View.cover_of_tiledL (rB c t h x s).2.2.2.2.2.2.2.2.2.2.2.1 S1x256.size (by sl_kernel_rfl) y

/-- The carried scratch after it. -/
def afterB (c : Dev nD) (t : Fin cfg0.N) (h : t.val % 16 ≠ 0 ∧ t.val % 16 ≠ 15) (x : Ins F) (s : Scr F) : Scr F where
  s0 := s.s0
  s1 := s.s1
  s6 := VS0_6.read (Elt F) (VS0_6.writes (Elt F) VS0_6.junk (rB c t h x s).2.2.2.2.2.2.2.2.2.1)
  s7 := VS0_7.read (Elt F) (VS0_7.writes (Elt F) VS0_7.junk (rB c t h x s).2.2.2.2.2.2.2.2.2.2.1)
  s8 := VS0_8.read (Elt F) (VS0_8.writes (Elt F) VS0_8.junk (rB c t h x s).2.2.2.2.2.2.2.2.2.2.2.1)

/-- The body's run at the last point of a batch row. -/
abbrev rC (c : Dev nD) (t : Fin cfg0.N) (h : t.val % 16 = 15) (x : Ins F) (s : Scr F) :=
  run_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h' => by have := (hcond0_0 t).mp h'; omega) (fun h' => by have := (hcond0_1 t).mp h'; omega) ((hcond0_2 t).mpr h) ((hcond0_3 t).mpr h) x.x0 x.x1 x.x2 x.x3 x.x4 x.x5 x.x6 x.x7 x.x8 x.x9 x.x10 s.s0 s.s1 s.s6 s.s7 s.s8

/-- The pieces it writes to scratch 6 cover it. -/
theorem coverC_s6 (c : Dev nD) (t : Fin cfg0.N) (h : t.val % 16 = 15) (x : Ins F) (s : Scr F) (y : S128x4096.Idx) : ∃ pc ∈ (rC c t h x s).2.2.2.2.2.2.2.2.2.1, y ∈ pc.1.set :=
  View.cover_of_tiledL (rC c t h x s).2.2.2.2.2.2.2.2.2.1 S128x256.size (by sl_kernel_rfl) y

/-- The pieces it writes to scratch 7 cover it. -/
theorem coverC_s7 (c : Dev nD) (t : Fin cfg0.N) (h : t.val % 16 = 15) (x : Ins F) (s : Scr F) (y : S1x4096.Idx) : ∃ pc ∈ (rC c t h x s).2.2.2.2.2.2.2.2.2.2.1, y ∈ pc.1.set :=
  View.cover_of_tiledL (rC c t h x s).2.2.2.2.2.2.2.2.2.2.1 S1x256.size (by sl_kernel_rfl) y

/-- The pieces it writes to scratch 8 cover it. -/
theorem coverC_s8 (c : Dev nD) (t : Fin cfg0.N) (h : t.val % 16 = 15) (x : Ins F) (s : Scr F) (y : S1x4096.Idx) : ∃ pc ∈ (rC c t h x s).2.2.2.2.2.2.2.2.2.2.2.1, y ∈ pc.1.set :=
  View.cover_of_tiledL (rC c t h x s).2.2.2.2.2.2.2.2.2.2.2.1 S1x256.size (by sl_kernel_rfl) y

/-- The pieces it writes to output 11 cover it. -/
theorem coverC_o11 (c : Dev nD) (t : Fin cfg0.N) (h : t.val % 16 = 15) (x : Ins F) (s : Scr F) (y : S1x128x4096.Idx) : ∃ pc ∈ (rC c t h x s).1, y ∈ pc.1.set :=
  View.cover_of_tiledL (rC c t h x s).1 S1x128x128.size (by sl_kernel_rfl) y

/-- What it leaves in output 11. -/
def outC_11 (c : Dev nD) (t : Fin cfg0.N) (h : t.val % 16 = 15) (x : Ins F) (s : Scr F) : Vec F S1x128x4096 .bf16 :=
  (ms0_11 t).view.read (Elt F) ((ms0_11 t).view.writes (Elt F) (ms0_11 t).view.junk (rC c t h x s).1)

/-- The pieces it writes to output 12 cover it. -/
theorem coverC_o12 (c : Dev nD) (t : Fin cfg0.N) (h : t.val % 16 = 15) (x : Ins F) (s : Scr F) (y : S1x4x64x128.Idx) : ∃ pc ∈ (rC c t h x s).2.1, y ∈ pc.1.set :=
  View.cover_of_tiledL (rC c t h x s).2.1 S1x1x64x128.size (by sl_kernel_rfl) y

/-- What it leaves in output 12. -/
def outC_12 (c : Dev nD) (t : Fin cfg0.N) (h : t.val % 16 = 15) (x : Ins F) (s : Scr F) : Vec F S1x4x64x128 .i8 :=
  (ms0_12 t).view.read (Elt F) ((ms0_12 t).view.writes (Elt F) (ms0_12 t).view.junk (rC c t h x s).2.1)

/-- The pieces it writes to output 13 cover it. -/
theorem coverC_o13 (c : Dev nD) (t : Fin cfg0.N) (h : t.val % 16 = 15) (x : Ins F) (s : Scr F) (y : S1x4x4x128.Idx) : ∃ pc ∈ (rC c t h x s).2.2.1, y ∈ pc.1.set :=
  View.cover_of_tiledL (rC c t h x s).2.2.1 S1x1x4x128.size (by sl_kernel_rfl) y

/-- What it leaves in output 13. -/
def outC_13 (c : Dev nD) (t : Fin cfg0.N) (h : t.val % 16 = 15) (x : Ins F) (s : Scr F) : Vec F S1x4x4x128 .f32 :=
  (ms0_13 t).view.read (Elt F) ((ms0_13 t).view.writes (Elt F) (ms0_13 t).view.junk (rC c t h x s).2.2.1)

/-- The pieces it writes to output 14 cover it. -/
theorem coverC_o14 (c : Dev nD) (t : Fin cfg0.N) (h : t.val % 16 = 15) (x : Ins F) (s : Scr F) (y : S1x4x4x128.Idx) : ∃ pc ∈ (rC c t h x s).2.2.2.1, y ∈ pc.1.set :=
  View.cover_of_tiledL (rC c t h x s).2.2.2.1 S1x1x4x128.size (by sl_kernel_rfl) y

/-- What it leaves in output 14. -/
def outC_14 (c : Dev nD) (t : Fin cfg0.N) (h : t.val % 16 = 15) (x : Ins F) (s : Scr F) : Vec F S1x4x4x128 .f32 :=
  (ms0_14 t).view.read (Elt F) ((ms0_14 t).view.writes (Elt F) (ms0_14 t).view.junk (rC c t h x s).2.2.2.1)

/-- The pieces it writes to output 15 cover it. -/
theorem coverC_o15 (c : Dev nD) (t : Fin cfg0.N) (h : t.val % 16 = 15) (x : Ins F) (s : Scr F) (y : S1x4x64x128.Idx) : ∃ pc ∈ (rC c t h x s).2.2.2.2.1, y ∈ pc.1.set :=
  View.cover_of_tiledL (rC c t h x s).2.2.2.2.1 S1x1x64x128.size (by sl_kernel_rfl) y

/-- What it leaves in output 15. -/
def outC_15 (c : Dev nD) (t : Fin cfg0.N) (h : t.val % 16 = 15) (x : Ins F) (s : Scr F) : Vec F S1x4x64x128 .i8 :=
  (ms0_15 t).view.read (Elt F) ((ms0_15 t).view.writes (Elt F) (ms0_15 t).view.junk (rC c t h x s).2.2.2.2.1)

/-- The pieces it writes to output 16 cover it. -/
theorem coverC_o16 (c : Dev nD) (t : Fin cfg0.N) (h : t.val % 16 = 15) (x : Ins F) (s : Scr F) (y : S1x4x128.Idx) : ∃ pc ∈ (rC c t h x s).2.2.2.2.2.1, y ∈ pc.1.set :=
  View.cover_of_tiledL (rC c t h x s).2.2.2.2.2.1 S1x1x128.size (by sl_kernel_rfl) y

/-- What it leaves in output 16. -/
def outC_16 (c : Dev nD) (t : Fin cfg0.N) (h : t.val % 16 = 15) (x : Ins F) (s : Scr F) : Vec F S1x4x128 .f32 :=
  (ms0_16 t).view.read (Elt F) ((ms0_16 t).view.writes (Elt F) (ms0_16 t).view.junk (rC c t h x s).2.2.2.2.2.1)

/-- The pieces it writes to output 17 cover it. -/
theorem coverC_o17 (c : Dev nD) (t : Fin cfg0.N) (h : t.val % 16 = 15) (x : Ins F) (s : Scr F) (y : S1x4x128.Idx) : ∃ pc ∈ (rC c t h x s).2.2.2.2.2.2.1, y ∈ pc.1.set :=
  View.cover_of_tiledL (rC c t h x s).2.2.2.2.2.2.1 S1x1x128.size (by sl_kernel_rfl) y

/-- What it leaves in output 17. -/
def outC_17 (c : Dev nD) (t : Fin cfg0.N) (h : t.val % 16 = 15) (x : Ins F) (s : Scr F) : Vec F S1x4x128 .f32 :=
  (ms0_17 t).view.read (Elt F) ((ms0_17 t).view.writes (Elt F) (ms0_17 t).view.junk (rC c t h x s).2.2.2.2.2.2.1)

/-- The carried scratch after it. -/
def afterC (c : Dev nD) (t : Fin cfg0.N) (h : t.val % 16 = 15) (x : Ins F) (s : Scr F) : Scr F where
  s0 := s.s0
  s1 := s.s1
  s6 := VS0_6.read (Elt F) (VS0_6.writes (Elt F) VS0_6.junk (rC c t h x s).2.2.2.2.2.2.2.2.2.1)
  s7 := VS0_7.read (Elt F) (VS0_7.writes (Elt F) VS0_7.junk (rC c t h x s).2.2.2.2.2.2.2.2.2.2.1)
  s8 := VS0_8.read (Elt F) (VS0_8.writes (Elt F) VS0_8.junk (rC c t h x s).2.2.2.2.2.2.2.2.2.2.2.1)

end Cert.Kernel.Body

end
-- ==== Proof.K.Frame.lean ====
/-
  The frame of the kernel's launch, over relational proof data: a certificate states what the carried scratch satisfies
  before each point (`Track.Inv`) and what each output buffer satisfies where it is written back (`Track.O·`), proves that the
  three runs of the body keep it (`Steps`), and gets the run. At the trivial tracking this is the frame claim.
-/
module

public import proofs.«01_k».proof.Proof.K.Body
public import Idealize.ShloMosaic.Lib.Pipeline.Frame
public import Idealize.ShloMosaic.Lib.Quiescent

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What is tracked: of the carried scratch before point `n`, and of each output buffer after the last point of a batch row. -/
structure Track (F : FTy → Type) where
  Inv : ℕ → Scr F → Prop
  O11 : ℕ → Vec F S1x128x4096 .bf16 → Prop
  O12 : ℕ → Vec F S1x4x64x128 .i8 → Prop
  O13 : ℕ → Vec F S1x4x4x128 .f32 → Prop
  O14 : ℕ → Vec F S1x4x4x128 .f32 → Prop
  O15 : ℕ → Vec F S1x4x64x128 .i8 → Prop
  O16 : ℕ → Vec F S1x4x128 .f32 → Prop
  O17 : ℕ → Vec F S1x4x128 .f32 → Prop

/-- Nothing tracked. -/
def Track.none : Track F where
  Inv _ _ := True
  O11 _ _ := True
  O12 _ _ := True
  O13 _ _ := True
  O14 _ _ := True
  O15 _ _ := True
  O16 _ _ := True
  O17 _ _ := True

/-- The input buffers hold their blocks at point `t`: each is some contents overwritten, on the part inside its array, by the block. -/
def Blocks (c : Dev nD) (t : Fin cfg0.N) (x : Ins F) : Prop :=
  (∃ d, x.x0 = (cfg0.win 0).fill (cfg0.grid.coords t) d (iblk m c 0 t))
  ∧ (∃ d, x.x1 = (cfg0.win 1).fill (cfg0.grid.coords t) d (iblk m c 1 t))
  ∧ (∃ d, x.x2 = (cfg0.win 2).fill (cfg0.grid.coords t) d (iblk m c 2 t))
  ∧ (∃ d, x.x3 = (cfg0.win 3).fill (cfg0.grid.coords t) d (iblk m c 3 t))
  ∧ (∃ d, x.x4 = (cfg0.win 4).fill (cfg0.grid.coords t) d (iblk m c 4 t))
  ∧ (∃ d, x.x5 = (cfg0.win 5).fill (cfg0.grid.coords t) d (iblk m c 5 t))
  ∧ (∃ d, x.x6 = (cfg0.win 6).fill (cfg0.grid.coords t) d (iblk m c 6 t))
  ∧ (∃ d, x.x7 = (cfg0.win 7).fill (cfg0.grid.coords t) d (iblk m c 7 t))
  ∧ (∃ d, x.x8 = (cfg0.win 8).fill (cfg0.grid.coords t) d (iblk m c 8 t))
  ∧ (∃ d, x.x9 = (cfg0.win 9).fill (cfg0.grid.coords t) d (iblk m c 9 t))
  ∧ (∃ d, x.x10 = (cfg0.win 10).fill (cfg0.grid.coords t) d (iblk m c 10 t))

/-- The three runs of the body keep the tracking. -/
structure Steps (c : Dev nD) (T : Track F) : Prop where
  inv0 : ∀ s, T.Inv 0 s
  stepA : ∀ t h x, Blocks m c t x → T.Inv (t.val + 1) (afterA c t h x)
  stepB : ∀ t h x s, Blocks m c t x → T.Inv t.val s → T.Inv (t.val + 1) (afterB c t h x s)
  stepC : ∀ t h x s, Blocks m c t x → T.Inv t.val s → T.Inv (t.val + 1) (afterC c t h x s)
  out11 : ∀ t h x s, Blocks m c t x → T.Inv t.val s → T.O11 t.val (outC_11 c t h x s)
  out12 : ∀ t h x s, Blocks m c t x → T.Inv t.val s → T.O12 t.val (outC_12 c t h x s)
  out13 : ∀ t h x s, Blocks m c t x → T.Inv t.val s → T.O13 t.val (outC_13 c t h x s)
  out14 : ∀ t h x s, Blocks m c t x → T.Inv t.val s → T.O14 t.val (outC_14 c t h x s)
  out15 : ∀ t h x s, Blocks m c t x → T.Inv t.val s → T.O15 t.val (outC_15 c t h x s)
  out16 : ∀ t h x s, Blocks m c t x → T.Inv t.val s → T.O16 t.val (outC_16 c t h x s)
  out17 : ∀ t h x s, Blocks m c t x → T.Inv t.val s → T.O17 t.val (outC_17 c t h x s)

/-- Nothing tracked is kept. -/
theorem Steps.none (c : Dev nD) : Steps m c (Track.none (F := F)) :=
  ⟨fun _ => trivial, fun _ _ _ _ => trivial, fun _ _ _ _ _ _ => trivial, fun _ _ _ _ _ _ => trivial, fun _ _ _ _ _ _ => trivial, fun _ _ _ _ _ _ => trivial, fun _ _ _ _ _ _ => trivial, fun _ _ _ _ _ _ => trivial, fun _ _ _ _ _ _ => trivial, fun _ _ _ _ _ _ => trivial, fun _ _ _ _ _ _ => trivial⟩

/-- The invariant before point `n`: the carried scratch holds something satisfying `Inv n`, the other scratch and the generator
    register anything. -/
def Phi (T : Track F) (c : Dev nD) (n : ℕ) : sProp 𝕄 :=
  iprop(∃ s : Scr F, ⌜T.Inv n s⌝ ∗ iprop(owns (c : Thread nD τ) scM0_0 fullShare s.s0 ∗ owns (c : Thread nD τ) scM0_1 fullShare s.s1 ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare s.s6 ∗ owns (c : Thread nD τ) scM0_7 fullShare s.s7 ∗ owns (c : Thread nD τ) scM0_8 fullShare s.s8) ∗ (∃ r, prngReg c r))

/-- The relational proof data: an input buffer is left as found, an output buffer satisfies what is tracked at the last point of
    a batch row. -/
def rdat (T : Track F) (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = Y
    | ⟨8, _⟩ => fun Y X => X = Y
    | ⟨9, _⟩ => fun Y X => X = Y
    | ⟨10, _⟩ => fun Y X => X = Y
    | ⟨11, _⟩ => fun _ X => t.val % 16 = 15 → T.O11 t.val X
    | ⟨12, _⟩ => fun _ X => t.val % 16 = 15 → T.O12 t.val X
    | ⟨13, _⟩ => fun _ X => t.val % 16 = 15 → T.O13 t.val X
    | ⟨14, _⟩ => fun _ X => t.val % 16 = 15 → T.O14 t.val X
    | ⟨15, _⟩ => fun _ X => t.val % 16 = 15 → T.O15 t.val X
    | ⟨16, _⟩ => fun _ X => t.val % 16 = 15 → T.O16 t.val X
    | ⟨17, _⟩ => fun _ X => t.val % 16 = 15 → T.O17 t.val X
    | ⟨_ + 18, h⟩ => absurd h (Nat.not_lt.2 (Nat.le_add_left _ _))
  Φ t := Phi T c t.val
  q _ := fullShare
  owed _ := 0

theorem blocks_0 (T : Track F) (c : Dev nD) (t : Fin cfg0.N) (Y) (h : (rdat m T c).Finds 0 t Y) :
    ∃ d, Y = (cfg0.win 0).fill (cfg0.grid.coords t) d (iblk m c 0 t) :=
  (rdat m T c).finds_in_eq_fetched 0 rfl (fun _ _ _ => rfl) (fun _ _ _ h => h) t Y h

theorem blocks_1 (T : Track F) (c : Dev nD) (t : Fin cfg0.N) (Y) (h : (rdat m T c).Finds 1 t Y) :
    ∃ d, Y = (cfg0.win 1).fill (cfg0.grid.coords t) d (iblk m c 1 t) :=
  (rdat m T c).finds_in_eq_fetched 1 rfl (fun _ _ h => funext fun a => congrArg (fun n => Idealize.ShloMosaic.Pipeline.Clip.of n _ _) (congrFun h a)) (fun _ _ _ h => h) t Y h

theorem blocks_2 (T : Track F) (c : Dev nD) (t : Fin cfg0.N) (Y) (h : (rdat m T c).Finds 2 t Y) :
    ∃ d, Y = (cfg0.win 2).fill (cfg0.grid.coords t) d (iblk m c 2 t) :=
  (rdat m T c).finds_in_eq_fetched 2 rfl (fun _ _ h => funext fun a => congrArg (fun n => Idealize.ShloMosaic.Pipeline.Clip.of n _ _) (congrFun h a)) (fun _ _ _ h => h) t Y h

theorem blocks_3 (T : Track F) (c : Dev nD) (t : Fin cfg0.N) (Y) (h : (rdat m T c).Finds 3 t Y) :
    ∃ d, Y = (cfg0.win 3).fill (cfg0.grid.coords t) d (iblk m c 3 t) :=
  (rdat m T c).finds_in_eq_fetched 3 rfl (fun _ _ h => funext fun a => congrArg (fun n => Idealize.ShloMosaic.Pipeline.Clip.of n _ _) (congrFun h a)) (fun _ _ _ h => h) t Y h

theorem blocks_4 (T : Track F) (c : Dev nD) (t : Fin cfg0.N) (Y) (h : (rdat m T c).Finds 4 t Y) :
    ∃ d, Y = (cfg0.win 4).fill (cfg0.grid.coords t) d (iblk m c 4 t) :=
  (rdat m T c).finds_in_eq_fetched 4 rfl (fun _ _ h => funext fun a => congrArg (fun n => Idealize.ShloMosaic.Pipeline.Clip.of n _ _) (congrFun h a)) (fun _ _ _ h => h) t Y h

theorem blocks_5 (T : Track F) (c : Dev nD) (t : Fin cfg0.N) (Y) (h : (rdat m T c).Finds 5 t Y) :
    ∃ d, Y = (cfg0.win 5).fill (cfg0.grid.coords t) d (iblk m c 5 t) :=
  (rdat m T c).finds_in_eq_fetched 5 rfl (fun _ _ h => funext fun a => congrArg (fun n => Idealize.ShloMosaic.Pipeline.Clip.of n _ _) (congrFun h a)) (fun _ _ _ h => h) t Y h

theorem blocks_6 (T : Track F) (c : Dev nD) (t : Fin cfg0.N) (Y) (h : (rdat m T c).Finds 6 t Y) :
    ∃ d, Y = (cfg0.win 6).fill (cfg0.grid.coords t) d (iblk m c 6 t) :=
  (rdat m T c).finds_in_eq_fetched 6 rfl (fun _ _ h => funext fun a => congrArg (fun n => Idealize.ShloMosaic.Pipeline.Clip.of n _ _) (congrFun h a)) (fun _ _ _ h => h) t Y h

theorem blocks_7 (T : Track F) (c : Dev nD) (t : Fin cfg0.N) (Y) (h : (rdat m T c).Finds 7 t Y) :
    ∃ d, Y = (cfg0.win 7).fill (cfg0.grid.coords t) d (iblk m c 7 t) :=
  (rdat m T c).finds_in_eq_fetched 7 rfl (fun _ _ _ => rfl) (fun _ _ _ h => h) t Y h

theorem blocks_8 (T : Track F) (c : Dev nD) (t : Fin cfg0.N) (Y) (h : (rdat m T c).Finds 8 t Y) :
    ∃ d, Y = (cfg0.win 8).fill (cfg0.grid.coords t) d (iblk m c 8 t) :=
  (rdat m T c).finds_in_eq_fetched 8 rfl (fun _ _ _ => rfl) (fun _ _ _ h => h) t Y h

theorem blocks_9 (T : Track F) (c : Dev nD) (t : Fin cfg0.N) (Y) (h : (rdat m T c).Finds 9 t Y) :
    ∃ d, Y = (cfg0.win 9).fill (cfg0.grid.coords t) d (iblk m c 9 t) :=
  (rdat m T c).finds_in_eq_fetched 9 rfl (fun _ _ _ => rfl) (fun _ _ _ h => h) t Y h

theorem blocks_10 (T : Track F) (c : Dev nD) (t : Fin cfg0.N) (Y) (h : (rdat m T c).Finds 10 t Y) :
    ∃ d, Y = (cfg0.win 10).fill (cfg0.grid.coords t) d (iblk m c 10 t) :=
  (rdat m T c).finds_in_eq_fetched 10 rfl (fun _ _ _ => rfl) (fun _ _ _ h => h) t Y h

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The body's triple at a point of case A. -/
theorem sound_A (T : Track F) (c : Dev nD) (hT : Steps m c T) (t : Fin cfg0.N) (h : t.val % 16 = 0) (x : Ins F) (hb : Blocks m c t x) (y11 : Vec F S1x128x4096 .bf16) (y12 : Vec F S1x4x64x128 .i8) (y13 : Vec F S1x4x4x128 .f32) (y14 : Vec F S1x4x4x128 .f32) (y15 : Vec F S1x4x64x128 .i8) (y16 : Vec F S1x4x128 .f32) (y17 : Vec F S1x4x128 .f32) (O : sProp 𝕄) :
    iprop(Phi T c t.val ∗ O ∗ owns (c : Thread nD τ) (ms0_0 t) fullShare x.x0 ∗ owns (c : Thread nD τ) (ms0_1 t) fullShare x.x1 ∗ owns (c : Thread nD τ) (ms0_2 t) fullShare x.x2 ∗ owns (c : Thread nD τ) (ms0_3 t) fullShare x.x3 ∗ owns (c : Thread nD τ) (ms0_4 t) fullShare x.x4 ∗ owns (c : Thread nD τ) (ms0_5 t) fullShare x.x5 ∗ owns (c : Thread nD τ) (ms0_6 t) fullShare x.x6 ∗ owns (c : Thread nD τ) (ms0_7 t) fullShare x.x7 ∗ owns (c : Thread nD τ) (ms0_8 t) fullShare x.x8 ∗ owns (c : Thread nD τ) (ms0_9 t) fullShare x.x9 ∗ owns (c : Thread nD τ) (ms0_10 t) fullShare x.x10 ∗ owns (c : Thread nD τ) (ms0_11 t) fullShare y11 ∗ owns (c : Thread nD τ) (ms0_12 t) fullShare y12 ∗ owns (c : Thread nD τ) (ms0_13 t) fullShare y13 ∗ owns (c : Thread nD τ) (ms0_14 t) fullShare y14 ∗ owns (c : Thread nD τ) (ms0_15 t) fullShare y15 ∗ owns (c : Thread nD τ) (ms0_16 t) fullShare y16 ∗ owns (c : Thread nD τ) (ms0_17 t) fullShare y17)
    ⊢ wp frame (wpE (defs₀ (F := F)) Variants.none c none) Set.univ (bodyAt0 t) (fun _ => iprop(Phi T c (t.val + 1) ∗ O ∗ (∃ X, ⌜X = x.x0⌝ ∗ owns (c : Thread nD τ) (ms0_0 t) fullShare X) ∗ (∃ X, ⌜X = x.x1⌝ ∗ owns (c : Thread nD τ) (ms0_1 t) fullShare X) ∗ (∃ X, ⌜X = x.x2⌝ ∗ owns (c : Thread nD τ) (ms0_2 t) fullShare X) ∗ (∃ X, ⌜X = x.x3⌝ ∗ owns (c : Thread nD τ) (ms0_3 t) fullShare X) ∗ (∃ X, ⌜X = x.x4⌝ ∗ owns (c : Thread nD τ) (ms0_4 t) fullShare X) ∗ (∃ X, ⌜X = x.x5⌝ ∗ owns (c : Thread nD τ) (ms0_5 t) fullShare X) ∗ (∃ X, ⌜X = x.x6⌝ ∗ owns (c : Thread nD τ) (ms0_6 t) fullShare X) ∗ (∃ X, ⌜X = x.x7⌝ ∗ owns (c : Thread nD τ) (ms0_7 t) fullShare X) ∗ (∃ X, ⌜X = x.x8⌝ ∗ owns (c : Thread nD τ) (ms0_8 t) fullShare X) ∗ (∃ X, ⌜X = x.x9⌝ ∗ owns (c : Thread nD τ) (ms0_9 t) fullShare X) ∗ (∃ X, ⌜X = x.x10⌝ ∗ owns (c : Thread nD τ) (ms0_10 t) fullShare X) ∗ (∃ X, ⌜t.val % 16 = 15 → T.O11 t.val X⌝ ∗ owns (c : Thread nD τ) (ms0_11 t) fullShare X) ∗ (∃ X, ⌜t.val % 16 = 15 → T.O12 t.val X⌝ ∗ owns (c : Thread nD τ) (ms0_12 t) fullShare X) ∗ (∃ X, ⌜t.val % 16 = 15 → T.O13 t.val X⌝ ∗ owns (c : Thread nD τ) (ms0_13 t) fullShare X) ∗ (∃ X, ⌜t.val % 16 = 15 → T.O14 t.val X⌝ ∗ owns (c : Thread nD τ) (ms0_14 t) fullShare X) ∗ (∃ X, ⌜t.val % 16 = 15 → T.O15 t.val X⌝ ∗ owns (c : Thread nD τ) (ms0_15 t) fullShare X) ∗ (∃ X, ⌜t.val % 16 = 15 → T.O16 t.val X⌝ ∗ owns (c : Thread nD τ) (ms0_16 t) fullShare X) ∗ (∃ X, ⌜t.val % 16 = 15 → T.O17 t.val X⌝ ∗ owns (c : Thread nD τ) (ms0_17 t) fullShare X))) := by
  unfold Phi bodyAt0
  iintro ⟨⟨%s, %hs, ⟨HS0, HS1, HS2, HS3, HS4, HS5, HS6, HS7, HS8⟩, Hg⟩, Ho, H0, H1, H2, H3, H4, H5, H6, H7, H8, H9, H10, H11, H12, H13, H14, H15, H16, H17⟩
  iapply ((rA c t h x).2.2.2.2.2.2.2.2.2.2.2.2.2.2.2.2 _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [HS0]; · iexists _; iexact HS0
  isplitl [HS1]; · iexists _; iexact HS1
  isplitl [HS2]; · iexact HS2
  isplitl [HS3]; · iexact HS3
  isplitl [HS4]; · iexact HS4
  isplitl [HS5]; · iexact HS5
  isplitl [HS6]; · iexists _; iexact HS6
  isplitl [HS7]; · iexists _; iexact HS7
  isplitl [HS8]; · iexists _; iexact HS8
  iintro ⟨H0, H1, H2, H3, H4, H5, H6, H7, H8, H9, H10, H11, H12, H13, H14, H15, H16, H17, ⟨%f0, HS0⟩, ⟨%f1, HS1⟩, ⟨%f2, HS2⟩, ⟨%f3, HS3⟩, ⟨%f4, HS4⟩, ⟨%f5, HS5⟩, ⟨%f6, HS6⟩, ⟨%f7, HS7⟩, ⟨%f8, HS8⟩⟩
  isplitl [HS0 HS1 HS2 HS3 HS4 HS5 HS6 HS7 HS8 Hg]
  · iexists (afterA c t h x)
    isplitr; · ipureintro; exact hT.stepA t h x hb
    isplitl [HS0 HS1 HS2 HS3 HS4 HS5 HS6 HS7 HS8]
    · isplitl [HS0]
      · unfold owns; iexists _; isplitr
        swap; · iexact HS0
        ipureintro; exact View.read_writes_of_cover _ _ VS0_0 VS0_0.junk _ (coverA_s0 c t h x)
      isplitl [HS1]
      · unfold owns; iexists _; isplitr
        swap; · iexact HS1
        ipureintro; exact View.read_writes_of_cover _ _ VS0_1 VS0_1.junk _ (coverA_s1 c t h x)
      isplitl [HS2]
      · iexists _; unfold owns; iexists _; isplitr
        swap; · iexact HS2
        ipureintro; rfl
      isplitl [HS3]
      · iexists _; unfold owns; iexists _; isplitr
        swap; · iexact HS3
        ipureintro; rfl
      isplitl [HS4]
      · iexists _; unfold owns; iexists _; isplitr
        swap; · iexact HS4
        ipureintro; rfl
      isplitl [HS5]
      · iexists _; unfold owns; iexists _; isplitr
        swap; · iexact HS5
        ipureintro; rfl
      isplitl [HS6]
      · unfold owns; iexists _; isplitr
        swap; · iexact HS6
        ipureintro; exact View.read_writes_of_cover _ _ VS0_6 VS0_6.junk _ (coverA_s6 c t h x)
      isplitl [HS7]
      · unfold owns; iexists _; isplitr
        swap; · iexact HS7
        ipureintro; exact View.read_writes_of_cover _ _ VS0_7 VS0_7.junk _ (coverA_s7 c t h x)
      unfold owns; iexists _; isplitr
      swap; · iexact HS8
      ipureintro; exact View.read_writes_of_cover _ _ VS0_8 VS0_8.junk _ (coverA_s8 c t h x)
    iexact Hg
  isplitl [Ho]; · iexact Ho
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  isplitl [H11]
  · iexists _; isplitr
    swap; · iexact H11
    ipureintro; intro h15; exfalso; omega
  isplitl [H12]
  · iexists _; isplitr
    swap; · iexact H12
    ipureintro; intro h15; exfalso; omega
  isplitl [H13]
  · iexists _; isplitr
    swap; · iexact H13
    ipureintro; intro h15; exfalso; omega
  isplitl [H14]
  · iexists _; isplitr
    swap; · iexact H14
    ipureintro; intro h15; exfalso; omega
  isplitl [H15]
  · iexists _; isplitr
    swap; · iexact H15
    ipureintro; intro h15; exfalso; omega
  isplitl [H16]
  · iexists _; isplitr
    swap; · iexact H16
    ipureintro; intro h15; exfalso; omega
  iexists _; isplitr
  swap; · iexact H17
  ipureintro; intro h15; exfalso; omega

set_option maxHeartbeats 4000000 in
/-- The body's triple at a point of case B. -/
theorem sound_B (T : Track F) (c : Dev nD) (hT : Steps m c T) (t : Fin cfg0.N) (h : t.val % 16 ≠ 0 ∧ t.val % 16 ≠ 15) (x : Ins F) (hb : Blocks m c t x) (y11 : Vec F S1x128x4096 .bf16) (y12 : Vec F S1x4x64x128 .i8) (y13 : Vec F S1x4x4x128 .f32) (y14 : Vec F S1x4x4x128 .f32) (y15 : Vec F S1x4x64x128 .i8) (y16 : Vec F S1x4x128 .f32) (y17 : Vec F S1x4x128 .f32) (O : sProp 𝕄) :
    iprop(Phi T c t.val ∗ O ∗ owns (c : Thread nD τ) (ms0_0 t) fullShare x.x0 ∗ owns (c : Thread nD τ) (ms0_1 t) fullShare x.x1 ∗ owns (c : Thread nD τ) (ms0_2 t) fullShare x.x2 ∗ owns (c : Thread nD τ) (ms0_3 t) fullShare x.x3 ∗ owns (c : Thread nD τ) (ms0_4 t) fullShare x.x4 ∗ owns (c : Thread nD τ) (ms0_5 t) fullShare x.x5 ∗ owns (c : Thread nD τ) (ms0_6 t) fullShare x.x6 ∗ owns (c : Thread nD τ) (ms0_7 t) fullShare x.x7 ∗ owns (c : Thread nD τ) (ms0_8 t) fullShare x.x8 ∗ owns (c : Thread nD τ) (ms0_9 t) fullShare x.x9 ∗ owns (c : Thread nD τ) (ms0_10 t) fullShare x.x10 ∗ owns (c : Thread nD τ) (ms0_11 t) fullShare y11 ∗ owns (c : Thread nD τ) (ms0_12 t) fullShare y12 ∗ owns (c : Thread nD τ) (ms0_13 t) fullShare y13 ∗ owns (c : Thread nD τ) (ms0_14 t) fullShare y14 ∗ owns (c : Thread nD τ) (ms0_15 t) fullShare y15 ∗ owns (c : Thread nD τ) (ms0_16 t) fullShare y16 ∗ owns (c : Thread nD τ) (ms0_17 t) fullShare y17)
    ⊢ wp frame (wpE (defs₀ (F := F)) Variants.none c none) Set.univ (bodyAt0 t) (fun _ => iprop(Phi T c (t.val + 1) ∗ O ∗ (∃ X, ⌜X = x.x0⌝ ∗ owns (c : Thread nD τ) (ms0_0 t) fullShare X) ∗ (∃ X, ⌜X = x.x1⌝ ∗ owns (c : Thread nD τ) (ms0_1 t) fullShare X) ∗ (∃ X, ⌜X = x.x2⌝ ∗ owns (c : Thread nD τ) (ms0_2 t) fullShare X) ∗ (∃ X, ⌜X = x.x3⌝ ∗ owns (c : Thread nD τ) (ms0_3 t) fullShare X) ∗ (∃ X, ⌜X = x.x4⌝ ∗ owns (c : Thread nD τ) (ms0_4 t) fullShare X) ∗ (∃ X, ⌜X = x.x5⌝ ∗ owns (c : Thread nD τ) (ms0_5 t) fullShare X) ∗ (∃ X, ⌜X = x.x6⌝ ∗ owns (c : Thread nD τ) (ms0_6 t) fullShare X) ∗ (∃ X, ⌜X = x.x7⌝ ∗ owns (c : Thread nD τ) (ms0_7 t) fullShare X) ∗ (∃ X, ⌜X = x.x8⌝ ∗ owns (c : Thread nD τ) (ms0_8 t) fullShare X) ∗ (∃ X, ⌜X = x.x9⌝ ∗ owns (c : Thread nD τ) (ms0_9 t) fullShare X) ∗ (∃ X, ⌜X = x.x10⌝ ∗ owns (c : Thread nD τ) (ms0_10 t) fullShare X) ∗ (∃ X, ⌜t.val % 16 = 15 → T.O11 t.val X⌝ ∗ owns (c : Thread nD τ) (ms0_11 t) fullShare X) ∗ (∃ X, ⌜t.val % 16 = 15 → T.O12 t.val X⌝ ∗ owns (c : Thread nD τ) (ms0_12 t) fullShare X) ∗ (∃ X, ⌜t.val % 16 = 15 → T.O13 t.val X⌝ ∗ owns (c : Thread nD τ) (ms0_13 t) fullShare X) ∗ (∃ X, ⌜t.val % 16 = 15 → T.O14 t.val X⌝ ∗ owns (c : Thread nD τ) (ms0_14 t) fullShare X) ∗ (∃ X, ⌜t.val % 16 = 15 → T.O15 t.val X⌝ ∗ owns (c : Thread nD τ) (ms0_15 t) fullShare X) ∗ (∃ X, ⌜t.val % 16 = 15 → T.O16 t.val X⌝ ∗ owns (c : Thread nD τ) (ms0_16 t) fullShare X) ∗ (∃ X, ⌜t.val % 16 = 15 → T.O17 t.val X⌝ ∗ owns (c : Thread nD τ) (ms0_17 t) fullShare X))) := by
  unfold Phi bodyAt0
  iintro ⟨⟨%s, %hs, ⟨HS0, HS1, HS2, HS3, HS4, HS5, HS6, HS7, HS8⟩, Hg⟩, Ho, H0, H1, H2, H3, H4, H5, H6, H7, H8, H9, H10, H11, H12, H13, H14, H15, H16, H17⟩
  iapply ((rB c t h x s).2.2.2.2.2.2.2.2.2.2.2.2.2.2.2.2 _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  iintro ⟨H0, H1, H2, H3, H4, H5, H6, H7, H8, H9, H10, H11, H12, H13, H14, H15, H16, H17, HS0, HS1, ⟨%f2, HS2⟩, ⟨%f3, HS3⟩, ⟨%f4, HS4⟩, ⟨%f5, HS5⟩, ⟨%f6, HS6⟩, ⟨%f7, HS7⟩, ⟨%f8, HS8⟩⟩
  isplitl [HS0 HS1 HS2 HS3 HS4 HS5 HS6 HS7 HS8 Hg]
  · iexists (afterB c t h x s)
    isplitr; · ipureintro; exact hT.stepB t h x s hb hs
    isplitl [HS0 HS1 HS2 HS3 HS4 HS5 HS6 HS7 HS8]
    · isplitl [HS0]; · iexact HS0
      isplitl [HS1]; · iexact HS1
      isplitl [HS2]
      · iexists _; unfold owns; iexists _; isplitr
        swap; · iexact HS2
        ipureintro; rfl
      isplitl [HS3]
      · iexists _; unfold owns; iexists _; isplitr
        swap; · iexact HS3
        ipureintro; rfl
      isplitl [HS4]
      · iexists _; unfold owns; iexists _; isplitr
        swap; · iexact HS4
        ipureintro; rfl
      isplitl [HS5]
      · iexists _; unfold owns; iexists _; isplitr
        swap; · iexact HS5
        ipureintro; rfl
      isplitl [HS6]
      · unfold owns; iexists _; isplitr
        swap; · iexact HS6
        ipureintro; exact View.read_writes_of_cover _ _ VS0_6 VS0_6.junk _ (coverB_s6 c t h x s)
      isplitl [HS7]
      · unfold owns; iexists _; isplitr
        swap; · iexact HS7
        ipureintro; exact View.read_writes_of_cover _ _ VS0_7 VS0_7.junk _ (coverB_s7 c t h x s)
      unfold owns; iexists _; isplitr
      swap; · iexact HS8
      ipureintro; exact View.read_writes_of_cover _ _ VS0_8 VS0_8.junk _ (coverB_s8 c t h x s)
    iexact Hg
  isplitl [Ho]; · iexact Ho
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  isplitl [H11]
  · iexists _; isplitr
    swap; · iexact H11
    ipureintro; intro h15; exfalso; omega
  isplitl [H12]
  · iexists _; isplitr
    swap; · iexact H12
    ipureintro; intro h15; exfalso; omega
  isplitl [H13]
  · iexists _; isplitr
    swap; · iexact H13
    ipureintro; intro h15; exfalso; omega
  isplitl [H14]
  · iexists _; isplitr
    swap; · iexact H14
    ipureintro; intro h15; exfalso; omega
  isplitl [H15]
  · iexists _; isplitr
    swap; · iexact H15
    ipureintro; intro h15; exfalso; omega
  isplitl [H16]
  · iexists _; isplitr
    swap; · iexact H16
    ipureintro; intro h15; exfalso; omega
  iexists _; isplitr
  swap; · iexact H17
  ipureintro; intro h15; exfalso; omega

set_option maxHeartbeats 4000000 in
/-- The body's triple at a point of case C. -/
theorem sound_C (T : Track F) (c : Dev nD) (hT : Steps m c T) (t : Fin cfg0.N) (h : t.val % 16 = 15) (x : Ins F) (hb : Blocks m c t x) (y11 : Vec F S1x128x4096 .bf16) (y12 : Vec F S1x4x64x128 .i8) (y13 : Vec F S1x4x4x128 .f32) (y14 : Vec F S1x4x4x128 .f32) (y15 : Vec F S1x4x64x128 .i8) (y16 : Vec F S1x4x128 .f32) (y17 : Vec F S1x4x128 .f32) (O : sProp 𝕄) :
    iprop(Phi T c t.val ∗ O ∗ owns (c : Thread nD τ) (ms0_0 t) fullShare x.x0 ∗ owns (c : Thread nD τ) (ms0_1 t) fullShare x.x1 ∗ owns (c : Thread nD τ) (ms0_2 t) fullShare x.x2 ∗ owns (c : Thread nD τ) (ms0_3 t) fullShare x.x3 ∗ owns (c : Thread nD τ) (ms0_4 t) fullShare x.x4 ∗ owns (c : Thread nD τ) (ms0_5 t) fullShare x.x5 ∗ owns (c : Thread nD τ) (ms0_6 t) fullShare x.x6 ∗ owns (c : Thread nD τ) (ms0_7 t) fullShare x.x7 ∗ owns (c : Thread nD τ) (ms0_8 t) fullShare x.x8 ∗ owns (c : Thread nD τ) (ms0_9 t) fullShare x.x9 ∗ owns (c : Thread nD τ) (ms0_10 t) fullShare x.x10 ∗ owns (c : Thread nD τ) (ms0_11 t) fullShare y11 ∗ owns (c : Thread nD τ) (ms0_12 t) fullShare y12 ∗ owns (c : Thread nD τ) (ms0_13 t) fullShare y13 ∗ owns (c : Thread nD τ) (ms0_14 t) fullShare y14 ∗ owns (c : Thread nD τ) (ms0_15 t) fullShare y15 ∗ owns (c : Thread nD τ) (ms0_16 t) fullShare y16 ∗ owns (c : Thread nD τ) (ms0_17 t) fullShare y17)
    ⊢ wp frame (wpE (defs₀ (F := F)) Variants.none c none) Set.univ (bodyAt0 t) (fun _ => iprop(Phi T c (t.val + 1) ∗ O ∗ (∃ X, ⌜X = x.x0⌝ ∗ owns (c : Thread nD τ) (ms0_0 t) fullShare X) ∗ (∃ X, ⌜X = x.x1⌝ ∗ owns (c : Thread nD τ) (ms0_1 t) fullShare X) ∗ (∃ X, ⌜X = x.x2⌝ ∗ owns (c : Thread nD τ) (ms0_2 t) fullShare X) ∗ (∃ X, ⌜X = x.x3⌝ ∗ owns (c : Thread nD τ) (ms0_3 t) fullShare X) ∗ (∃ X, ⌜X = x.x4⌝ ∗ owns (c : Thread nD τ) (ms0_4 t) fullShare X) ∗ (∃ X, ⌜X = x.x5⌝ ∗ owns (c : Thread nD τ) (ms0_5 t) fullShare X) ∗ (∃ X, ⌜X = x.x6⌝ ∗ owns (c : Thread nD τ) (ms0_6 t) fullShare X) ∗ (∃ X, ⌜X = x.x7⌝ ∗ owns (c : Thread nD τ) (ms0_7 t) fullShare X) ∗ (∃ X, ⌜X = x.x8⌝ ∗ owns (c : Thread nD τ) (ms0_8 t) fullShare X) ∗ (∃ X, ⌜X = x.x9⌝ ∗ owns (c : Thread nD τ) (ms0_9 t) fullShare X) ∗ (∃ X, ⌜X = x.x10⌝ ∗ owns (c : Thread nD τ) (ms0_10 t) fullShare X) ∗ (∃ X, ⌜t.val % 16 = 15 → T.O11 t.val X⌝ ∗ owns (c : Thread nD τ) (ms0_11 t) fullShare X) ∗ (∃ X, ⌜t.val % 16 = 15 → T.O12 t.val X⌝ ∗ owns (c : Thread nD τ) (ms0_12 t) fullShare X) ∗ (∃ X, ⌜t.val % 16 = 15 → T.O13 t.val X⌝ ∗ owns (c : Thread nD τ) (ms0_13 t) fullShare X) ∗ (∃ X, ⌜t.val % 16 = 15 → T.O14 t.val X⌝ ∗ owns (c : Thread nD τ) (ms0_14 t) fullShare X) ∗ (∃ X, ⌜t.val % 16 = 15 → T.O15 t.val X⌝ ∗ owns (c : Thread nD τ) (ms0_15 t) fullShare X) ∗ (∃ X, ⌜t.val % 16 = 15 → T.O16 t.val X⌝ ∗ owns (c : Thread nD τ) (ms0_16 t) fullShare X) ∗ (∃ X, ⌜t.val % 16 = 15 → T.O17 t.val X⌝ ∗ owns (c : Thread nD τ) (ms0_17 t) fullShare X))) := by
  unfold Phi bodyAt0
  iintro ⟨⟨%s, %hs, ⟨HS0, HS1, HS2, HS3, HS4, HS5, HS6, HS7, HS8⟩, Hg⟩, Ho, H0, H1, H2, H3, H4, H5, H6, H7, H8, H9, H10, H11, H12, H13, H14, H15, H16, H17⟩
  iapply ((rC c t h x s).2.2.2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  iintro ⟨H0, H1, H2, H3, H4, H5, H6, H7, H8, H9, H10, ⟨%e11, H11⟩, ⟨%e12, H12⟩, ⟨%e13, H13⟩, ⟨%e14, H14⟩, ⟨%e15, H15⟩, ⟨%e16, H16⟩, ⟨%e17, H17⟩, HS0, HS1, ⟨%f2, HS2⟩, ⟨%f3, HS3⟩, ⟨%f4, HS4⟩, ⟨%f5, HS5⟩, ⟨%f6, HS6⟩, ⟨%f7, HS7⟩, ⟨%f8, HS8⟩⟩
  isplitl [HS0 HS1 HS2 HS3 HS4 HS5 HS6 HS7 HS8 Hg]
  · iexists (afterC c t h x s)
    isplitr; · ipureintro; exact hT.stepC t h x s hb hs
    isplitl [HS0 HS1 HS2 HS3 HS4 HS5 HS6 HS7 HS8]
    · isplitl [HS0]; · iexact HS0
      isplitl [HS1]; · iexact HS1
      isplitl [HS2]
      · iexists _; unfold owns; iexists _; isplitr
        swap; · iexact HS2
        ipureintro; rfl
      isplitl [HS3]
      · iexists _; unfold owns; iexists _; isplitr
        swap; · iexact HS3
        ipureintro; rfl
      isplitl [HS4]
      · iexists _; unfold owns; iexists _; isplitr
        swap; · iexact HS4
        ipureintro; rfl
      isplitl [HS5]
      · iexists _; unfold owns; iexists _; isplitr
        swap; · iexact HS5
        ipureintro; rfl
      isplitl [HS6]
      · unfold owns; iexists _; isplitr
        swap; · iexact HS6
        ipureintro; exact View.read_writes_of_cover _ _ VS0_6 VS0_6.junk _ (coverC_s6 c t h x s)
      isplitl [HS7]
      · unfold owns; iexists _; isplitr
        swap; · iexact HS7
        ipureintro; exact View.read_writes_of_cover _ _ VS0_7 VS0_7.junk _ (coverC_s7 c t h x s)
      unfold owns; iexists _; isplitr
      swap; · iexact HS8
      ipureintro; exact View.read_writes_of_cover _ _ VS0_8 VS0_8.junk _ (coverC_s8 c t h x s)
    iexact Hg
  isplitl [Ho]; · iexact Ho
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  isplitl [H11]
  · iexists (outC_11 c t h x s); isplitr; · ipureintro; exact fun _ => hT.out11 t h x s hb hs
    unfold owns; iexists _; isplitr
    swap; · iexact H11
    ipureintro; exact View.read_writes_of_cover _ _ (ms0_11 t).view (ms0_11 t).view.junk _ (coverC_o11 c t h x s)
  isplitl [H12]
  · iexists (outC_12 c t h x s); isplitr; · ipureintro; exact fun _ => hT.out12 t h x s hb hs
    unfold owns; iexists _; isplitr
    swap; · iexact H12
    ipureintro; exact View.read_writes_of_cover _ _ (ms0_12 t).view (ms0_12 t).view.junk _ (coverC_o12 c t h x s)
  isplitl [H13]
  · iexists (outC_13 c t h x s); isplitr; · ipureintro; exact fun _ => hT.out13 t h x s hb hs
    unfold owns; iexists _; isplitr
    swap; · iexact H13
    ipureintro; exact View.read_writes_of_cover _ _ (ms0_13 t).view (ms0_13 t).view.junk _ (coverC_o13 c t h x s)
  isplitl [H14]
  · iexists (outC_14 c t h x s); isplitr; · ipureintro; exact fun _ => hT.out14 t h x s hb hs
    unfold owns; iexists _; isplitr
    swap; · iexact H14
    ipureintro; exact View.read_writes_of_cover _ _ (ms0_14 t).view (ms0_14 t).view.junk _ (coverC_o14 c t h x s)
  isplitl [H15]
  · iexists (outC_15 c t h x s); isplitr; · ipureintro; exact fun _ => hT.out15 t h x s hb hs
    unfold owns; iexists _; isplitr
    swap; · iexact H15
    ipureintro; exact View.read_writes_of_cover _ _ (ms0_15 t).view (ms0_15 t).view.junk _ (coverC_o15 c t h x s)
  isplitl [H16]
  · iexists (outC_16 c t h x s); isplitr; · ipureintro; exact fun _ => hT.out16 t h x s hb hs
    unfold owns; iexists _; isplitr
    swap; · iexact H16
    ipureintro; exact View.read_writes_of_cover _ _ (ms0_16 t).view (ms0_16 t).view.junk _ (coverC_o16 c t h x s)
  iexists (outC_17 c t h x s); isplitr; · ipureintro; exact fun _ => hT.out17 t h x s hb hs
  unfold owns; iexists _; isplitr
  swap; · iexact H17
  ipureintro; exact View.read_writes_of_cover _ _ (ms0_17 t).view (ms0_17 t).view.junk _ (coverC_o17 c t h x s)

/-- The library's body obligation: the case's triple at every point. -/
theorem body_obligation (T : Track F) (c : Dev nD) (hT : Steps m c T) :
    (rdat m T c).BodyObligation (defs₀ (F := F)) Variants.none () Set.univ := fun t Y hY => by
  have hb : Blocks m c t ⟨Y 0, Y 1, Y 2, Y 3, Y 4, Y 5, Y 6, Y 7, Y 8, Y 9, Y 10⟩ := ⟨blocks_0 m T c t _ (hY 0), blocks_1 m T c t _ (hY 1), blocks_2 m T c t _ (hY 2), blocks_3 m T c t _ (hY 3), blocks_4 m T c t _ (hY 4), blocks_5 m T c t _ (hY 5), blocks_6 m T c t _ (hY 6), blocks_7 m T c t _ (hY 7), blocks_8 m T c t _ (hY 8), blocks_9 m T c t _ (hY 9), blocks_10 m T c t _ (hY 10)⟩
  rw [bigSep_W0, bigSep_W0, defs₀_row]
  by_cases h0 : t.val % 16 = 0
  · exact triple_restated (sound_A m T c hT t h0 _ hb (Y 11) (Y 12) (Y 13) (Y 14) (Y 15) (Y 16) (Y 17) _) rfl .rfl fun _ => .rfl
  by_cases h15 : t.val % 16 = 15
  · exact triple_restated (sound_C m T c hT t h15 _ hb (Y 11) (Y 12) (Y 13) (Y 14) (Y 15) (Y 16) (Y 17) _) rfl .rfl fun _ => .rfl
  · exact triple_restated (sound_B m T c hT t ⟨h0, h15⟩ _ hb (Y 11) (Y 12) (Y 13) (Y 14) (Y 15) (Y 16) (Y 17) _) rfl .rfl fun _ => .rfl

/-- What the launch hands the region is the invariant before the first point. -/
theorem hin (T : Track F) (c : Dev nD) (hT : Steps m c T) : Pipeline.ΦA spec0 c ⊢ (rdat m T c).Φ 0 := by
  rw [show (rdat m T c).Φ 0 = Phi T c 0 from rfl, PhiA0_eq]; unfold Phi
  iintro ⟨⟨⟨%d0, HS0⟩, ⟨%d1, HS1⟩, HS2, HS3, HS4, HS5, ⟨%d6, HS6⟩, ⟨%d7, HS7⟩, ⟨%d8, HS8⟩⟩, Hg⟩
  iexists (⟨d0, d1, d6, d7, d8⟩ : Scr F)
  isplitr; · ipureintro; exact hT.inv0 _
  isplitl [HS0 HS1 HS2 HS3 HS4 HS5 HS6 HS7 HS8]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iexact HS8
  iexact Hg

/-- After the last point the invariant gives the scratch back, its contents forgotten. -/
theorem hout (T : Track F) (c : Dev nD) : (rdat m T c).Φ (Fin.last cfg0.N) ⊢ Pipeline.ΦA spec0 c := by
  rw [show (rdat m T c).Φ (Fin.last cfg0.N) = Phi T c cfg0.N from rfl, PhiA0_eq]; unfold Phi
  iintro ⟨%s, -, ⟨HS0, HS1, HS2, HS3, HS4, HS5, HS6, HS7, HS8⟩, Hg⟩
  isplitl [HS0 HS1 HS2 HS3 HS4 HS5 HS6 HS7 HS8]
  · isplitl [HS0]; · iexists _; iexact HS0
    isplitl [HS1]; · iexists _; iexact HS1
    isplitl [HS2]; · iexact HS2
    isplitl [HS3]; · iexact HS3
    isplitl [HS4]; · iexact HS4
    isplitl [HS5]; · iexact HS5
    isplitl [HS6]; · iexists _; iexact HS6
    isplitl [HS7]; · iexists _; iexact HS7
    iexists _; iexact HS8
  iexact Hg

set_option backward.isDefEq.respectTransparency.types false in
/-- THE LAUNCH: every fair execution of the program ends, every array of the pipeline at contents the proof data allow, every
    other buffer as the region found it, every semaphore counter zero. -/
theorem run_quiescent (T : Track F) (hT : ∀ c, Steps m c T) :
    θ_run defs (onTc (τ := τ) (main (F := F))) (s₀ m ρ)
      (fun r => Pipeline.RDat.FramePost (cfgs 0) (rdat m T) (V m) r ∧ r.2.sem = fun _ => 0) :=
  Pipeline.RDat.θ_run_frame_track cfgs (0 : Fin 1) launch0 defs₀ Variants.none (rdat m T) m ρ main
    (hbody := fun c => body_obligation m T c (hT c)) (hshare := fun c w => by unfold RDat.share; split <;> rfl)
    (howed := fun _ _ => rfl) (V := V m) (hmain := hmain m Variants.none) (hA := fun _ _ => rfl)
    (hin := fun c => hin m T c (hT c)) (hout := hout m T) (Q' := _) (hQ' := fun _ h => h)

/-- The launch's post says that the argument arrays end unchanged. -/
theorem args_unchanged (T : Track F) {r : PUnit × MemSt nD τ sig (Elt F)} (h : Pipeline.RDat.FramePost (cfgs 0) (rdat m T) (V m) r)
    (c : Dev nD) : r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨(h.arr_in c 0 rfl).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c)⟩

/-- THE FRAME: every fair execution of the program ends with its argument arrays unchanged and every counter zero. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => args_unchanged m Track.none h.1 c, h.2⟩) (run_quiescent m ρ Track.none fun c => Steps.none m c)

end Cert.Kernel.Body

end
-- ==== Proof.KI.Base.lean ====
/-
  What the three runs of the kernel's body share: the branch conditions in closed form over the grid points, the staging
  and scratch buffers by name, and the class invariant opened.
-/
module

public import proofs.«01_k».proof.Proof.Gen.KernelIdeal.Frame
public import proofs.«01_k».proof.Proof.Gen.KernelIdeal.Skeleton

@[expose] public section

-- membership in a rectangle of production extents (`View.cover_of_tiled`): the elaborator's structural look
-- recurses once per coordinate of the long axes
set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 16) — by arithmetic of the point. -/
theorem hcond0_0 : ∀ t : Fin cfg0.N, cond0_0 (grid0.coords t) ↔ t.val % 16 = 0 :=
  (fun t => by
    have ht : t.val < 512 := Nat.lt_of_lt_of_eq t.isLt N_0
    have e0 : (grid0.coords t 0).val = t.val / 16 % 32 := Pipeline.Grid.coords_val t 0 (by decide) rfl
    have e1 : (grid0.coords t 1).val = t.val / 1 % 16 := Pipeline.Grid.coords_val t 1 (by decide) rfl
    simp only [cond0_0, e0, e1]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := (Scalar.cmpi .ne (Scalar.extui (Scalar.cmpi .slt (BitVec.ofNat 32 (i 1).val) 15#32)) 0#32) = 1#1
/-- It holds at the points whose coordinates have i1 ≤ 14 — decided over the grid. -/
theorem hcond0_1 : ∀ t : Fin cfg0.N, cond0_1 (grid0.coords t) ↔ t.val % 16 ≤ 14 :=
  (by decide +kernel : ∀ t : Fin grid0.N, cond0_1 (grid0.coords t) ↔ t.val % 16 ≤ 14)

/-- The condition of the body's `scf.if` 2 (`k0_h3`), from the grid coordinates (the skeleton's scalar
    chain substituted). -/
abbrev cond0_2 (i : grid0.Coords) : Prop := (Scalar.cmpi .ne (Scalar.extui (Scalar.cmpi .eq (BitVec.ofNat 32 (i 1).val) 15#32)) 0#32) = 1#1
/-- It holds at the points ≡ 15 (mod 16) — by arithmetic of the point. -/
theorem hcond0_2 : ∀ t : Fin cfg0.N, cond0_2 (grid0.coords t) ↔ t.val % 16 = 15 :=
  (fun t => by
    have ht : t.val < 512 := Nat.lt_of_lt_of_eq t.isLt N_0
    have e0 : (grid0.coords t 0).val = t.val / 16 % 32 := Pipeline.Grid.coords_val t 0 (by decide) rfl
    have e1 : (grid0.coords t 1).val = t.val / 1 % 16 := Pipeline.Grid.coords_val t 1 (by decide) rfl
    simp only [cond0_2, e0, e1]
    word_cmp
   : ∀ t : Fin grid0.N, cond0_2 (grid0.coords t) ↔ t.val % 16 = 15)

/-- The condition of the body's `scf.if` 3 (`k0_h4`), from the grid coordinates (the skeleton's scalar
    chain substituted). -/
abbrev cond0_3 (i : grid0.Coords) : Prop := k0_cond4 i = 1#1
/-- It holds at the points ≡ 15 (mod 16) — by arithmetic of the point. -/
theorem hcond0_3 : ∀ t : Fin cfg0.N, cond0_3 (grid0.coords t) ↔ t.val % 16 = 15 :=
  (fun t => by
    have ht : t.val < 512 := Nat.lt_of_lt_of_eq t.isLt N_0
    have e0 : (grid0.coords t 0).val = t.val / 16 % 32 := Pipeline.Grid.coords_val t 0 (by decide) rfl
    have e1 : (grid0.coords t 1).val = t.val / 1 % 16 := Pipeline.Grid.coords_val t 1 (by decide) rfl
    simp only [cond0_3, k0_cond4, e0, e1]
    word_cmp
   : ∀ t : Fin grid0.N, cond0_3 (grid0.coords t) ↔ t.val % 16 = 15)

abbrev ms0_0 (t : Fin cfg0.N) : Memref sig .tc .vmem S1x128x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4x64x1024 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4x64x1024 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x4x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x4x128x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x4x128x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x4x128x128 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x4x128x128 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x128x4096 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x4x64x128 .i8 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x4x4x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x4x4x128 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x4x64x128 .i8 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x4x128 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x4x128 .f32 := win0_17.stage (cfg0.slots t 17)
abbrev hs0_17 (t : Fin cfg0.N) : (ms0_17 t).IsWhole := hstage0_17 ((cfg0.slots t 17).cast nbuf0_17)
abbrev scM0_0 : Memref sig .tc .vmem S128x128 .bf16 := Memref.whole cc0_scratch0
abbrev scM0_1 : Memref sig .tc .vmem S128x4096 .bf16 := Memref.whole cc0_scratch1
abbrev scM0_2 : Memref sig .tc .vmem S4x1024x128 .bf16 := Memref.whole cc0_scratch2
abbrev scM0_3 : Memref sig .tc .vmem S4x128x1024 .bf16 := Memref.whole cc0_scratch3
abbrev scM0_4 : Memref sig .tc .vmem S128x128 .f32 := Memref.whole cc0_scratch4
abbrev scM0_5 : Memref sig .tc .vmem S128x128 .f32 := Memref.whole cc0_scratch5
abbrev scM0_6 : Memref sig .tc .vmem S128x4096 .f32 := Memref.whole cc0_scratch6
abbrev scM0_7 : Memref sig .tc .vmem S1x4096 .f32 := Memref.whole cc0_scratch7
abbrev scM0_8 : Memref sig .tc .vmem S1x4096 .f32 := Memref.whole cc0_scratch8
abbrev VS0_0 : View sig .tc .vmem S128x128 .bf16 := scM0_0.view
abbrev VS0_1 : View sig .tc .vmem S128x4096 .bf16 := scM0_1.view
abbrev VS0_6 : View sig .tc .vmem S128x4096 .f32 := scM0_6.view
abbrev VS0_7 : View sig .tc .vmem S1x4096 .f32 := scM0_7.view
abbrev VS0_8 : View sig .tc .vmem S1x4096 .f32 := scM0_8.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := by
  unfold Pipeline.ΦA; rw [scopedRest0_eq]; simp only [scM0_0, scM0_1, scM0_2, scM0_3, scM0_4, scM0_5, scM0_6, scM0_7, scM0_8, owns_whole]; try rfl

end Cert.KernelIdeal.Body

end
-- ==== Proof.KI.RunA.lean ====
/-
  The kernel's body run whole in case A: the first point of a batch row.
-/
module

public import proofs.«01_k».proof.Proof.KI.Base

@[expose] public section

-- membership in a rectangle of production extents (`View.cover_of_tiled`): the elaborator's structural look
-- recurses once per coordinate of the long axes
set_option maxRecDepth 16384

noncomputable section

namespace Cert.KernelIdeal.Body

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue — `abstractNestedProofs` — walks it past the default budget)
set_option maxHeartbeats 4960000 in
/-- The pieces the body's stores leave in each buffer in case A (last first), with the proof that from the inputs' buffers at `x·`, the
    scratch the body reads before writing at `xs·` and everything else at anything, the body runs to the same inputs and those pieces written. -/
noncomputable def run_A (c : Dev nD) (i : grid0.Coords) (arg2 : Memref sig .tc .vmem S1x128x4096 .bf16) (harg2 : arg2.IsWhole) (arg3 : Memref sig .tc .vmem S1x4x64x1024 .i8) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S1x4x64x1024 .i8) (harg6 : arg6.IsWhole) (arg7 : Memref sig .tc .vmem S1x4x1024 .f32) (harg7 : arg7.IsWhole) (arg8 : Memref sig .tc .vmem S1x4x1024 .f32) (harg8 : arg8.IsWhole) (arg9 : Memref sig .tc .vmem S1x4x128x128 .bf16) (harg9 : arg9.IsWhole) (arg10 : Memref sig .tc .vmem S1x4x128x128 .bf16) (harg10 : arg10.IsWhole) (arg11 : Memref sig .tc .vmem S1x4x128x128 .bf16) (harg11 : arg11.IsWhole) (arg12 : Memref sig .tc .vmem S1x4x128x128 .bf16) (harg12 : arg12.IsWhole) (arg13 : Memref sig .tc .vmem S1x128x4096 .bf16) (harg13 : arg13.IsWhole) (arg14 : Memref sig .tc .vmem S1x4x64x128 .i8) (harg14 : arg14.IsWhole) (arg15 : Memref sig .tc .vmem S1x4x4x128 .f32) (harg15 : arg15.IsWhole) (arg16 : Memref sig .tc .vmem S1x4x4x128 .f32) (harg16 : arg16.IsWhole) (arg17 : Memref sig .tc .vmem S1x4x64x128 .i8) (harg17 : arg17.IsWhole) (arg18 : Memref sig .tc .vmem S1x4x128 .f32) (harg18 : arg18.IsWhole) (arg19 : Memref sig .tc .vmem S1x4x128 .f32) (harg19 : arg19.IsWhole) (arg20 : Memref sig .tc .vmem S128x128 .bf16) (harg20 : arg20.IsWhole) (arg21 : Memref sig .tc .vmem S128x4096 .bf16) (harg21 : arg21.IsWhole) (arg22 : Memref sig .tc .vmem S4x1024x128 .bf16) (harg22 : arg22.IsWhole) (arg23 : Memref sig .tc .vmem S4x128x1024 .bf16) (harg23 : arg23.IsWhole) (arg24 : Memref sig .tc .vmem S128x128 .f32) (harg24 : arg24.IsWhole) (arg25 : Memref sig .tc .vmem S128x128 .f32) (harg25 : arg25.IsWhole) (arg26 : Memref sig .tc .vmem S128x4096 .f32) (harg26 : arg26.IsWhole) (arg27 : Memref sig .tc .vmem S1x4096 .f32) (harg27 : arg27.IsWhole) (arg28 : Memref sig .tc .vmem S1x4096 .f32) (harg28 : arg28.IsWhole) (hc0 : cond0_0 i) (hc1 : cond0_1 i) (hc2 : ¬cond0_2 i) (hc3 : ¬cond0_3 i)
    (x0 : Vec F S1x128x4096 .bf16) (x1 : Vec F S1x4x64x1024 .i8) (x2 : Vec F S1x128x128 .f32) (x3 : Vec F S1x128x128 .f32) (x4 : Vec F S1x4x64x1024 .i8) (x5 : Vec F S1x4x1024 .f32) (x6 : Vec F S1x4x1024 .f32) (x7 : Vec F S1x4x128x128 .bf16) (x8 : Vec F S1x4x128x128 .bf16) (x9 : Vec F S1x4x128x128 .bf16) (x10 : Vec F S1x4x128x128 .bf16) :
    Σ' (L11 : List (View.Piece (Elt F) S1x128x4096 .bf16)), Σ' (L12 : List (View.Piece (Elt F) S1x4x64x128 .i8)), Σ' (L13 : List (View.Piece (Elt F) S1x4x4x128 .f32)), Σ' (L14 : List (View.Piece (Elt F) S1x4x4x128 .f32)), Σ' (L15 : List (View.Piece (Elt F) S1x4x64x128 .i8)), Σ' (L16 : List (View.Piece (Elt F) S1x4x128 .f32)), Σ' (L17 : List (View.Piece (Elt F) S1x4x128 .f32)), Σ' (LS0 : List (View.Piece (Elt F) S128x128 .bf16)), Σ' (LS1 : List (View.Piece (Elt F) S128x4096 .bf16)), Σ' (LS6 : List (View.Piece (Elt F) S128x4096 .f32)), Σ' (LS7 : List (View.Piece (Elt F) S1x4096 .f32)), Σ' (LS8 : List (View.Piece (Elt F) S1x4096 .f32)), Σ' (LT2 : List (View.Piece (Elt F) S4x1024x128 .bf16)), Σ' (LT3 : List (View.Piece (Elt F) S4x128x1024 .bf16)), Σ' (LT4 : List (View.Piece (Elt F) S128x128 .f32)), { LT5 : List (View.Piece (Elt F) S128x128 .f32) //
      ∀ (xi11 : Vec F S1x128x4096 .bf16) (xi12 : Vec F S1x4x64x128 .i8) (xi13 : Vec F S1x4x4x128 .f32) (xi14 : Vec F S1x4x4x128 .f32) (xi15 : Vec F S1x4x64x128 .i8) (xi16 : Vec F S1x4x128 .f32) (xi17 : Vec F S1x4x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ owns (c : Thread nD τ) arg14 fullShare xi12 ∗ owns (c : Thread nD τ) arg15 fullShare xi13 ∗ owns (c : Thread nD τ) arg16 fullShare xi14 ∗ owns (c : Thread nD τ) arg17 fullShare xi15 ∗ owns (c : Thread nD τ) arg18 fullShare xi16 ∗ owns (c : Thread nD τ) arg19 fullShare xi17 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ owns (c : Thread nD τ) arg14 fullShare xi12 ∗ owns (c : Thread nD τ) arg15 fullShare xi13 ∗ owns (c : Thread nD τ) arg16 fullShare xi14 ∗ owns (c : Thread nD τ) arg17 fullShare xi15 ∗ owns (c : Thread nD τ) arg18 fullShare xi16 ∗ owns (c : Thread nD τ) arg19 fullShare xi17 ∗ (∃ f, arg20.view.loc (c : Thread nD τ) ↦[arg20.view.set]{fullShare} arg20.view.writes (Elt F) f LS0) ∗ (∃ f, arg21.view.loc (c : Thread nD τ) ↦[arg21.view.set]{fullShare} arg21.view.writes (Elt F) f LS1) ∗ (∃ f, arg22.view.loc (c : Thread nD τ) ↦[arg22.view.set]{fullShare} arg22.view.writes (Elt F) f LT2) ∗ (∃ f, arg23.view.loc (c : Thread nD τ) ↦[arg23.view.set]{fullShare} arg23.view.writes (Elt F) f LT3) ∗ (∃ f, arg24.view.loc (c : Thread nD τ) ↦[arg24.view.set]{fullShare} arg24.view.writes (Elt F) f LT4) ∗ (∃ f, arg25.view.loc (c : Thread nD τ) ↦[arg25.view.set]{fullShare} arg25.view.writes (Elt F) f LT5) ∗ (∃ f, arg26.view.loc (c : Thread nD τ) ↦[arg26.view.set]{fullShare} arg26.view.writes (Elt F) f LS6) ∗ (∃ f, arg27.view.loc (c : Thread nD τ) ↦[arg27.view.set]{fullShare} arg27.view.writes (Elt F) f LS7) ∗ (∃ f, arg28.view.loc (c : Thread nD τ) ↦[arg28.view.set]{fullShare} arg28.view.writes (Elt F) f LS8)) -∗ K ⟨⟩))
          ⊢ wp frame (wpE (defs₀ (F := F)) Variants.none c none) E (cc0_kivi4_gqa_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨[], [], [], [], [], [], [], ?_, ?_, ?_, ?_, ?_, ?_, ?_, ?_, ?_, fun xi11 xi12 xi13 xi14 xi15 xi16 xi17 E K => ?run⟩
  case run =>
    simp only [cc0_kivi4_gqa_attention_eq_skeleton]; unfold cc0_kivi4_gqa_attention_skel
    simp only [k0_part146_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part60_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    iexists _; iexact HS8

end Cert.KernelIdeal.Body

end
-- ==== Proof.KI.RunB.lean ====
/-
  The kernel's body run whole in case B: a point in the middle of a batch row.
-/
module

public import proofs.«01_k».proof.Proof.KI.RunA

@[expose] public section

-- membership in a rectangle of production extents (`View.cover_of_tiled`): the elaborator's structural look
-- recurses once per coordinate of the long axes
set_option maxRecDepth 16384

noncomputable section

namespace Cert.KernelIdeal.Body

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue — `abstractNestedProofs` — walks it past the default budget)
set_option maxHeartbeats 4336000 in
/-- The pieces the body's stores leave in each buffer in case B (last first), with the proof that from the inputs' buffers at `x·`, the
    scratch the body reads before writing at `xs·` and everything else at anything, the body runs to the same inputs and those pieces written. -/
noncomputable def run_B (c : Dev nD) (i : grid0.Coords) (arg2 : Memref sig .tc .vmem S1x128x4096 .bf16) (harg2 : arg2.IsWhole) (arg3 : Memref sig .tc .vmem S1x4x64x1024 .i8) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S1x4x64x1024 .i8) (harg6 : arg6.IsWhole) (arg7 : Memref sig .tc .vmem S1x4x1024 .f32) (harg7 : arg7.IsWhole) (arg8 : Memref sig .tc .vmem S1x4x1024 .f32) (harg8 : arg8.IsWhole) (arg9 : Memref sig .tc .vmem S1x4x128x128 .bf16) (harg9 : arg9.IsWhole) (arg10 : Memref sig .tc .vmem S1x4x128x128 .bf16) (harg10 : arg10.IsWhole) (arg11 : Memref sig .tc .vmem S1x4x128x128 .bf16) (harg11 : arg11.IsWhole) (arg12 : Memref sig .tc .vmem S1x4x128x128 .bf16) (harg12 : arg12.IsWhole) (arg13 : Memref sig .tc .vmem S1x128x4096 .bf16) (harg13 : arg13.IsWhole) (arg14 : Memref sig .tc .vmem S1x4x64x128 .i8) (harg14 : arg14.IsWhole) (arg15 : Memref sig .tc .vmem S1x4x4x128 .f32) (harg15 : arg15.IsWhole) (arg16 : Memref sig .tc .vmem S1x4x4x128 .f32) (harg16 : arg16.IsWhole) (arg17 : Memref sig .tc .vmem S1x4x64x128 .i8) (harg17 : arg17.IsWhole) (arg18 : Memref sig .tc .vmem S1x4x128 .f32) (harg18 : arg18.IsWhole) (arg19 : Memref sig .tc .vmem S1x4x128 .f32) (harg19 : arg19.IsWhole) (arg20 : Memref sig .tc .vmem S128x128 .bf16) (harg20 : arg20.IsWhole) (arg21 : Memref sig .tc .vmem S128x4096 .bf16) (harg21 : arg21.IsWhole) (arg22 : Memref sig .tc .vmem S4x1024x128 .bf16) (harg22 : arg22.IsWhole) (arg23 : Memref sig .tc .vmem S4x128x1024 .bf16) (harg23 : arg23.IsWhole) (arg24 : Memref sig .tc .vmem S128x128 .f32) (harg24 : arg24.IsWhole) (arg25 : Memref sig .tc .vmem S128x128 .f32) (harg25 : arg25.IsWhole) (arg26 : Memref sig .tc .vmem S128x4096 .f32) (harg26 : arg26.IsWhole) (arg27 : Memref sig .tc .vmem S1x4096 .f32) (harg27 : arg27.IsWhole) (arg28 : Memref sig .tc .vmem S1x4096 .f32) (harg28 : arg28.IsWhole) (hc0 : ¬cond0_0 i) (hc1 : cond0_1 i) (hc2 : ¬cond0_2 i) (hc3 : ¬cond0_3 i)
    (x0 : Vec F S1x128x4096 .bf16) (x1 : Vec F S1x4x64x1024 .i8) (x2 : Vec F S1x128x128 .f32) (x3 : Vec F S1x128x128 .f32) (x4 : Vec F S1x4x64x1024 .i8) (x5 : Vec F S1x4x1024 .f32) (x6 : Vec F S1x4x1024 .f32) (x7 : Vec F S1x4x128x128 .bf16) (x8 : Vec F S1x4x128x128 .bf16) (x9 : Vec F S1x4x128x128 .bf16) (x10 : Vec F S1x4x128x128 .bf16) (xs0 : Vec F S128x128 .bf16) (xs1 : Vec F S128x4096 .bf16) (xs6 : Vec F S128x4096 .f32) (xs7 : Vec F S1x4096 .f32) (xs8 : Vec F S1x4096 .f32) :
    Σ' (L11 : List (View.Piece (Elt F) S1x128x4096 .bf16)), Σ' (L12 : List (View.Piece (Elt F) S1x4x64x128 .i8)), Σ' (L13 : List (View.Piece (Elt F) S1x4x4x128 .f32)), Σ' (L14 : List (View.Piece (Elt F) S1x4x4x128 .f32)), Σ' (L15 : List (View.Piece (Elt F) S1x4x64x128 .i8)), Σ' (L16 : List (View.Piece (Elt F) S1x4x128 .f32)), Σ' (L17 : List (View.Piece (Elt F) S1x4x128 .f32)), Σ' (LS0 : List (View.Piece (Elt F) S128x128 .bf16)), Σ' (LS1 : List (View.Piece (Elt F) S128x4096 .bf16)), Σ' (LS6 : List (View.Piece (Elt F) S128x4096 .f32)), Σ' (LS7 : List (View.Piece (Elt F) S1x4096 .f32)), Σ' (LS8 : List (View.Piece (Elt F) S1x4096 .f32)), Σ' (LT2 : List (View.Piece (Elt F) S4x1024x128 .bf16)), Σ' (LT3 : List (View.Piece (Elt F) S4x128x1024 .bf16)), Σ' (LT4 : List (View.Piece (Elt F) S128x128 .f32)), { LT5 : List (View.Piece (Elt F) S128x128 .f32) //
      ∀ (xi11 : Vec F S1x128x4096 .bf16) (xi12 : Vec F S1x4x64x128 .i8) (xi13 : Vec F S1x4x4x128 .f32) (xi14 : Vec F S1x4x4x128 .f32) (xi15 : Vec F S1x4x64x128 .i8) (xi16 : Vec F S1x4x128 .f32) (xi17 : Vec F S1x4x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ owns (c : Thread nD τ) arg14 fullShare xi12 ∗ owns (c : Thread nD τ) arg15 fullShare xi13 ∗ owns (c : Thread nD τ) arg16 fullShare xi14 ∗ owns (c : Thread nD τ) arg17 fullShare xi15 ∗ owns (c : Thread nD τ) arg18 fullShare xi16 ∗ owns (c : Thread nD τ) arg19 fullShare xi17 ∗ owns (c : Thread nD τ) arg20 fullShare xs0 ∗ owns (c : Thread nD τ) arg21 fullShare xs1 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ owns (c : Thread nD τ) arg26 fullShare xs6 ∗ owns (c : Thread nD τ) arg27 fullShare xs7 ∗ owns (c : Thread nD τ) arg28 fullShare xs8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ owns (c : Thread nD τ) arg14 fullShare xi12 ∗ owns (c : Thread nD τ) arg15 fullShare xi13 ∗ owns (c : Thread nD τ) arg16 fullShare xi14 ∗ owns (c : Thread nD τ) arg17 fullShare xi15 ∗ owns (c : Thread nD τ) arg18 fullShare xi16 ∗ owns (c : Thread nD τ) arg19 fullShare xi17 ∗ owns (c : Thread nD τ) arg20 fullShare xs0 ∗ owns (c : Thread nD τ) arg21 fullShare xs1 ∗ (∃ f, arg22.view.loc (c : Thread nD τ) ↦[arg22.view.set]{fullShare} arg22.view.writes (Elt F) f LT2) ∗ (∃ f, arg23.view.loc (c : Thread nD τ) ↦[arg23.view.set]{fullShare} arg23.view.writes (Elt F) f LT3) ∗ (∃ f, arg24.view.loc (c : Thread nD τ) ↦[arg24.view.set]{fullShare} arg24.view.writes (Elt F) f LT4) ∗ (∃ f, arg25.view.loc (c : Thread nD τ) ↦[arg25.view.set]{fullShare} arg25.view.writes (Elt F) f LT5) ∗ (∃ f, arg26.view.loc (c : Thread nD τ) ↦[arg26.view.set]{fullShare} arg26.view.writes (Elt F) f LS6) ∗ (∃ f, arg27.view.loc (c : Thread nD τ) ↦[arg27.view.set]{fullShare} arg27.view.writes (Elt F) f LS7) ∗ (∃ f, arg28.view.loc (c : Thread nD τ) ↦[arg28.view.set]{fullShare} arg28.view.writes (Elt F) f LS8)) -∗ K ⟨⟩))
          ⊢ wp frame (wpE (defs₀ (F := F)) Variants.none c none) E (cc0_kivi4_gqa_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨[], [], [], [], [], [], [], [], [], ?_, ?_, ?_, ?_, ?_, ?_, ?_, fun xi11 xi12 xi13 xi14 xi15 xi16 xi17 E K => ?run⟩
  case run =>
    simp only [cc0_kivi4_gqa_attention_eq_skeleton]; unfold cc0_kivi4_gqa_attention_skel
    simp only [k0_part146_eq_skeleton, k0_part60_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%fs0, %hfs0, HS0⟩, ⟨%fs1, %hfs1, HS1⟩, ⟨%ds2, %fs2, -, HS2⟩, ⟨%ds3, %fs3, -, HS3⟩, ⟨%ds4, %fs4, -, HS4⟩, ⟨%ds5, %fs5, -, HS5⟩, ⟨%fs6, %hfs6, HS6⟩, ⟨%fs7, %hfs7, HS7⟩, ⟨%fs8, %hfs8, HS8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hfs0; obtain rfl := harg21.eq_unread hfs1; obtain rfl := harg26.eq_unread hfs6; obtain rfl := harg27.eq_unread hfs7; obtain rfl := harg28.eq_unread hfs8
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [HS0]
    · iexists _; isplitr; · ipureintro; exact harg20.read_unread _
      iexact HS0
    isplitl [HS1]
    · iexists _; isplitr; · ipureintro; exact harg21.read_unread _
      iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    iexists _; iexact HS8

end Cert.KernelIdeal.Body

end
-- ==== Proof.KI.RunC.lean ====
/-
  The kernel's body run whole in case C: the last point of a batch row.
-/
module

public import proofs.«01_k».proof.Proof.KI.RunB

@[expose] public section

-- membership in a rectangle of production extents (`View.cover_of_tiled`): the elaborator's structural look
-- recurses once per coordinate of the long axes
set_option maxRecDepth 16384

noncomputable section

namespace Cert.KernelIdeal.Body

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue — `abstractNestedProofs` — walks it past the default budget)
set_option maxHeartbeats 6404000 in
/-- The pieces the body's stores leave in each buffer in case C (last first), with the proof that from the inputs' buffers at `x·`, the
    scratch the body reads before writing at `xs·` and everything else at anything, the body runs to the same inputs and those pieces written. -/
noncomputable def run_C (c : Dev nD) (i : grid0.Coords) (arg2 : Memref sig .tc .vmem S1x128x4096 .bf16) (harg2 : arg2.IsWhole) (arg3 : Memref sig .tc .vmem S1x4x64x1024 .i8) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S1x4x64x1024 .i8) (harg6 : arg6.IsWhole) (arg7 : Memref sig .tc .vmem S1x4x1024 .f32) (harg7 : arg7.IsWhole) (arg8 : Memref sig .tc .vmem S1x4x1024 .f32) (harg8 : arg8.IsWhole) (arg9 : Memref sig .tc .vmem S1x4x128x128 .bf16) (harg9 : arg9.IsWhole) (arg10 : Memref sig .tc .vmem S1x4x128x128 .bf16) (harg10 : arg10.IsWhole) (arg11 : Memref sig .tc .vmem S1x4x128x128 .bf16) (harg11 : arg11.IsWhole) (arg12 : Memref sig .tc .vmem S1x4x128x128 .bf16) (harg12 : arg12.IsWhole) (arg13 : Memref sig .tc .vmem S1x128x4096 .bf16) (harg13 : arg13.IsWhole) (arg14 : Memref sig .tc .vmem S1x4x64x128 .i8) (harg14 : arg14.IsWhole) (arg15 : Memref sig .tc .vmem S1x4x4x128 .f32) (harg15 : arg15.IsWhole) (arg16 : Memref sig .tc .vmem S1x4x4x128 .f32) (harg16 : arg16.IsWhole) (arg17 : Memref sig .tc .vmem S1x4x64x128 .i8) (harg17 : arg17.IsWhole) (arg18 : Memref sig .tc .vmem S1x4x128 .f32) (harg18 : arg18.IsWhole) (arg19 : Memref sig .tc .vmem S1x4x128 .f32) (harg19 : arg19.IsWhole) (arg20 : Memref sig .tc .vmem S128x128 .bf16) (harg20 : arg20.IsWhole) (arg21 : Memref sig .tc .vmem S128x4096 .bf16) (harg21 : arg21.IsWhole) (arg22 : Memref sig .tc .vmem S4x1024x128 .bf16) (harg22 : arg22.IsWhole) (arg23 : Memref sig .tc .vmem S4x128x1024 .bf16) (harg23 : arg23.IsWhole) (arg24 : Memref sig .tc .vmem S128x128 .f32) (harg24 : arg24.IsWhole) (arg25 : Memref sig .tc .vmem S128x128 .f32) (harg25 : arg25.IsWhole) (arg26 : Memref sig .tc .vmem S128x4096 .f32) (harg26 : arg26.IsWhole) (arg27 : Memref sig .tc .vmem S1x4096 .f32) (harg27 : arg27.IsWhole) (arg28 : Memref sig .tc .vmem S1x4096 .f32) (harg28 : arg28.IsWhole) (hc0 : ¬cond0_0 i) (hc1 : ¬cond0_1 i) (hc2 : cond0_2 i) (hc3 : cond0_3 i)
    (x0 : Vec F S1x128x4096 .bf16) (x1 : Vec F S1x4x64x1024 .i8) (x2 : Vec F S1x128x128 .f32) (x3 : Vec F S1x128x128 .f32) (x4 : Vec F S1x4x64x1024 .i8) (x5 : Vec F S1x4x1024 .f32) (x6 : Vec F S1x4x1024 .f32) (x7 : Vec F S1x4x128x128 .bf16) (x8 : Vec F S1x4x128x128 .bf16) (x9 : Vec F S1x4x128x128 .bf16) (x10 : Vec F S1x4x128x128 .bf16) (xs0 : Vec F S128x128 .bf16) (xs1 : Vec F S128x4096 .bf16) (xs6 : Vec F S128x4096 .f32) (xs7 : Vec F S1x4096 .f32) (xs8 : Vec F S1x4096 .f32) :
    Σ' (L11 : List (View.Piece (Elt F) S1x128x4096 .bf16)), Σ' (L12 : List (View.Piece (Elt F) S1x4x64x128 .i8)), Σ' (L13 : List (View.Piece (Elt F) S1x4x4x128 .f32)), Σ' (L14 : List (View.Piece (Elt F) S1x4x4x128 .f32)), Σ' (L15 : List (View.Piece (Elt F) S1x4x64x128 .i8)), Σ' (L16 : List (View.Piece (Elt F) S1x4x128 .f32)), Σ' (L17 : List (View.Piece (Elt F) S1x4x128 .f32)), Σ' (LS0 : List (View.Piece (Elt F) S128x128 .bf16)), Σ' (LS1 : List (View.Piece (Elt F) S128x4096 .bf16)), Σ' (LS6 : List (View.Piece (Elt F) S128x4096 .f32)), Σ' (LS7 : List (View.Piece (Elt F) S1x4096 .f32)), Σ' (LS8 : List (View.Piece (Elt F) S1x4096 .f32)), Σ' (LT2 : List (View.Piece (Elt F) S4x1024x128 .bf16)), Σ' (LT3 : List (View.Piece (Elt F) S4x128x1024 .bf16)), Σ' (LT4 : List (View.Piece (Elt F) S128x128 .f32)), { LT5 : List (View.Piece (Elt F) S128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare xs0 ∗ owns (c : Thread nD τ) arg21 fullShare xs1 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ owns (c : Thread nD τ) arg26 fullShare xs6 ∗ owns (c : Thread nD τ) arg27 fullShare xs7 ∗ owns (c : Thread nD τ) arg28 fullShare xs8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ owns (c : Thread nD τ) arg20 fullShare xs0 ∗ owns (c : Thread nD τ) arg21 fullShare xs1 ∗ (∃ f, arg22.view.loc (c : Thread nD τ) ↦[arg22.view.set]{fullShare} arg22.view.writes (Elt F) f LT2) ∗ (∃ f, arg23.view.loc (c : Thread nD τ) ↦[arg23.view.set]{fullShare} arg23.view.writes (Elt F) f LT3) ∗ (∃ f, arg24.view.loc (c : Thread nD τ) ↦[arg24.view.set]{fullShare} arg24.view.writes (Elt F) f LT4) ∗ (∃ f, arg25.view.loc (c : Thread nD τ) ↦[arg25.view.set]{fullShare} arg25.view.writes (Elt F) f LT5) ∗ (∃ f, arg26.view.loc (c : Thread nD τ) ↦[arg26.view.set]{fullShare} arg26.view.writes (Elt F) f LS6) ∗ (∃ f, arg27.view.loc (c : Thread nD τ) ↦[arg27.view.set]{fullShare} arg27.view.writes (Elt F) f LS7) ∗ (∃ f, arg28.view.loc (c : Thread nD τ) ↦[arg28.view.set]{fullShare} arg28.view.writes (Elt F) f LS8)) -∗ K ⟨⟩))
          ⊢ wp frame (wpE (defs₀ (F := F)) Variants.none c none) E (cc0_kivi4_gqa_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, ?_, ?_, ?_, ?_, ?_, ?_, [], [], ?_, ?_, ?_, ?_, ?_, ?_, ?_, fun E K => ?run⟩
  case run =>
    simp only [cc0_kivi4_gqa_attention_eq_skeleton]; unfold cc0_kivi4_gqa_attention_skel
    simp only [k0_part146_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part145_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%fs0, %hfs0, HS0⟩, ⟨%fs1, %hfs1, HS1⟩, ⟨%ds2, %fs2, -, HS2⟩, ⟨%ds3, %fs3, -, HS3⟩, ⟨%ds4, %fs4, -, HS4⟩, ⟨%ds5, %fs5, -, HS5⟩, ⟨%fs6, %hfs6, HS6⟩, ⟨%fs7, %hfs7, HS7⟩, ⟨%fs8, %hfs8, HS8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg20.eq_unread hfs0; obtain rfl := harg21.eq_unread hfs1; obtain rfl := harg26.eq_unread hfs6; obtain rfl := harg27.eq_unread hfs7; obtain rfl := harg28.eq_unread hfs8
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [HS0]
    · iexists _; isplitr; · ipureintro; exact harg20.read_unread _
      iexact HS0
    isplitl [HS1]
    · iexists _; isplitr; · ipureintro; exact harg21.read_unread _
      iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    iexists _; iexact HS8

end Cert.KernelIdeal.Body

end
-- ==== Proof.KI.Body.lean ====
/-
  The three runs of the kernel's body at a grid point, on the pipeline's own staging buffers, with what each leaves in the
  scratch carried to the next point and in the output buffers named.
-/
module

public import proofs.«01_k».proof.Proof.KI.RunA
public import proofs.«01_k».proof.Proof.KI.RunB
public import proofs.«01_k».proof.Proof.KI.RunC

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F] [Named F]

local notation "𝕄" => MT nD τ sig Unit (Elt F) ℕ (UR sig nD τ) ℕ

/-- The contents of the eleven input buffers at one grid point. -/
structure Ins (F : FTy → Type) where
  x0 : Vec F S1x128x4096 .bf16
  x1 : Vec F S1x4x64x1024 .i8
  x2 : Vec F S1x128x128 .f32
  x3 : Vec F S1x128x128 .f32
  x4 : Vec F S1x4x64x1024 .i8
  x5 : Vec F S1x4x1024 .f32
  x6 : Vec F S1x4x1024 .f32
  x7 : Vec F S1x4x128x128 .bf16
  x8 : Vec F S1x4x128x128 .bf16
  x9 : Vec F S1x4x128x128 .bf16
  x10 : Vec F S1x4x128x128 .bf16

/-- The contents of the five scratch buffers carried from point to point: the permutation matrix, the permuted queries,
    the accumulator, the running maximum and the running sum. -/
structure Scr (F : FTy → Type) where
  s0 : Vec F S128x128 .bf16
  s1 : Vec F S128x4096 .bf16
  s6 : Vec F S128x4096 .f32
  s7 : Vec F S1x4096 .f32
  s8 : Vec F S1x4096 .f32

/-- The body's run at the first point of a batch row. -/
abbrev rA (c : Dev nD) (t : Fin cfg0.N) (h : t.val % 16 = 0) (x : Ins F) :=
  run_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h) ((hcond0_1 t).mpr (by omega)) (fun h' => by have := (hcond0_2 t).mp h'; omega) (fun h' => by have := (hcond0_3 t).mp h'; omega) x.x0 x.x1 x.x2 x.x3 x.x4 x.x5 x.x6 x.x7 x.x8 x.x9 x.x10

/-- The pieces it writes to scratch 0 cover it. -/
theorem coverA_s0 (c : Dev nD) (t : Fin cfg0.N) (h : t.val % 16 = 0) (x : Ins F) (y : S128x128.Idx) : ∃ pc ∈ (rA c t h x).2.2.2.2.2.2.2.1, y ∈ pc.1.set :=
  View.cover_of_tiledL (rA c t h x).2.2.2.2.2.2.2.1 S128x128.size (by sl_kernel_rfl) y

/-- The pieces it writes to scratch 1 cover it. -/
theorem coverA_s1 (c : Dev nD) (t : Fin cfg0.N) (h : t.val % 16 = 0) (x : Ins F) (y : S128x4096.Idx) : ∃ pc ∈ (rA c t h x).2.2.2.2.2.2.2.2.1, y ∈ pc.1.set :=
  View.cover_of_tiledL (rA c t h x).2.2.2.2.2.2.2.2.1 S128x128.size (by sl_kernel_rfl) y

/-- The pieces it writes to scratch 6 cover it. -/
theorem coverA_s6 (c : Dev nD) (t : Fin cfg0.N) (h : t.val % 16 = 0) (x : Ins F) (y : S128x4096.Idx) : ∃ pc ∈ (rA c t h x).2.2.2.2.2.2.2.2.2.1, y ∈ pc.1.set :=
  View.cover_of_wholeMem (rA c t h x).2.2.2.2.2.2.2.2.2.1 (by sl_whole_mem) y

/-- The pieces it writes to scratch 7 cover it. -/
theorem coverA_s7 (c : Dev nD) (t : Fin cfg0.N) (h : t.val % 16 = 0) (x : Ins F) (y : S1x4096.Idx) : ∃ pc ∈ (rA c t h x).2.2.2.2.2.2.2.2.2.2.1, y ∈ pc.1.set :=
  View.cover_of_wholeMem (rA c t h x).2.2.2.2.2.2.2.2.2.2.1 (by sl_whole_mem) y

/-- The pieces it writes to scratch 8 cover it. -/
theorem coverA_s8 (c : Dev nD) (t : Fin cfg0.N) (h : t.val % 16 = 0) (x : Ins F) (y : S1x4096.Idx) : ∃ pc ∈ (rA c t h x).2.2.2.2.2.2.2.2.2.2.2.1, y ∈ pc.1.set :=
  View.cover_of_wholeMem (rA c t h x).2.2.2.2.2.2.2.2.2.2.2.1 (by sl_whole_mem) y

/-- The carried scratch after it. -/
def afterA (c : Dev nD) (t : Fin cfg0.N) (h : t.val % 16 = 0) (x : Ins F) : Scr F where
  s0 := VS0_0.read (Elt F) (VS0_0.writes (Elt F) VS0_0.junk (rA c t h x).2.2.2.2.2.2.2.1)
  s1 := VS0_1.read (Elt F) (VS0_1.writes (Elt F) VS0_1.junk (rA c t h x).2.2.2.2.2.2.2.2.1)
  s6 := VS0_6.read (Elt F) (VS0_6.writes (Elt F) VS0_6.junk (rA c t h x).2.2.2.2.2.2.2.2.2.1)
  s7 := VS0_7.read (Elt F) (VS0_7.writes (Elt F) VS0_7.junk (rA c t h x).2.2.2.2.2.2.2.2.2.2.1)
  s8 := VS0_8.read (Elt F) (VS0_8.writes (Elt F) VS0_8.junk (rA c t h x).2.2.2.2.2.2.2.2.2.2.2.1)

/-- The body's run at a point in the middle of a batch row. -/
abbrev rB (c : Dev nD) (t : Fin cfg0.N) (h : t.val % 16 ≠ 0 ∧ t.val % 16 ≠ 15) (x : Ins F) (s : Scr F) :=
  run_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h' => by have := (hcond0_0 t).mp h'; omega) ((hcond0_1 t).mpr (by omega)) (fun h' => by have := (hcond0_2 t).mp h'; omega) (fun h' => by have := (hcond0_3 t).mp h'; omega) x.x0 x.x1 x.x2 x.x3 x.x4 x.x5 x.x6 x.x7 x.x8 x.x9 x.x10 s.s0 s.s1 s.s6 s.s7 s.s8

/-- The pieces it writes to scratch 6 cover it. -/
theorem coverB_s6 (c : Dev nD) (t : Fin cfg0.N) (h : t.val % 16 ≠ 0 ∧ t.val % 16 ≠ 15) (x : Ins F) (s : Scr F) (y : S128x4096.Idx) : ∃ pc ∈ (rB c t h x s).2.2.2.2.2.2.2.2.2.1, y ∈ pc.1.set :=
  View.cover_of_tiledL (rB c t h x s).2.2.2.2.2.2.2.2.2.1 S128x256.size (by sl_kernel_rfl) y

/-- The pieces it writes to scratch 7 cover it. -/
theorem coverB_s7 (c : Dev nD) (t : Fin cfg0.N) (h : t.val % 16 ≠ 0 ∧ t.val % 16 ≠ 15) (x : Ins F) (s : Scr F) (y : S1x4096.Idx) : ∃ pc ∈ (rB c t h x s).2.2.2.2.2.2.2.2.2.2.1, y ∈ pc.1.set :=
  View.cover_of_tiledL (rB c t h x s).2.2.2.2.2.2.2.2.2.2.1 S1x256.size (by sl_kernel_rfl) y

/-- The pieces it writes to scratch 8 cover it. -/
theorem coverB_s8 (c : Dev nD) (t : Fin cfg0.N) (h : t.val % 16 ≠ 0 ∧ t.val % 16 ≠ 15) (x : Ins F) (s : Scr F) (y : S1x4096.Idx) : ∃ pc ∈ (rB c t h x s).2.2.2.2.2.2.2.2.2.2.2.1, y ∈ pc.1.set :=
  View.cover_of_tiledL (rB c t h x s).2.2.2.2.2.2.2.2.2.2.2.1 S1x256.size (by sl_kernel_rfl) y

/-- The carried scratch after it. -/
def afterB (c : Dev nD) (t : Fin cfg0.N) (h : t.val % 16 ≠ 0 ∧ t.val % 16 ≠ 15) (x : Ins F) (s : Scr F) : Scr F where
  s0 := s.s0
  s1 := s.s1
  s6 := VS0_6.read (Elt F) (VS0_6.writes (Elt F) VS0_6.junk (rB c t h x s).2.2.2.2.2.2.2.2.2.1)
  s7 := VS0_7.read (Elt F) (VS0_7.writes (Elt F) VS0_7.junk (rB c t h x s).2.2.2.2.2.2.2.2.2.2.1)
  s8 := VS0_8.read (Elt F) (VS0_8.writes (Elt F) VS0_8.junk (rB c t h x s).2.2.2.2.2.2.2.2.2.2.2.1)

/-- The body's run at the last point of a batch row. -/
abbrev rC (c : Dev nD) (t : Fin cfg0.N) (h : t.val % 16 = 15) (x : Ins F) (s : Scr F) :=
  run_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h' => by have := (hcond0_0 t).mp h'; omega) (fun h' => by have := (hcond0_1 t).mp h'; omega) ((hcond0_2 t).mpr h) ((hcond0_3 t).mpr h) x.x0 x.x1 x.x2 x.x3 x.x4 x.x5 x.x6 x.x7 x.x8 x.x9 x.x10 s.s0 s.s1 s.s6 s.s7 s.s8

/-- The pieces it writes to scratch 6 cover it. -/
theorem coverC_s6 (c : Dev nD) (t : Fin cfg0.N) (h : t.val % 16 = 15) (x : Ins F) (s : Scr F) (y : S128x4096.Idx) : ∃ pc ∈ (rC c t h x s).2.2.2.2.2.2.2.2.2.1, y ∈ pc.1.set :=
  View.cover_of_tiledL (rC c t h x s).2.2.2.2.2.2.2.2.2.1 S128x256.size (by sl_kernel_rfl) y

/-- The pieces it writes to scratch 7 cover it. -/
theorem coverC_s7 (c : Dev nD) (t : Fin cfg0.N) (h : t.val % 16 = 15) (x : Ins F) (s : Scr F) (y : S1x4096.Idx) : ∃ pc ∈ (rC c t h x s).2.2.2.2.2.2.2.2.2.2.1, y ∈ pc.1.set :=
  View.cover_of_tiledL (rC c t h x s).2.2.2.2.2.2.2.2.2.2.1 S1x256.size (by sl_kernel_rfl) y

/-- The pieces it writes to scratch 8 cover it. -/
theorem coverC_s8 (c : Dev nD) (t : Fin cfg0.N) (h : t.val % 16 = 15) (x : Ins F) (s : Scr F) (y : S1x4096.Idx) : ∃ pc ∈ (rC c t h x s).2.2.2.2.2.2.2.2.2.2.2.1, y ∈ pc.1.set :=
  View.cover_of_tiledL (rC c t h x s).2.2.2.2.2.2.2.2.2.2.2.1 S1x256.size (by sl_kernel_rfl) y

/-- The pieces it writes to output 11 cover it. -/
theorem coverC_o11 (c : Dev nD) (t : Fin cfg0.N) (h : t.val % 16 = 15) (x : Ins F) (s : Scr F) (y : S1x128x4096.Idx) : ∃ pc ∈ (rC c t h x s).1, y ∈ pc.1.set :=
  View.cover_of_tiledL (rC c t h x s).1 S1x128x128.size (by sl_kernel_rfl) y

/-- What it leaves in output 11. -/
def outC_11 (c : Dev nD) (t : Fin cfg0.N) (h : t.val % 16 = 15) (x : Ins F) (s : Scr F) : Vec F S1x128x4096 .bf16 :=
  (ms0_11 t).view.read (Elt F) ((ms0_11 t).view.writes (Elt F) (ms0_11 t).view.junk (rC c t h x s).1)

/-- The pieces it writes to output 12 cover it. -/
theorem coverC_o12 (c : Dev nD) (t : Fin cfg0.N) (h : t.val % 16 = 15) (x : Ins F) (s : Scr F) (y : S1x4x64x128.Idx) : ∃ pc ∈ (rC c t h x s).2.1, y ∈ pc.1.set :=
  View.cover_of_tiledL (rC c t h x s).2.1 S1x1x64x128.size (by sl_kernel_rfl) y

/-- What it leaves in output 12. -/
def outC_12 (c : Dev nD) (t : Fin cfg0.N) (h : t.val % 16 = 15) (x : Ins F) (s : Scr F) : Vec F S1x4x64x128 .i8 :=
  (ms0_12 t).view.read (Elt F) ((ms0_12 t).view.writes (Elt F) (ms0_12 t).view.junk (rC c t h x s).2.1)

/-- The pieces it writes to output 13 cover it. -/
theorem coverC_o13 (c : Dev nD) (t : Fin cfg0.N) (h : t.val % 16 = 15) (x : Ins F) (s : Scr F) (y : S1x4x4x128.Idx) : ∃ pc ∈ (rC c t h x s).2.2.1, y ∈ pc.1.set :=
  View.cover_of_tiledL (rC c t h x s).2.2.1 S1x1x4x128.size (by sl_kernel_rfl) y

/-- What it leaves in output 13. -/
def outC_13 (c : Dev nD) (t : Fin cfg0.N) (h : t.val % 16 = 15) (x : Ins F) (s : Scr F) : Vec F S1x4x4x128 .f32 :=
  (ms0_13 t).view.read (Elt F) ((ms0_13 t).view.writes (Elt F) (ms0_13 t).view.junk (rC c t h x s).2.2.1)

/-- The pieces it writes to output 14 cover it. -/
theorem coverC_o14 (c : Dev nD) (t : Fin cfg0.N) (h : t.val % 16 = 15) (x : Ins F) (s : Scr F) (y : S1x4x4x128.Idx) : ∃ pc ∈ (rC c t h x s).2.2.2.1, y ∈ pc.1.set :=
  View.cover_of_tiledL (rC c t h x s).2.2.2.1 S1x1x4x128.size (by sl_kernel_rfl) y

/-- What it leaves in output 14. -/
def outC_14 (c : Dev nD) (t : Fin cfg0.N) (h : t.val % 16 = 15) (x : Ins F) (s : Scr F) : Vec F S1x4x4x128 .f32 :=
  (ms0_14 t).view.read (Elt F) ((ms0_14 t).view.writes (Elt F) (ms0_14 t).view.junk (rC c t h x s).2.2.2.1)

/-- The pieces it writes to output 15 cover it. -/
theorem coverC_o15 (c : Dev nD) (t : Fin cfg0.N) (h : t.val % 16 = 15) (x : Ins F) (s : Scr F) (y : S1x4x64x128.Idx) : ∃ pc ∈ (rC c t h x s).2.2.2.2.1, y ∈ pc.1.set :=
  View.cover_of_tiledL (rC c t h x s).2.2.2.2.1 S1x1x64x128.size (by sl_kernel_rfl) y

/-- What it leaves in output 15. -/
def outC_15 (c : Dev nD) (t : Fin cfg0.N) (h : t.val % 16 = 15) (x : Ins F) (s : Scr F) : Vec F S1x4x64x128 .i8 :=
  (ms0_15 t).view.read (Elt F) ((ms0_15 t).view.writes (Elt F) (ms0_15 t).view.junk (rC c t h x s).2.2.2.2.1)

/-- The pieces it writes to output 16 cover it. -/
theorem coverC_o16 (c : Dev nD) (t : Fin cfg0.N) (h : t.val % 16 = 15) (x : Ins F) (s : Scr F) (y : S1x4x128.Idx) : ∃ pc ∈ (rC c t h x s).2.2.2.2.2.1, y ∈ pc.1.set :=
  View.cover_of_tiledL (rC c t h x s).2.2.2.2.2.1 S1x1x128.size (by sl_kernel_rfl) y

/-- What it leaves in output 16. -/
def outC_16 (c : Dev nD) (t : Fin cfg0.N) (h : t.val % 16 = 15) (x : Ins F) (s : Scr F) : Vec F S1x4x128 .f32 :=
  (ms0_16 t).view.read (Elt F) ((ms0_16 t).view.writes (Elt F) (ms0_16 t).view.junk (rC c t h x s).2.2.2.2.2.1)

/-- The pieces it writes to output 17 cover it. -/
theorem coverC_o17 (c : Dev nD) (t : Fin cfg0.N) (h : t.val % 16 = 15) (x : Ins F) (s : Scr F) (y : S1x4x128.Idx) : ∃ pc ∈ (rC c t h x s).2.2.2.2.2.2.1, y ∈ pc.1.set :=
  View.cover_of_tiledL (rC c t h x s).2.2.2.2.2.2.1 S1x1x128.size (by sl_kernel_rfl) y

/-- What it leaves in output 17. -/
def outC_17 (c : Dev nD) (t : Fin cfg0.N) (h : t.val % 16 = 15) (x : Ins F) (s : Scr F) : Vec F S1x4x128 .f32 :=
  (ms0_17 t).view.read (Elt F) ((ms0_17 t).view.writes (Elt F) (ms0_17 t).view.junk (rC c t h x s).2.2.2.2.2.2.1)

/-- The carried scratch after it. -/
def afterC (c : Dev nD) (t : Fin cfg0.N) (h : t.val % 16 = 15) (x : Ins F) (s : Scr F) : Scr F where
  s0 := s.s0
  s1 := s.s1
  s6 := VS0_6.read (Elt F) (VS0_6.writes (Elt F) VS0_6.junk (rC c t h x s).2.2.2.2.2.2.2.2.2.1)
  s7 := VS0_7.read (Elt F) (VS0_7.writes (Elt F) VS0_7.junk (rC c t h x s).2.2.2.2.2.2.2.2.2.2.1)
  s8 := VS0_8.read (Elt F) (VS0_8.writes (Elt F) VS0_8.junk (rC c t h x s).2.2.2.2.2.2.2.2.2.2.2.1)

end Cert.KernelIdeal.Body

end
-- ==== Proof.KI.Frame.lean ====
/-
  The frame of the kernel's launch, over relational proof data: a certificate states what the carried scratch satisfies
  before each point (`Track.Inv`) and what each output buffer satisfies where it is written back (`Track.O·`), proves that the
  three runs of the body keep it (`Steps`), and gets the run. At the trivial tracking this is the frame claim.
-/
module

public import proofs.«01_k».proof.Proof.KI.Body
public import Idealize.ShloMosaic.Lib.Pipeline.Frame
public import Idealize.ShloMosaic.Lib.Quiescent

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What is tracked: of the carried scratch before point `n`, and of each output buffer after the last point of a batch row. -/
structure Track (F : FTy → Type) where
  Inv : ℕ → Scr F → Prop
  O11 : ℕ → Vec F S1x128x4096 .bf16 → Prop
  O12 : ℕ → Vec F S1x4x64x128 .i8 → Prop
  O13 : ℕ → Vec F S1x4x4x128 .f32 → Prop
  O14 : ℕ → Vec F S1x4x4x128 .f32 → Prop
  O15 : ℕ → Vec F S1x4x64x128 .i8 → Prop
  O16 : ℕ → Vec F S1x4x128 .f32 → Prop
  O17 : ℕ → Vec F S1x4x128 .f32 → Prop

/-- Nothing tracked. -/
def Track.none : Track F where
  Inv _ _ := True
  O11 _ _ := True
  O12 _ _ := True
  O13 _ _ := True
  O14 _ _ := True
  O15 _ _ := True
  O16 _ _ := True
  O17 _ _ := True

/-- The input buffers hold their blocks at point `t`: each is some contents overwritten, on the part inside its array, by the block. -/
def Blocks (c : Dev nD) (t : Fin cfg0.N) (x : Ins F) : Prop :=
  (∃ d, x.x0 = (cfg0.win 0).fill (cfg0.grid.coords t) d (iblk m c 0 t))
  ∧ (∃ d, x.x1 = (cfg0.win 1).fill (cfg0.grid.coords t) d (iblk m c 1 t))
  ∧ (∃ d, x.x2 = (cfg0.win 2).fill (cfg0.grid.coords t) d (iblk m c 2 t))
  ∧ (∃ d, x.x3 = (cfg0.win 3).fill (cfg0.grid.coords t) d (iblk m c 3 t))
  ∧ (∃ d, x.x4 = (cfg0.win 4).fill (cfg0.grid.coords t) d (iblk m c 4 t))
  ∧ (∃ d, x.x5 = (cfg0.win 5).fill (cfg0.grid.coords t) d (iblk m c 5 t))
  ∧ (∃ d, x.x6 = (cfg0.win 6).fill (cfg0.grid.coords t) d (iblk m c 6 t))
  ∧ (∃ d, x.x7 = (cfg0.win 7).fill (cfg0.grid.coords t) d (iblk m c 7 t))
  ∧ (∃ d, x.x8 = (cfg0.win 8).fill (cfg0.grid.coords t) d (iblk m c 8 t))
  ∧ (∃ d, x.x9 = (cfg0.win 9).fill (cfg0.grid.coords t) d (iblk m c 9 t))
  ∧ (∃ d, x.x10 = (cfg0.win 10).fill (cfg0.grid.coords t) d (iblk m c 10 t))

/-- The three runs of the body keep the tracking. -/
structure Steps (c : Dev nD) (T : Track F) : Prop where
  inv0 : ∀ s, T.Inv 0 s
  stepA : ∀ t h x, Blocks m c t x → T.Inv (t.val + 1) (afterA c t h x)
  stepB : ∀ t h x s, Blocks m c t x → T.Inv t.val s → T.Inv (t.val + 1) (afterB c t h x s)
  stepC : ∀ t h x s, Blocks m c t x → T.Inv t.val s → T.Inv (t.val + 1) (afterC c t h x s)
  out11 : ∀ t h x s, Blocks m c t x → T.Inv t.val s → T.O11 t.val (outC_11 c t h x s)
  out12 : ∀ t h x s, Blocks m c t x → T.Inv t.val s → T.O12 t.val (outC_12 c t h x s)
  out13 : ∀ t h x s, Blocks m c t x → T.Inv t.val s → T.O13 t.val (outC_13 c t h x s)
  out14 : ∀ t h x s, Blocks m c t x → T.Inv t.val s → T.O14 t.val (outC_14 c t h x s)
  out15 : ∀ t h x s, Blocks m c t x → T.Inv t.val s → T.O15 t.val (outC_15 c t h x s)
  out16 : ∀ t h x s, Blocks m c t x → T.Inv t.val s → T.O16 t.val (outC_16 c t h x s)
  out17 : ∀ t h x s, Blocks m c t x → T.Inv t.val s → T.O17 t.val (outC_17 c t h x s)

/-- Nothing tracked is kept. -/
theorem Steps.none (c : Dev nD) : Steps m c (Track.none (F := F)) :=
  ⟨fun _ => trivial, fun _ _ _ _ => trivial, fun _ _ _ _ _ _ => trivial, fun _ _ _ _ _ _ => trivial, fun _ _ _ _ _ _ => trivial, fun _ _ _ _ _ _ => trivial, fun _ _ _ _ _ _ => trivial, fun _ _ _ _ _ _ => trivial, fun _ _ _ _ _ _ => trivial, fun _ _ _ _ _ _ => trivial, fun _ _ _ _ _ _ => trivial⟩

/-- The invariant before point `n`: the carried scratch holds something satisfying `Inv n`, the other scratch and the generator
    register anything. -/
def Phi (T : Track F) (c : Dev nD) (n : ℕ) : sProp 𝕄 :=
  iprop(∃ s : Scr F, ⌜T.Inv n s⌝ ∗ iprop(owns (c : Thread nD τ) scM0_0 fullShare s.s0 ∗ owns (c : Thread nD τ) scM0_1 fullShare s.s1 ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare s.s6 ∗ owns (c : Thread nD τ) scM0_7 fullShare s.s7 ∗ owns (c : Thread nD τ) scM0_8 fullShare s.s8) ∗ (∃ r, prngReg c r))

/-- The relational proof data: an input buffer is left as found, an output buffer satisfies what is tracked at the last point of
    a batch row. -/
def rdat (T : Track F) (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = Y
    | ⟨8, _⟩ => fun Y X => X = Y
    | ⟨9, _⟩ => fun Y X => X = Y
    | ⟨10, _⟩ => fun Y X => X = Y
    | ⟨11, _⟩ => fun _ X => t.val % 16 = 15 → T.O11 t.val X
    | ⟨12, _⟩ => fun _ X => t.val % 16 = 15 → T.O12 t.val X
    | ⟨13, _⟩ => fun _ X => t.val % 16 = 15 → T.O13 t.val X
    | ⟨14, _⟩ => fun _ X => t.val % 16 = 15 → T.O14 t.val X
    | ⟨15, _⟩ => fun _ X => t.val % 16 = 15 → T.O15 t.val X
    | ⟨16, _⟩ => fun _ X => t.val % 16 = 15 → T.O16 t.val X
    | ⟨17, _⟩ => fun _ X => t.val % 16 = 15 → T.O17 t.val X
    | ⟨_ + 18, h⟩ => absurd h (Nat.not_lt.2 (Nat.le_add_left _ _))
  Φ t := Phi T c t.val
  q _ := fullShare
  owed _ := 0

theorem blocks_0 (T : Track F) (c : Dev nD) (t : Fin cfg0.N) (Y) (h : (rdat m T c).Finds 0 t Y) :
    ∃ d, Y = (cfg0.win 0).fill (cfg0.grid.coords t) d (iblk m c 0 t) :=
  (rdat m T c).finds_in_eq_fetched 0 rfl (fun _ _ _ => rfl) (fun _ _ _ h => h) t Y h

theorem blocks_1 (T : Track F) (c : Dev nD) (t : Fin cfg0.N) (Y) (h : (rdat m T c).Finds 1 t Y) :
    ∃ d, Y = (cfg0.win 1).fill (cfg0.grid.coords t) d (iblk m c 1 t) :=
  (rdat m T c).finds_in_eq_fetched 1 rfl (fun _ _ h => funext fun a => congrArg (fun n => Idealize.ShloMosaic.Pipeline.Clip.of n _ _) (congrFun h a)) (fun _ _ _ h => h) t Y h

theorem blocks_2 (T : Track F) (c : Dev nD) (t : Fin cfg0.N) (Y) (h : (rdat m T c).Finds 2 t Y) :
    ∃ d, Y = (cfg0.win 2).fill (cfg0.grid.coords t) d (iblk m c 2 t) :=
  (rdat m T c).finds_in_eq_fetched 2 rfl (fun _ _ h => funext fun a => congrArg (fun n => Idealize.ShloMosaic.Pipeline.Clip.of n _ _) (congrFun h a)) (fun _ _ _ h => h) t Y h

theorem blocks_3 (T : Track F) (c : Dev nD) (t : Fin cfg0.N) (Y) (h : (rdat m T c).Finds 3 t Y) :
    ∃ d, Y = (cfg0.win 3).fill (cfg0.grid.coords t) d (iblk m c 3 t) :=
  (rdat m T c).finds_in_eq_fetched 3 rfl (fun _ _ h => funext fun a => congrArg (fun n => Idealize.ShloMosaic.Pipeline.Clip.of n _ _) (congrFun h a)) (fun _ _ _ h => h) t Y h

theorem blocks_4 (T : Track F) (c : Dev nD) (t : Fin cfg0.N) (Y) (h : (rdat m T c).Finds 4 t Y) :
    ∃ d, Y = (cfg0.win 4).fill (cfg0.grid.coords t) d (iblk m c 4 t) :=
  (rdat m T c).finds_in_eq_fetched 4 rfl (fun _ _ h => funext fun a => congrArg (fun n => Idealize.ShloMosaic.Pipeline.Clip.of n _ _) (congrFun h a)) (fun _ _ _ h => h) t Y h

theorem blocks_5 (T : Track F) (c : Dev nD) (t : Fin cfg0.N) (Y) (h : (rdat m T c).Finds 5 t Y) :
    ∃ d, Y = (cfg0.win 5).fill (cfg0.grid.coords t) d (iblk m c 5 t) :=
  (rdat m T c).finds_in_eq_fetched 5 rfl (fun _ _ h => funext fun a => congrArg (fun n => Idealize.ShloMosaic.Pipeline.Clip.of n _ _) (congrFun h a)) (fun _ _ _ h => h) t Y h

theorem blocks_6 (T : Track F) (c : Dev nD) (t : Fin cfg0.N) (Y) (h : (rdat m T c).Finds 6 t Y) :
    ∃ d, Y = (cfg0.win 6).fill (cfg0.grid.coords t) d (iblk m c 6 t) :=
  (rdat m T c).finds_in_eq_fetched 6 rfl (fun _ _ h => funext fun a => congrArg (fun n => Idealize.ShloMosaic.Pipeline.Clip.of n _ _) (congrFun h a)) (fun _ _ _ h => h) t Y h

theorem blocks_7 (T : Track F) (c : Dev nD) (t : Fin cfg0.N) (Y) (h : (rdat m T c).Finds 7 t Y) :
    ∃ d, Y = (cfg0.win 7).fill (cfg0.grid.coords t) d (iblk m c 7 t) :=
  (rdat m T c).finds_in_eq_fetched 7 rfl (fun _ _ _ => rfl) (fun _ _ _ h => h) t Y h

theorem blocks_8 (T : Track F) (c : Dev nD) (t : Fin cfg0.N) (Y) (h : (rdat m T c).Finds 8 t Y) :
    ∃ d, Y = (cfg0.win 8).fill (cfg0.grid.coords t) d (iblk m c 8 t) :=
  (rdat m T c).finds_in_eq_fetched 8 rfl (fun _ _ _ => rfl) (fun _ _ _ h => h) t Y h

theorem blocks_9 (T : Track F) (c : Dev nD) (t : Fin cfg0.N) (Y) (h : (rdat m T c).Finds 9 t Y) :
    ∃ d, Y = (cfg0.win 9).fill (cfg0.grid.coords t) d (iblk m c 9 t) :=
  (rdat m T c).finds_in_eq_fetched 9 rfl (fun _ _ _ => rfl) (fun _ _ _ h => h) t Y h

theorem blocks_10 (T : Track F) (c : Dev nD) (t : Fin cfg0.N) (Y) (h : (rdat m T c).Finds 10 t Y) :
    ∃ d, Y = (cfg0.win 10).fill (cfg0.grid.coords t) d (iblk m c 10 t) :=
  (rdat m T c).finds_in_eq_fetched 10 rfl (fun _ _ _ => rfl) (fun _ _ _ h => h) t Y h

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The body's triple at a point of case A. -/
theorem sound_A (T : Track F) (c : Dev nD) (hT : Steps m c T) (t : Fin cfg0.N) (h : t.val % 16 = 0) (x : Ins F) (hb : Blocks m c t x) (y11 : Vec F S1x128x4096 .bf16) (y12 : Vec F S1x4x64x128 .i8) (y13 : Vec F S1x4x4x128 .f32) (y14 : Vec F S1x4x4x128 .f32) (y15 : Vec F S1x4x64x128 .i8) (y16 : Vec F S1x4x128 .f32) (y17 : Vec F S1x4x128 .f32) (O : sProp 𝕄) :
    iprop(Phi T c t.val ∗ O ∗ owns (c : Thread nD τ) (ms0_0 t) fullShare x.x0 ∗ owns (c : Thread nD τ) (ms0_1 t) fullShare x.x1 ∗ owns (c : Thread nD τ) (ms0_2 t) fullShare x.x2 ∗ owns (c : Thread nD τ) (ms0_3 t) fullShare x.x3 ∗ owns (c : Thread nD τ) (ms0_4 t) fullShare x.x4 ∗ owns (c : Thread nD τ) (ms0_5 t) fullShare x.x5 ∗ owns (c : Thread nD τ) (ms0_6 t) fullShare x.x6 ∗ owns (c : Thread nD τ) (ms0_7 t) fullShare x.x7 ∗ owns (c : Thread nD τ) (ms0_8 t) fullShare x.x8 ∗ owns (c : Thread nD τ) (ms0_9 t) fullShare x.x9 ∗ owns (c : Thread nD τ) (ms0_10 t) fullShare x.x10 ∗ owns (c : Thread nD τ) (ms0_11 t) fullShare y11 ∗ owns (c : Thread nD τ) (ms0_12 t) fullShare y12 ∗ owns (c : Thread nD τ) (ms0_13 t) fullShare y13 ∗ owns (c : Thread nD τ) (ms0_14 t) fullShare y14 ∗ owns (c : Thread nD τ) (ms0_15 t) fullShare y15 ∗ owns (c : Thread nD τ) (ms0_16 t) fullShare y16 ∗ owns (c : Thread nD τ) (ms0_17 t) fullShare y17)
    ⊢ wp frame (wpE (defs₀ (F := F)) Variants.none c none) Set.univ (bodyAt0 t) (fun _ => iprop(Phi T c (t.val + 1) ∗ O ∗ (∃ X, ⌜X = x.x0⌝ ∗ owns (c : Thread nD τ) (ms0_0 t) fullShare X) ∗ (∃ X, ⌜X = x.x1⌝ ∗ owns (c : Thread nD τ) (ms0_1 t) fullShare X) ∗ (∃ X, ⌜X = x.x2⌝ ∗ owns (c : Thread nD τ) (ms0_2 t) fullShare X) ∗ (∃ X, ⌜X = x.x3⌝ ∗ owns (c : Thread nD τ) (ms0_3 t) fullShare X) ∗ (∃ X, ⌜X = x.x4⌝ ∗ owns (c : Thread nD τ) (ms0_4 t) fullShare X) ∗ (∃ X, ⌜X = x.x5⌝ ∗ owns (c : Thread nD τ) (ms0_5 t) fullShare X) ∗ (∃ X, ⌜X = x.x6⌝ ∗ owns (c : Thread nD τ) (ms0_6 t) fullShare X) ∗ (∃ X, ⌜X = x.x7⌝ ∗ owns (c : Thread nD τ) (ms0_7 t) fullShare X) ∗ (∃ X, ⌜X = x.x8⌝ ∗ owns (c : Thread nD τ) (ms0_8 t) fullShare X) ∗ (∃ X, ⌜X = x.x9⌝ ∗ owns (c : Thread nD τ) (ms0_9 t) fullShare X) ∗ (∃ X, ⌜X = x.x10⌝ ∗ owns (c : Thread nD τ) (ms0_10 t) fullShare X) ∗ (∃ X, ⌜t.val % 16 = 15 → T.O11 t.val X⌝ ∗ owns (c : Thread nD τ) (ms0_11 t) fullShare X) ∗ (∃ X, ⌜t.val % 16 = 15 → T.O12 t.val X⌝ ∗ owns (c : Thread nD τ) (ms0_12 t) fullShare X) ∗ (∃ X, ⌜t.val % 16 = 15 → T.O13 t.val X⌝ ∗ owns (c : Thread nD τ) (ms0_13 t) fullShare X) ∗ (∃ X, ⌜t.val % 16 = 15 → T.O14 t.val X⌝ ∗ owns (c : Thread nD τ) (ms0_14 t) fullShare X) ∗ (∃ X, ⌜t.val % 16 = 15 → T.O15 t.val X⌝ ∗ owns (c : Thread nD τ) (ms0_15 t) fullShare X) ∗ (∃ X, ⌜t.val % 16 = 15 → T.O16 t.val X⌝ ∗ owns (c : Thread nD τ) (ms0_16 t) fullShare X) ∗ (∃ X, ⌜t.val % 16 = 15 → T.O17 t.val X⌝ ∗ owns (c : Thread nD τ) (ms0_17 t) fullShare X))) := by
  unfold Phi bodyAt0
  iintro ⟨⟨%s, %hs, ⟨HS0, HS1, HS2, HS3, HS4, HS5, HS6, HS7, HS8⟩, Hg⟩, Ho, H0, H1, H2, H3, H4, H5, H6, H7, H8, H9, H10, H11, H12, H13, H14, H15, H16, H17⟩
  iapply ((rA c t h x).2.2.2.2.2.2.2.2.2.2.2.2.2.2.2.2 _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [HS0]; · iexists _; iexact HS0
  isplitl [HS1]; · iexists _; iexact HS1
  isplitl [HS2]; · iexact HS2
  isplitl [HS3]; · iexact HS3
  isplitl [HS4]; · iexact HS4
  isplitl [HS5]; · iexact HS5
  isplitl [HS6]; · iexists _; iexact HS6
  isplitl [HS7]; · iexists _; iexact HS7
  isplitl [HS8]; · iexists _; iexact HS8
  iintro ⟨H0, H1, H2, H3, H4, H5, H6, H7, H8, H9, H10, H11, H12, H13, H14, H15, H16, H17, ⟨%f0, HS0⟩, ⟨%f1, HS1⟩, ⟨%f2, HS2⟩, ⟨%f3, HS3⟩, ⟨%f4, HS4⟩, ⟨%f5, HS5⟩, ⟨%f6, HS6⟩, ⟨%f7, HS7⟩, ⟨%f8, HS8⟩⟩
  isplitl [HS0 HS1 HS2 HS3 HS4 HS5 HS6 HS7 HS8 Hg]
  · iexists (afterA c t h x)
    isplitr; · ipureintro; exact hT.stepA t h x hb
    isplitl [HS0 HS1 HS2 HS3 HS4 HS5 HS6 HS7 HS8]
    · isplitl [HS0]
      · unfold owns; iexists _; isplitr
        swap; · iexact HS0
        ipureintro; exact View.read_writes_of_cover _ _ VS0_0 VS0_0.junk _ (coverA_s0 c t h x)
      isplitl [HS1]
      · unfold owns; iexists _; isplitr
        swap; · iexact HS1
        ipureintro; exact View.read_writes_of_cover _ _ VS0_1 VS0_1.junk _ (coverA_s1 c t h x)
      isplitl [HS2]
      · iexists _; unfold owns; iexists _; isplitr
        swap; · iexact HS2
        ipureintro; rfl
      isplitl [HS3]
      · iexists _; unfold owns; iexists _; isplitr
        swap; · iexact HS3
        ipureintro; rfl
      isplitl [HS4]
      · iexists _; unfold owns; iexists _; isplitr
        swap; · iexact HS4
        ipureintro; rfl
      isplitl [HS5]
      · iexists _; unfold owns; iexists _; isplitr
        swap; · iexact HS5
        ipureintro; rfl
      isplitl [HS6]
      · unfold owns; iexists _; isplitr
        swap; · iexact HS6
        ipureintro; exact View.read_writes_of_cover _ _ VS0_6 VS0_6.junk _ (coverA_s6 c t h x)
      isplitl [HS7]
      · unfold owns; iexists _; isplitr
        swap; · iexact HS7
        ipureintro; exact View.read_writes_of_cover _ _ VS0_7 VS0_7.junk _ (coverA_s7 c t h x)
      unfold owns; iexists _; isplitr
      swap; · iexact HS8
      ipureintro; exact View.read_writes_of_cover _ _ VS0_8 VS0_8.junk _ (coverA_s8 c t h x)
    iexact Hg
  isplitl [Ho]; · iexact Ho
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  isplitl [H11]
  · iexists _; isplitr
    swap; · iexact H11
    ipureintro; intro h15; exfalso; omega
  isplitl [H12]
  · iexists _; isplitr
    swap; · iexact H12
    ipureintro; intro h15; exfalso; omega
  isplitl [H13]
  · iexists _; isplitr
    swap; · iexact H13
    ipureintro; intro h15; exfalso; omega
  isplitl [H14]
  · iexists _; isplitr
    swap; · iexact H14
    ipureintro; intro h15; exfalso; omega
  isplitl [H15]
  · iexists _; isplitr
    swap; · iexact H15
    ipureintro; intro h15; exfalso; omega
  isplitl [H16]
  · iexists _; isplitr
    swap; · iexact H16
    ipureintro; intro h15; exfalso; omega
  iexists _; isplitr
  swap; · iexact H17
  ipureintro; intro h15; exfalso; omega

set_option maxHeartbeats 4000000 in
/-- The body's triple at a point of case B. -/
theorem sound_B (T : Track F) (c : Dev nD) (hT : Steps m c T) (t : Fin cfg0.N) (h : t.val % 16 ≠ 0 ∧ t.val % 16 ≠ 15) (x : Ins F) (hb : Blocks m c t x) (y11 : Vec F S1x128x4096 .bf16) (y12 : Vec F S1x4x64x128 .i8) (y13 : Vec F S1x4x4x128 .f32) (y14 : Vec F S1x4x4x128 .f32) (y15 : Vec F S1x4x64x128 .i8) (y16 : Vec F S1x4x128 .f32) (y17 : Vec F S1x4x128 .f32) (O : sProp 𝕄) :
    iprop(Phi T c t.val ∗ O ∗ owns (c : Thread nD τ) (ms0_0 t) fullShare x.x0 ∗ owns (c : Thread nD τ) (ms0_1 t) fullShare x.x1 ∗ owns (c : Thread nD τ) (ms0_2 t) fullShare x.x2 ∗ owns (c : Thread nD τ) (ms0_3 t) fullShare x.x3 ∗ owns (c : Thread nD τ) (ms0_4 t) fullShare x.x4 ∗ owns (c : Thread nD τ) (ms0_5 t) fullShare x.x5 ∗ owns (c : Thread nD τ) (ms0_6 t) fullShare x.x6 ∗ owns (c : Thread nD τ) (ms0_7 t) fullShare x.x7 ∗ owns (c : Thread nD τ) (ms0_8 t) fullShare x.x8 ∗ owns (c : Thread nD τ) (ms0_9 t) fullShare x.x9 ∗ owns (c : Thread nD τ) (ms0_10 t) fullShare x.x10 ∗ owns (c : Thread nD τ) (ms0_11 t) fullShare y11 ∗ owns (c : Thread nD τ) (ms0_12 t) fullShare y12 ∗ owns (c : Thread nD τ) (ms0_13 t) fullShare y13 ∗ owns (c : Thread nD τ) (ms0_14 t) fullShare y14 ∗ owns (c : Thread nD τ) (ms0_15 t) fullShare y15 ∗ owns (c : Thread nD τ) (ms0_16 t) fullShare y16 ∗ owns (c : Thread nD τ) (ms0_17 t) fullShare y17)
    ⊢ wp frame (wpE (defs₀ (F := F)) Variants.none c none) Set.univ (bodyAt0 t) (fun _ => iprop(Phi T c (t.val + 1) ∗ O ∗ (∃ X, ⌜X = x.x0⌝ ∗ owns (c : Thread nD τ) (ms0_0 t) fullShare X) ∗ (∃ X, ⌜X = x.x1⌝ ∗ owns (c : Thread nD τ) (ms0_1 t) fullShare X) ∗ (∃ X, ⌜X = x.x2⌝ ∗ owns (c : Thread nD τ) (ms0_2 t) fullShare X) ∗ (∃ X, ⌜X = x.x3⌝ ∗ owns (c : Thread nD τ) (ms0_3 t) fullShare X) ∗ (∃ X, ⌜X = x.x4⌝ ∗ owns (c : Thread nD τ) (ms0_4 t) fullShare X) ∗ (∃ X, ⌜X = x.x5⌝ ∗ owns (c : Thread nD τ) (ms0_5 t) fullShare X) ∗ (∃ X, ⌜X = x.x6⌝ ∗ owns (c : Thread nD τ) (ms0_6 t) fullShare X) ∗ (∃ X, ⌜X = x.x7⌝ ∗ owns (c : Thread nD τ) (ms0_7 t) fullShare X) ∗ (∃ X, ⌜X = x.x8⌝ ∗ owns (c : Thread nD τ) (ms0_8 t) fullShare X) ∗ (∃ X, ⌜X = x.x9⌝ ∗ owns (c : Thread nD τ) (ms0_9 t) fullShare X) ∗ (∃ X, ⌜X = x.x10⌝ ∗ owns (c : Thread nD τ) (ms0_10 t) fullShare X) ∗ (∃ X, ⌜t.val % 16 = 15 → T.O11 t.val X⌝ ∗ owns (c : Thread nD τ) (ms0_11 t) fullShare X) ∗ (∃ X, ⌜t.val % 16 = 15 → T.O12 t.val X⌝ ∗ owns (c : Thread nD τ) (ms0_12 t) fullShare X) ∗ (∃ X, ⌜t.val % 16 = 15 → T.O13 t.val X⌝ ∗ owns (c : Thread nD τ) (ms0_13 t) fullShare X) ∗ (∃ X, ⌜t.val % 16 = 15 → T.O14 t.val X⌝ ∗ owns (c : Thread nD τ) (ms0_14 t) fullShare X) ∗ (∃ X, ⌜t.val % 16 = 15 → T.O15 t.val X⌝ ∗ owns (c : Thread nD τ) (ms0_15 t) fullShare X) ∗ (∃ X, ⌜t.val % 16 = 15 → T.O16 t.val X⌝ ∗ owns (c : Thread nD τ) (ms0_16 t) fullShare X) ∗ (∃ X, ⌜t.val % 16 = 15 → T.O17 t.val X⌝ ∗ owns (c : Thread nD τ) (ms0_17 t) fullShare X))) := by
  unfold Phi bodyAt0
  iintro ⟨⟨%s, %hs, ⟨HS0, HS1, HS2, HS3, HS4, HS5, HS6, HS7, HS8⟩, Hg⟩, Ho, H0, H1, H2, H3, H4, H5, H6, H7, H8, H9, H10, H11, H12, H13, H14, H15, H16, H17⟩
  iapply ((rB c t h x s).2.2.2.2.2.2.2.2.2.2.2.2.2.2.2.2 _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  iintro ⟨H0, H1, H2, H3, H4, H5, H6, H7, H8, H9, H10, H11, H12, H13, H14, H15, H16, H17, HS0, HS1, ⟨%f2, HS2⟩, ⟨%f3, HS3⟩, ⟨%f4, HS4⟩, ⟨%f5, HS5⟩, ⟨%f6, HS6⟩, ⟨%f7, HS7⟩, ⟨%f8, HS8⟩⟩
  isplitl [HS0 HS1 HS2 HS3 HS4 HS5 HS6 HS7 HS8 Hg]
  · iexists (afterB c t h x s)
    isplitr; · ipureintro; exact hT.stepB t h x s hb hs
    isplitl [HS0 HS1 HS2 HS3 HS4 HS5 HS6 HS7 HS8]
    · isplitl [HS0]; · iexact HS0
      isplitl [HS1]; · iexact HS1
      isplitl [HS2]
      · iexists _; unfold owns; iexists _; isplitr
        swap; · iexact HS2
        ipureintro; rfl
      isplitl [HS3]
      · iexists _; unfold owns; iexists _; isplitr
        swap; · iexact HS3
        ipureintro; rfl
      isplitl [HS4]
      · iexists _; unfold owns; iexists _; isplitr
        swap; · iexact HS4
        ipureintro; rfl
      isplitl [HS5]
      · iexists _; unfold owns; iexists _; isplitr
        swap; · iexact HS5
        ipureintro; rfl
      isplitl [HS6]
      · unfold owns; iexists _; isplitr
        swap; · iexact HS6
        ipureintro; exact View.read_writes_of_cover _ _ VS0_6 VS0_6.junk _ (coverB_s6 c t h x s)
      isplitl [HS7]
      · unfold owns; iexists _; isplitr
        swap; · iexact HS7
        ipureintro; exact View.read_writes_of_cover _ _ VS0_7 VS0_7.junk _ (coverB_s7 c t h x s)
      unfold owns; iexists _; isplitr
      swap; · iexact HS8
      ipureintro; exact View.read_writes_of_cover _ _ VS0_8 VS0_8.junk _ (coverB_s8 c t h x s)
    iexact Hg
  isplitl [Ho]; · iexact Ho
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  isplitl [H11]
  · iexists _; isplitr
    swap; · iexact H11
    ipureintro; intro h15; exfalso; omega
  isplitl [H12]
  · iexists _; isplitr
    swap; · iexact H12
    ipureintro; intro h15; exfalso; omega
  isplitl [H13]
  · iexists _; isplitr
    swap; · iexact H13
    ipureintro; intro h15; exfalso; omega
  isplitl [H14]
  · iexists _; isplitr
    swap; · iexact H14
    ipureintro; intro h15; exfalso; omega
  isplitl [H15]
  · iexists _; isplitr
    swap; · iexact H15
    ipureintro; intro h15; exfalso; omega
  isplitl [H16]
  · iexists _; isplitr
    swap; · iexact H16
    ipureintro; intro h15; exfalso; omega
  iexists _; isplitr
  swap; · iexact H17
  ipureintro; intro h15; exfalso; omega

set_option maxHeartbeats 4000000 in
/-- The body's triple at a point of case C. -/
theorem sound_C (T : Track F) (c : Dev nD) (hT : Steps m c T) (t : Fin cfg0.N) (h : t.val % 16 = 15) (x : Ins F) (hb : Blocks m c t x) (y11 : Vec F S1x128x4096 .bf16) (y12 : Vec F S1x4x64x128 .i8) (y13 : Vec F S1x4x4x128 .f32) (y14 : Vec F S1x4x4x128 .f32) (y15 : Vec F S1x4x64x128 .i8) (y16 : Vec F S1x4x128 .f32) (y17 : Vec F S1x4x128 .f32) (O : sProp 𝕄) :
    iprop(Phi T c t.val ∗ O ∗ owns (c : Thread nD τ) (ms0_0 t) fullShare x.x0 ∗ owns (c : Thread nD τ) (ms0_1 t) fullShare x.x1 ∗ owns (c : Thread nD τ) (ms0_2 t) fullShare x.x2 ∗ owns (c : Thread nD τ) (ms0_3 t) fullShare x.x3 ∗ owns (c : Thread nD τ) (ms0_4 t) fullShare x.x4 ∗ owns (c : Thread nD τ) (ms0_5 t) fullShare x.x5 ∗ owns (c : Thread nD τ) (ms0_6 t) fullShare x.x6 ∗ owns (c : Thread nD τ) (ms0_7 t) fullShare x.x7 ∗ owns (c : Thread nD τ) (ms0_8 t) fullShare x.x8 ∗ owns (c : Thread nD τ) (ms0_9 t) fullShare x.x9 ∗ owns (c : Thread nD τ) (ms0_10 t) fullShare x.x10 ∗ owns (c : Thread nD τ) (ms0_11 t) fullShare y11 ∗ owns (c : Thread nD τ) (ms0_12 t) fullShare y12 ∗ owns (c : Thread nD τ) (ms0_13 t) fullShare y13 ∗ owns (c : Thread nD τ) (ms0_14 t) fullShare y14 ∗ owns (c : Thread nD τ) (ms0_15 t) fullShare y15 ∗ owns (c : Thread nD τ) (ms0_16 t) fullShare y16 ∗ owns (c : Thread nD τ) (ms0_17 t) fullShare y17)
    ⊢ wp frame (wpE (defs₀ (F := F)) Variants.none c none) Set.univ (bodyAt0 t) (fun _ => iprop(Phi T c (t.val + 1) ∗ O ∗ (∃ X, ⌜X = x.x0⌝ ∗ owns (c : Thread nD τ) (ms0_0 t) fullShare X) ∗ (∃ X, ⌜X = x.x1⌝ ∗ owns (c : Thread nD τ) (ms0_1 t) fullShare X) ∗ (∃ X, ⌜X = x.x2⌝ ∗ owns (c : Thread nD τ) (ms0_2 t) fullShare X) ∗ (∃ X, ⌜X = x.x3⌝ ∗ owns (c : Thread nD τ) (ms0_3 t) fullShare X) ∗ (∃ X, ⌜X = x.x4⌝ ∗ owns (c : Thread nD τ) (ms0_4 t) fullShare X) ∗ (∃ X, ⌜X = x.x5⌝ ∗ owns (c : Thread nD τ) (ms0_5 t) fullShare X) ∗ (∃ X, ⌜X = x.x6⌝ ∗ owns (c : Thread nD τ) (ms0_6 t) fullShare X) ∗ (∃ X, ⌜X = x.x7⌝ ∗ owns (c : Thread nD τ) (ms0_7 t) fullShare X) ∗ (∃ X, ⌜X = x.x8⌝ ∗ owns (c : Thread nD τ) (ms0_8 t) fullShare X) ∗ (∃ X, ⌜X = x.x9⌝ ∗ owns (c : Thread nD τ) (ms0_9 t) fullShare X) ∗ (∃ X, ⌜X = x.x10⌝ ∗ owns (c : Thread nD τ) (ms0_10 t) fullShare X) ∗ (∃ X, ⌜t.val % 16 = 15 → T.O11 t.val X⌝ ∗ owns (c : Thread nD τ) (ms0_11 t) fullShare X) ∗ (∃ X, ⌜t.val % 16 = 15 → T.O12 t.val X⌝ ∗ owns (c : Thread nD τ) (ms0_12 t) fullShare X) ∗ (∃ X, ⌜t.val % 16 = 15 → T.O13 t.val X⌝ ∗ owns (c : Thread nD τ) (ms0_13 t) fullShare X) ∗ (∃ X, ⌜t.val % 16 = 15 → T.O14 t.val X⌝ ∗ owns (c : Thread nD τ) (ms0_14 t) fullShare X) ∗ (∃ X, ⌜t.val % 16 = 15 → T.O15 t.val X⌝ ∗ owns (c : Thread nD τ) (ms0_15 t) fullShare X) ∗ (∃ X, ⌜t.val % 16 = 15 → T.O16 t.val X⌝ ∗ owns (c : Thread nD τ) (ms0_16 t) fullShare X) ∗ (∃ X, ⌜t.val % 16 = 15 → T.O17 t.val X⌝ ∗ owns (c : Thread nD τ) (ms0_17 t) fullShare X))) := by
  unfold Phi bodyAt0
  iintro ⟨⟨%s, %hs, ⟨HS0, HS1, HS2, HS3, HS4, HS5, HS6, HS7, HS8⟩, Hg⟩, Ho, H0, H1, H2, H3, H4, H5, H6, H7, H8, H9, H10, H11, H12, H13, H14, H15, H16, H17⟩
  iapply ((rC c t h x s).2.2.2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  iintro ⟨H0, H1, H2, H3, H4, H5, H6, H7, H8, H9, H10, ⟨%e11, H11⟩, ⟨%e12, H12⟩, ⟨%e13, H13⟩, ⟨%e14, H14⟩, ⟨%e15, H15⟩, ⟨%e16, H16⟩, ⟨%e17, H17⟩, HS0, HS1, ⟨%f2, HS2⟩, ⟨%f3, HS3⟩, ⟨%f4, HS4⟩, ⟨%f5, HS5⟩, ⟨%f6, HS6⟩, ⟨%f7, HS7⟩, ⟨%f8, HS8⟩⟩
  isplitl [HS0 HS1 HS2 HS3 HS4 HS5 HS6 HS7 HS8 Hg]
  · iexists (afterC c t h x s)
    isplitr; · ipureintro; exact hT.stepC t h x s hb hs
    isplitl [HS0 HS1 HS2 HS3 HS4 HS5 HS6 HS7 HS8]
    · isplitl [HS0]; · iexact HS0
      isplitl [HS1]; · iexact HS1
      isplitl [HS2]
      · iexists _; unfold owns; iexists _; isplitr
        swap; · iexact HS2
        ipureintro; rfl
      isplitl [HS3]
      · iexists _; unfold owns; iexists _; isplitr
        swap; · iexact HS3
        ipureintro; rfl
      isplitl [HS4]
      · iexists _; unfold owns; iexists _; isplitr
        swap; · iexact HS4
        ipureintro; rfl
      isplitl [HS5]
      · iexists _; unfold owns; iexists _; isplitr
        swap; · iexact HS5
        ipureintro; rfl
      isplitl [HS6]
      · unfold owns; iexists _; isplitr
        swap; · iexact HS6
        ipureintro; exact View.read_writes_of_cover _ _ VS0_6 VS0_6.junk _ (coverC_s6 c t h x s)
      isplitl [HS7]
      · unfold owns; iexists _; isplitr
        swap; · iexact HS7
        ipureintro; exact View.read_writes_of_cover _ _ VS0_7 VS0_7.junk _ (coverC_s7 c t h x s)
      unfold owns; iexists _; isplitr
      swap; · iexact HS8
      ipureintro; exact View.read_writes_of_cover _ _ VS0_8 VS0_8.junk _ (coverC_s8 c t h x s)
    iexact Hg
  isplitl [Ho]; · iexact Ho
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  isplitl [H11]
  · iexists (outC_11 c t h x s); isplitr; · ipureintro; exact fun _ => hT.out11 t h x s hb hs
    unfold owns; iexists _; isplitr
    swap; · iexact H11
    ipureintro; exact View.read_writes_of_cover _ _ (ms0_11 t).view (ms0_11 t).view.junk _ (coverC_o11 c t h x s)
  isplitl [H12]
  · iexists (outC_12 c t h x s); isplitr; · ipureintro; exact fun _ => hT.out12 t h x s hb hs
    unfold owns; iexists _; isplitr
    swap; · iexact H12
    ipureintro; exact View.read_writes_of_cover _ _ (ms0_12 t).view (ms0_12 t).view.junk _ (coverC_o12 c t h x s)
  isplitl [H13]
  · iexists (outC_13 c t h x s); isplitr; · ipureintro; exact fun _ => hT.out13 t h x s hb hs
    unfold owns; iexists _; isplitr
    swap; · iexact H13
    ipureintro; exact View.read_writes_of_cover _ _ (ms0_13 t).view (ms0_13 t).view.junk _ (coverC_o13 c t h x s)
  isplitl [H14]
  · iexists (outC_14 c t h x s); isplitr; · ipureintro; exact fun _ => hT.out14 t h x s hb hs
    unfold owns; iexists _; isplitr
    swap; · iexact H14
    ipureintro; exact View.read_writes_of_cover _ _ (ms0_14 t).view (ms0_14 t).view.junk _ (coverC_o14 c t h x s)
  isplitl [H15]
  · iexists (outC_15 c t h x s); isplitr; · ipureintro; exact fun _ => hT.out15 t h x s hb hs
    unfold owns; iexists _; isplitr
    swap; · iexact H15
    ipureintro; exact View.read_writes_of_cover _ _ (ms0_15 t).view (ms0_15 t).view.junk _ (coverC_o15 c t h x s)
  isplitl [H16]
  · iexists (outC_16 c t h x s); isplitr; · ipureintro; exact fun _ => hT.out16 t h x s hb hs
    unfold owns; iexists _; isplitr
    swap; · iexact H16
    ipureintro; exact View.read_writes_of_cover _ _ (ms0_16 t).view (ms0_16 t).view.junk _ (coverC_o16 c t h x s)
  iexists (outC_17 c t h x s); isplitr; · ipureintro; exact fun _ => hT.out17 t h x s hb hs
  unfold owns; iexists _; isplitr
  swap; · iexact H17
  ipureintro; exact View.read_writes_of_cover _ _ (ms0_17 t).view (ms0_17 t).view.junk _ (coverC_o17 c t h x s)

/-- The library's body obligation: the case's triple at every point. -/
theorem body_obligation (T : Track F) (c : Dev nD) (hT : Steps m c T) :
    (rdat m T c).BodyObligation (defs₀ (F := F)) Variants.none () Set.univ := fun t Y hY => by
  have hb : Blocks m c t ⟨Y 0, Y 1, Y 2, Y 3, Y 4, Y 5, Y 6, Y 7, Y 8, Y 9, Y 10⟩ := ⟨blocks_0 m T c t _ (hY 0), blocks_1 m T c t _ (hY 1), blocks_2 m T c t _ (hY 2), blocks_3 m T c t _ (hY 3), blocks_4 m T c t _ (hY 4), blocks_5 m T c t _ (hY 5), blocks_6 m T c t _ (hY 6), blocks_7 m T c t _ (hY 7), blocks_8 m T c t _ (hY 8), blocks_9 m T c t _ (hY 9), blocks_10 m T c t _ (hY 10)⟩
  rw [bigSep_W0, bigSep_W0, defs₀_row]
  by_cases h0 : t.val % 16 = 0
  · exact triple_restated (sound_A m T c hT t h0 _ hb (Y 11) (Y 12) (Y 13) (Y 14) (Y 15) (Y 16) (Y 17) _) rfl .rfl fun _ => .rfl
  by_cases h15 : t.val % 16 = 15
  · exact triple_restated (sound_C m T c hT t h15 _ hb (Y 11) (Y 12) (Y 13) (Y 14) (Y 15) (Y 16) (Y 17) _) rfl .rfl fun _ => .rfl
  · exact triple_restated (sound_B m T c hT t ⟨h0, h15⟩ _ hb (Y 11) (Y 12) (Y 13) (Y 14) (Y 15) (Y 16) (Y 17) _) rfl .rfl fun _ => .rfl

/-- What the launch hands the region is the invariant before the first point. -/
theorem hin (T : Track F) (c : Dev nD) (hT : Steps m c T) : Pipeline.ΦA spec0 c ⊢ (rdat m T c).Φ 0 := by
  rw [show (rdat m T c).Φ 0 = Phi T c 0 from rfl, PhiA0_eq]; unfold Phi
  iintro ⟨⟨⟨%d0, HS0⟩, ⟨%d1, HS1⟩, HS2, HS3, HS4, HS5, ⟨%d6, HS6⟩, ⟨%d7, HS7⟩, ⟨%d8, HS8⟩⟩, Hg⟩
  iexists (⟨d0, d1, d6, d7, d8⟩ : Scr F)
  isplitr; · ipureintro; exact hT.inv0 _
  isplitl [HS0 HS1 HS2 HS3 HS4 HS5 HS6 HS7 HS8]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iexact HS8
  iexact Hg

/-- After the last point the invariant gives the scratch back, its contents forgotten. -/
theorem hout (T : Track F) (c : Dev nD) : (rdat m T c).Φ (Fin.last cfg0.N) ⊢ Pipeline.ΦA spec0 c := by
  rw [show (rdat m T c).Φ (Fin.last cfg0.N) = Phi T c cfg0.N from rfl, PhiA0_eq]; unfold Phi
  iintro ⟨%s, -, ⟨HS0, HS1, HS2, HS3, HS4, HS5, HS6, HS7, HS8⟩, Hg⟩
  isplitl [HS0 HS1 HS2 HS3 HS4 HS5 HS6 HS7 HS8]
  · isplitl [HS0]; · iexists _; iexact HS0
    isplitl [HS1]; · iexists _; iexact HS1
    isplitl [HS2]; · iexact HS2
    isplitl [HS3]; · iexact HS3
    isplitl [HS4]; · iexact HS4
    isplitl [HS5]; · iexact HS5
    isplitl [HS6]; · iexists _; iexact HS6
    isplitl [HS7]; · iexists _; iexact HS7
    iexists _; iexact HS8
  iexact Hg

set_option backward.isDefEq.respectTransparency.types false in
/-- THE LAUNCH: every fair execution of the program ends, every array of the pipeline at contents the proof data allow, every
    other buffer as the region found it, every semaphore counter zero. -/
theorem run_quiescent (T : Track F) (hT : ∀ c, Steps m c T) :
    θ_run defs (onTc (τ := τ) (main (F := F))) (s₀ m ρ)
      (fun r => Pipeline.RDat.FramePost (cfgs 0) (rdat m T) (V m) r ∧ r.2.sem = fun _ => 0) :=
  Pipeline.RDat.θ_run_frame_track cfgs (0 : Fin 1) launch0 defs₀ Variants.none (rdat m T) m ρ main
    (hbody := fun c => body_obligation m T c (hT c)) (hshare := fun c w => by unfold RDat.share; split <;> rfl)
    (howed := fun _ _ => rfl) (V := V m) (hmain := hmain m Variants.none) (hA := fun _ _ => rfl)
    (hin := fun c => hin m T c (hT c)) (hout := hout m T) (Q' := _) (hQ' := fun _ h => h)

/-- The launch's post says that the argument arrays end unchanged. -/
theorem args_unchanged (T : Track F) {r : PUnit × MemSt nD τ sig (Elt F)} (h : Pipeline.RDat.FramePost (cfgs 0) (rdat m T) (V m) r)
    (c : Dev nD) : r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨(h.arr_in c 0 rfl).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c)⟩

/-- THE FRAME: every fair execution of the program ends with its argument arrays unchanged and every counter zero. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => args_unchanged m Track.none h.1 c, h.2⟩) (run_quiescent m ρ Track.none fun c => Steps.none m c)

end Cert.KernelIdeal.Body

end
-- ==== Proof.Val.Quant.lean ====
/-
  The quantiser of the new keys as the kernel computes it: the scale and the zero of every group of 32 tokens, read at an index.
-/
module
public import proofs.«01_k».proof.Proof.KI.Frame
public import Idealize.ShloMosaic.Lib.Pointwise
public import Idealize.ShloMosaic.Lib.WholeRead
@[expose] public section
set_option maxRecDepth 16384
noncomputable section
namespace Cert.KernelIdeal.Body
open Cert.KernelIdeal.Gen
open Idealize.ShloMosaic Idealize.ShloMosaic.TcCoe Idealize.ShloMosaic.Tactic
open Idealize.ShloMosaic.Pipeline (Dat RDat Cfg Window cellOf)
variable {F : FTy → Type} [FloatOps F] [Named F]

/-- A load of part of the new tokens' keys. -/
abbrev ld9 (t : Fin cfg0.N) (x : Ins F) (R : Rect S1x4x128x128) : R.shape.Idx → Elt F .bf16 :=
  View.readAt (Elt F) (ms0_9 t).view R.toLoadRect ((hs0_9 t).unread x.x9)

/-- The least of finitely many extended reals. -/
def qlo {n : ℕ} (f : Fin n → EReal) : EReal := Finset.univ.fold min (Ideal.ofBits .f32 0x7F800000#32) f
/-- The greatest of finitely many extended reals. -/
def qhi {n : ℕ} (f : Fin n → EReal) : EReal := Finset.univ.fold max (Ideal.ofBits .f32 0xFF800000#32) f
/-- The quantiser's scale: a fifteenth of the range, one where the range is not positive. -/
def qscale {n : ℕ} (f : Fin n → EReal) : EReal :=
  if 0 < qhi f - qlo f then Ideal.div (qhi f - qlo f) (Ideal.ofBits .f32 0x41700000#32) else 1

/-- Group `g` of 32 consecutive tokens. -/
def grp (f : Fin 128 → EReal) (g : Fin 4) : Fin 32 → EReal := fun r => f ⟨g.val * 32 + r.val, by omega⟩

theorem pieces13 (c : Dev nD) (t : Fin cfg0.N) (h : t.val % 16 = 15) (x : Ins F) (s : Scr F) :
    (rC c t h x s).2.2.1 =
      [⟨Rect.unit ![0, 3, 0, 0] S1x1x4x128.size (by decide), k0_pay429 (k0_pay426 (ld9 t x (Rect.unit ![0, 3, 0, 0] S1x1x128x128.size (by decide))))⟩,
       ⟨Rect.unit ![0, 2, 0, 0] S1x1x4x128.size (by decide), k0_pay429 (k0_pay426 (ld9 t x (Rect.unit ![0, 2, 0, 0] S1x1x128x128.size (by decide))))⟩,
       ⟨Rect.unit ![0, 1, 0, 0] S1x1x4x128.size (by decide), k0_pay429 (k0_pay426 (ld9 t x (Rect.unit ![0, 1, 0, 0] S1x1x128x128.size (by decide))))⟩,
       ⟨Rect.unit ![0, 0, 0, 0] S1x1x4x128.size (by decide), k0_pay429 (k0_pay426 (ld9 t x (Rect.unit ![0, 0, 0, 0] S1x1x128x128.size (by decide))))⟩] := by
  sl_kernel_rfl

theorem pieces14 (c : Dev nD) (t : Fin cfg0.N) (h : t.val % 16 = 15) (x : Ins F) (s : Scr F) :
    (rC c t h x s).2.2.2.1 =
      [⟨Rect.unit ![0, 3, 0, 0] S1x1x4x128.size (by decide), k0_pay430 (k0_pay425 (ld9 t x (Rect.unit ![0, 3, 0, 0] S1x1x128x128.size (by decide))))⟩,
       ⟨Rect.unit ![0, 2, 0, 0] S1x1x4x128.size (by decide), k0_pay430 (k0_pay425 (ld9 t x (Rect.unit ![0, 2, 0, 0] S1x1x128x128.size (by decide))))⟩,
       ⟨Rect.unit ![0, 1, 0, 0] S1x1x4x128.size (by decide), k0_pay430 (k0_pay425 (ld9 t x (Rect.unit ![0, 1, 0, 0] S1x1x128x128.size (by decide))))⟩,
       ⟨Rect.unit ![0, 0, 0, 0] S1x1x4x128.size (by decide), k0_pay430 (k0_pay425 (ld9 t x (Rect.unit ![0, 0, 0, 0] S1x1x128x128.size (by decide))))⟩] := by
  sl_kernel_rfl

theorem pay_scale (v : S1x1x128x128.Idx → Elt Ideal .bf16) (g : Fin 4) (d : Fin 128) :
    k0_pay429 (F := Ideal) (k0_pay426 v) (ix4 0 0 g d) = qscale fun r : Fin 32 => v (ix4 0 0 ⟨g.val * 32 + r.val, by omega⟩ d) := by
  unfold k0_pay429
  pointwise [k0_pay425, k0_pay424, k0_pay426]
  rfl

theorem pay_lo (v : S1x1x128x128.Idx → Elt Ideal .bf16) (g : Fin 4) (d : Fin 128) :
    k0_pay430 (F := Ideal) (k0_pay425 v) (ix4 0 0 g d) = qlo fun r : Fin 32 => v (ix4 0 0 ⟨g.val * 32 + r.val, by omega⟩ d) := by
  unfold k0_pay430
  pointwise [k0_pay425, k0_pay424]
  rfl

/-- Part of the new tokens' keys read at an index. -/
theorem ld9_apply (t : Fin cfg0.N) (x : Ins F) (R : Rect S1x4x128x128) (y : R.shape.Idx) :
    ld9 t x R y = x.x9 (R.emb y) := Memref.IsWhole.readAt_unread (hs0_9 t) _ R.toLoadRect y

/-- The new keys' scales of the batch row, at each index. -/
theorem outC_13_apply (c : Dev nD) (t : Fin cfg0.N) (h : t.val % 16 = 15) (x : Ins Ideal) (s : Scr Ideal) (y : S1x4x4x128.Idx) :
    outC_13 c t h x s y = qscale (grp (fun r => x.x9 (ix4 (0 : Fin 1) (y 1) r (y 3))) (y 2)) := by
  unfold outC_13
  rw [View.read_writes_junk_eq_canon]
  refine View.canon_apply_of_pieces (fun y : S1x4x4x128.Idx => (qscale (grp (fun r => x.x9 (ix4 (0 : Fin 1) (y 1) r (y 3))) (y 2)) : EReal)) _ ?_ y (coverC_o13 c t h x s y)
  rw [pieces13]
  simp only [List.forall_mem_cons, List.not_mem_nil, false_imp_iff, implies_true, and_true]
  refine ⟨?_, ?_, ?_, ?_⟩ <;>
  · intro z
    idx_vars z
    rw [Subsingleton.elim z0 0, Subsingleton.elim z1 0, pay_scale]
    refine congrArg qscale (funext fun r => ?_)
    rw [ld9_apply]
    refine congrArg x.x9 ?_
    idx_ext
/-- The new keys' zeros of the batch row, at each index. -/
theorem outC_14_apply (c : Dev nD) (t : Fin cfg0.N) (h : t.val % 16 = 15) (x : Ins Ideal) (s : Scr Ideal) (y : S1x4x4x128.Idx) :
    outC_14 c t h x s y = qlo (grp (fun r => x.x9 (ix4 (0 : Fin 1) (y 1) r (y 3))) (y 2)) := by
  unfold outC_14
  rw [View.read_writes_junk_eq_canon]
  refine View.canon_apply_of_pieces (fun y : S1x4x4x128.Idx => (qlo (grp (fun r => x.x9 (ix4 (0 : Fin 1) (y 1) r (y 3))) (y 2)) : EReal)) _ ?_ y (coverC_o14 c t h x s y)
  rw [pieces14]
  simp only [List.forall_mem_cons, List.not_mem_nil, false_imp_iff, implies_true, and_true]
  refine ⟨?_, ?_, ?_, ?_⟩ <;>
  · intro z
    idx_vars z
    rw [Subsingleton.elim z0 0, Subsingleton.elim z1 0, pay_lo]
    refine congrArg qlo (funext fun r => ?_)
    rw [ld9_apply]
    refine congrArg x.x9 ?_
    idx_ext
end Cert.KernelIdeal.Body
end
-- ==== Proof.Val.Blocks.lean ====
/-
  The input blocks of a grid point, read at an index as elements of the argument arrays.
-/
module
public import proofs.«01_k».proof.Proof.KI.Frame
public import Idealize.ShloMosaic.Lib.Pointwise
public import Idealize.ShloMosaic.Lib.Claim
public import Idealize.ShloMosaic.Lib.Pipeline.ValueKit.Geometry
@[expose] public section
set_option maxRecDepth 16384
noncomputable section
namespace Cert.KernelIdeal.Body
open Cert.KernelIdeal.Gen
open Idealize.ShloMosaic Idealize.ShloMosaic.TcCoe Idealize.ShloMosaic.Tactic
open Idealize.ShloMosaic.Pipeline (Dat RDat Cfg Window cellOf)
variable {F : FTy → Type} [FloatOps F] [Named F]
variable (m : (ℓ : Loc nD τ sig) → Buf (Elt F) ℓ)

/-- The batch row of a grid point. -/
def row (t : Fin cfg0.N) : Fin 32 := ⟨t.val / 16, by have : t.val < 512 := t.isLt; omega⟩

theorem index_7 : ∀ t : Fin cfg0.N, win0_7.index t = ![t.val / 16, 0, 0, 0] := by decide +kernel

/-- Input 7's block at an index: its batch row of the argument. -/
theorem x7_apply (c : Dev nD) (t : Fin cfg0.N) (x : Ins F) (hb : Blocks m c t x) (h : Fin 4) (r d : Fin 128) :
    x.x7 (ix4 0 h r d) = m ((c : Thread nD τ).loc main_arg9) (ix4 (row t) r h d) := by
  obtain ⟨e, he⟩ := hb.2.2.2.2.2.2.2.1
  rw [he]
  unfold Window.fill
  rw [dif_pos ((Window.moved_iff _ _ _).mpr fun a => (ix4 (0 : Fin 1) h r d a).isLt)]
  blk_simp [iblk]
  have hi : ((win0_7.blk t).view.emb fun a => ⟨(ix4 (0 : Fin 1) h r d a).val, (ix4 (0 : Fin 1) h r d a).isLt⟩) = ix4 (row t) h r d := by
    funext a; apply Fin.ext; blk_simp [index_7]; fin_cases a <;> simp [row]
  rw [show V m c main_v6 _ = V m c main_v6 (ix4 (row t) h r d) from congrArg _ hi]
  entry_read
  pointwise

theorem index_8 : ∀ t : Fin cfg0.N, win0_8.index t = ![t.val / 16, 0, 0, 0] := by decide +kernel

/-- Input 8's block at an index: its batch row of the argument. -/
theorem x8_apply (c : Dev nD) (t : Fin cfg0.N) (x : Ins F) (hb : Blocks m c t x) (h : Fin 4) (r d : Fin 128) :
    x.x8 (ix4 0 h r d) = m ((c : Thread nD τ).loc main_arg10) (ix4 (row t) r h d) := by
  obtain ⟨e, he⟩ := hb.2.2.2.2.2.2.2.2.1
  rw [he]
  unfold Window.fill
  rw [dif_pos ((Window.moved_iff _ _ _).mpr fun a => (ix4 (0 : Fin 1) h r d a).isLt)]
  blk_simp [iblk]
  have hi : ((win0_8.blk t).view.emb fun a => ⟨(ix4 (0 : Fin 1) h r d a).val, (ix4 (0 : Fin 1) h r d a).isLt⟩) = ix4 (row t) h r d := by
    funext a; apply Fin.ext; blk_simp [index_8]; fin_cases a <;> simp [row]
  rw [show V m c main_v7 _ = V m c main_v7 (ix4 (row t) h r d) from congrArg _ hi]
  entry_read
  pointwise

theorem index_9 : ∀ t : Fin cfg0.N, win0_9.index t = ![t.val / 16, 0, 0, 0] := by decide +kernel

/-- Input 9's block at an index: its batch row of the argument. -/
theorem x9_apply (c : Dev nD) (t : Fin cfg0.N) (x : Ins F) (hb : Blocks m c t x) (h : Fin 4) (r d : Fin 128) :
    x.x9 (ix4 0 h r d) = m ((c : Thread nD τ).loc main_arg1) (ix4 (row t) r h d) := by
  obtain ⟨e, he⟩ := hb.2.2.2.2.2.2.2.2.2.1
  rw [he]
  unfold Window.fill
  rw [dif_pos ((Window.moved_iff _ _ _).mpr fun a => (ix4 (0 : Fin 1) h r d a).isLt)]
  blk_simp [iblk]
  have hi : ((win0_9.blk t).view.emb fun a => ⟨(ix4 (0 : Fin 1) h r d a).val, (ix4 (0 : Fin 1) h r d a).isLt⟩) = ix4 (row t) h r d := by
    funext a; apply Fin.ext; blk_simp [index_9]; fin_cases a <;> simp [row]
  rw [show V m c main_v8 _ = V m c main_v8 (ix4 (row t) h r d) from congrArg _ hi]
  entry_read
  pointwise

theorem index_10 : ∀ t : Fin cfg0.N, win0_10.index t = ![t.val / 16, 0, 0, 0] := by decide +kernel

/-- Input 10's block at an index: its batch row of the argument. -/
theorem x10_apply (c : Dev nD) (t : Fin cfg0.N) (x : Ins F) (hb : Blocks m c t x) (h : Fin 4) (r d : Fin 128) :
    x.x10 (ix4 0 h r d) = m ((c : Thread nD τ).loc main_arg2) (ix4 (row t) r h d) := by
  obtain ⟨e, he⟩ := hb.2.2.2.2.2.2.2.2.2.2
  rw [he]
  unfold Window.fill
  rw [dif_pos ((Window.moved_iff _ _ _).mpr fun a => (ix4 (0 : Fin 1) h r d a).isLt)]
  blk_simp [iblk]
  have hi : ((win0_10.blk t).view.emb fun a => ⟨(ix4 (0 : Fin 1) h r d a).val, (ix4 (0 : Fin 1) h r d a).isLt⟩) = ix4 (row t) h r d := by
    funext a; apply Fin.ext; blk_simp [index_10]; fin_cases a <;> simp [row]
  rw [show V m c main_v9 _ = V m c main_v9 (ix4 (row t) h r d) from congrArg _ hi]
  entry_read
  pointwise

theorem index_0 : ∀ t : Fin cfg0.N, win0_0.index t = ![t.val / 16, 0, 0] := by decide +kernel

/-- Input 0's block at an index: its batch row of the queries. -/
theorem x0_apply (c : Dev nD) (t : Fin cfg0.N) (x : Ins F) (hb : Blocks m c t x) (r : Fin 128) (k : Fin 4096) :
    x.x0 (ix3 0 r k) = m ((c : Thread nD τ).loc main_arg0) (ix3 (row t) r k) := by
  obtain ⟨e, he⟩ := hb.1
  rw [he]
  unfold Window.fill
  rw [dif_pos ((Window.moved_iff _ _ _).mpr fun a => (ix3 (0 : Fin 1) r k a).isLt)]
  blk_simp [iblk]
  have hi : ((win0_0.blk t).view.emb fun a => ⟨(ix3 (0 : Fin 1) r k a).val, (ix3 (0 : Fin 1) r k a).isLt⟩) = ix3 (row t) r k := by
    funext a; apply Fin.ext; blk_simp [index_0]; fin_cases a <;> simp [row]
  rw [show V m c main_arg0 _ = V m c main_arg0 (ix3 (row t) r k) from congrArg _ hi]
  entry_read
  rfl

theorem index_1 : ∀ t : Fin cfg0.N, win0_1.index t = ![t.val / 16, 0, 0, t.val % 16] := by decide +kernel
theorem xsize_1 : ∀ t : Fin cfg0.N, (cfg0.win 1).xsize (cfg0.grid.coords t) = ![1, 4, 64, if t.val % 16 = 15 then 896 else 1024] := by decide +kernel

/-- Input 1's block at an index inside its array: an element of the argument. -/
theorem x1_apply (c : Dev nD) (t : Fin cfg0.N) (x : Ins F) (hb : Blocks m c t x) (h : Fin 4) (r : Fin 64) (k : Fin 1024) (hk : t.val % 16 * 1024 + k.val < 16256) :
    x.x1 (ix4 0 h r k) = m ((c : Thread nD τ).loc main_arg3) (ix4 (row t) ⟨t.val % 16 * 1024 + k.val, hk⟩ h r) := by
  obtain ⟨e, he⟩ := hb.2.1
  have hlt : ∀ a, ((ix4 (0 : Fin 1) h r k) a).val < (cfg0.win 1).xsize (cfg0.grid.coords t) a := by
    intro a; rw [xsize_1]; fin_cases a <;> simp <;> split <;> omega
  rw [he]
  unfold Window.fill
  rw [dif_pos ((Window.moved_iff _ _ _).mpr hlt)]
  blk_simp [iblk]
  have hi : ((win0_1.blk t).view.emb fun a => ⟨((ix4 (0 : Fin 1) h r k) a).val, hlt a⟩) = ix4 (row t) h r (⟨t.val % 16 * 1024 + k.val, hk⟩ : Fin 16256) := by
    funext a; apply Fin.ext; blk_simp [index_1]; fin_cases a <;> simp [row]
  rw [show V m c main_v0 _ = V m c main_v0 (ix4 (row t) h r (⟨t.val % 16 * 1024 + k.val, hk⟩ : Fin 16256)) from congrArg _ hi]
  entry_read
  pointwise

theorem index_4 : ∀ t : Fin cfg0.N, win0_4.index t = ![t.val / 16, 0, 0, t.val % 16] := by decide +kernel
theorem xsize_4 : ∀ t : Fin cfg0.N, (cfg0.win 4).xsize (cfg0.grid.coords t) = ![1, 4, 64, if t.val % 16 = 15 then 896 else 1024] := by decide +kernel

/-- Input 4's block at an index inside its array: an element of the argument. -/
theorem x4_apply (c : Dev nD) (t : Fin cfg0.N) (x : Ins F) (hb : Blocks m c t x) (h : Fin 4) (r : Fin 64) (k : Fin 1024) (hk : t.val % 16 * 1024 + k.val < 16256) :
    x.x4 (ix4 0 h r k) = m ((c : Thread nD τ).loc main_arg6) (ix4 (row t) ⟨t.val % 16 * 1024 + k.val, hk⟩ h r) := by
  obtain ⟨e, he⟩ := hb.2.2.2.2.1
  have hlt : ∀ a, ((ix4 (0 : Fin 1) h r k) a).val < (cfg0.win 4).xsize (cfg0.grid.coords t) a := by
    intro a; rw [xsize_4]; fin_cases a <;> simp <;> split <;> omega
  rw [he]
  unfold Window.fill
  rw [dif_pos ((Window.moved_iff _ _ _).mpr hlt)]
  blk_simp [iblk]
  have hi : ((win0_4.blk t).view.emb fun a => ⟨((ix4 (0 : Fin 1) h r k) a).val, hlt a⟩) = ix4 (row t) h r (⟨t.val % 16 * 1024 + k.val, hk⟩ : Fin 16256) := by
    funext a; apply Fin.ext; blk_simp [index_4]; fin_cases a <;> simp [row]
  rw [show V m c main_v3 _ = V m c main_v3 (ix4 (row t) h r (⟨t.val % 16 * 1024 + k.val, hk⟩ : Fin 16256)) from congrArg _ hi]
  entry_read
  pointwise

theorem index_2 : ∀ t : Fin cfg0.N, win0_2.index t = ![t.val / 16, t.val % 16, 0] := by decide +kernel
theorem xsize_2 : ∀ t : Fin cfg0.N, (cfg0.win 2).xsize (cfg0.grid.coords t) = ![1, if t.val % 16 = 15 then 112 else 128, 128] := by decide +kernel

/-- Input 2's block at an index inside its array: an element of the argument. -/
theorem x2_apply (c : Dev nD) (t : Fin cfg0.N) (x : Ins F) (hb : Blocks m c t x) (g d : Fin 128) (hk : t.val % 16 * 128 + g.val < 2032) :
    x.x2 (ix3 0 g d) = m ((c : Thread nD τ).loc main_arg4) (ix4 (row t) ⟨(t.val % 16 * 128 + g.val) / 4, by omega⟩ ⟨(t.val % 16 * 128 + g.val) % 4, by omega⟩ d) := by
  obtain ⟨e, he⟩ := hb.2.2.1
  have hlt : ∀ a, ((ix3 (0 : Fin 1) g d) a).val < (cfg0.win 2).xsize (cfg0.grid.coords t) a := by
    intro a; rw [xsize_2]; fin_cases a <;> simp <;> split <;> omega
  rw [he]
  unfold Window.fill
  rw [dif_pos ((Window.moved_iff _ _ _).mpr hlt)]
  blk_simp [iblk]
  have hi : ((win0_2.blk t).view.emb fun a => ⟨((ix3 (0 : Fin 1) g d) a).val, hlt a⟩) = ix3 (row t) (⟨t.val % 16 * 128 + g.val, hk⟩ : Fin 2032) d := by
    funext a; apply Fin.ext; blk_simp [index_2]; fin_cases a <;> simp [row]
  rw [show V m c main_v1 _ = V m c main_v1 (ix3 (row t) (⟨t.val % 16 * 128 + g.val, hk⟩ : Fin 2032) d) from congrArg _ hi]
  entry_read
  pointwise

theorem index_3 : ∀ t : Fin cfg0.N, win0_3.index t = ![t.val / 16, t.val % 16, 0] := by decide +kernel
theorem xsize_3 : ∀ t : Fin cfg0.N, (cfg0.win 3).xsize (cfg0.grid.coords t) = ![1, if t.val % 16 = 15 then 112 else 128, 128] := by decide +kernel

/-- Input 3's block at an index inside its array: an element of the argument. -/
theorem x3_apply (c : Dev nD) (t : Fin cfg0.N) (x : Ins F) (hb : Blocks m c t x) (g d : Fin 128) (hk : t.val % 16 * 128 + g.val < 2032) :
    x.x3 (ix3 0 g d) = m ((c : Thread nD τ).loc main_arg5) (ix4 (row t) ⟨(t.val % 16 * 128 + g.val) / 4, by omega⟩ ⟨(t.val % 16 * 128 + g.val) % 4, by omega⟩ d) := by
  obtain ⟨e, he⟩ := hb.2.2.2.1
  have hlt : ∀ a, ((ix3 (0 : Fin 1) g d) a).val < (cfg0.win 3).xsize (cfg0.grid.coords t) a := by
    intro a; rw [xsize_3]; fin_cases a <;> simp <;> split <;> omega
  rw [he]
  unfold Window.fill
  rw [dif_pos ((Window.moved_iff _ _ _).mpr hlt)]
  blk_simp [iblk]
  have hi : ((win0_3.blk t).view.emb fun a => ⟨((ix3 (0 : Fin 1) g d) a).val, hlt a⟩) = ix3 (row t) (⟨t.val % 16 * 128 + g.val, hk⟩ : Fin 2032) d := by
    funext a; apply Fin.ext; blk_simp [index_3]; fin_cases a <;> simp [row]
  rw [show V m c main_v2 _ = V m c main_v2 (ix3 (row t) (⟨t.val % 16 * 128 + g.val, hk⟩ : Fin 2032) d) from congrArg _ hi]
  entry_read
  pointwise

theorem index_5 : ∀ t : Fin cfg0.N, win0_5.index t = ![t.val / 16, 0, t.val % 16] := by decide +kernel
theorem xsize_5 : ∀ t : Fin cfg0.N, (cfg0.win 5).xsize (cfg0.grid.coords t) = ![1, 4, if t.val % 16 = 15 then 896 else 1024] := by decide +kernel

/-- Input 5's block at an index inside its array: an element of the argument. -/
theorem x5_apply (c : Dev nD) (t : Fin cfg0.N) (x : Ins F) (hb : Blocks m c t x) (h : Fin 4) (k : Fin 1024) (hk : t.val % 16 * 1024 + k.val < 16256) :
    x.x5 (ix3 0 h k) = m ((c : Thread nD τ).loc main_arg7) (ix3 (row t) ⟨t.val % 16 * 1024 + k.val, hk⟩ h) := by
  obtain ⟨e, he⟩ := hb.2.2.2.2.2.1
  have hlt : ∀ a, ((ix3 (0 : Fin 1) h k) a).val < (cfg0.win 5).xsize (cfg0.grid.coords t) a := by
    intro a; rw [xsize_5]; fin_cases a <;> simp <;> split <;> omega
  rw [he]
  unfold Window.fill
  rw [dif_pos ((Window.moved_iff _ _ _).mpr hlt)]
  blk_simp [iblk]
  have hi : ((win0_5.blk t).view.emb fun a => ⟨((ix3 (0 : Fin 1) h k) a).val, hlt a⟩) = ix3 (row t) h (⟨t.val % 16 * 1024 + k.val, hk⟩ : Fin 16256) := by
    funext a; apply Fin.ext; blk_simp [index_5]; fin_cases a <;> simp [row]
  rw [show V m c main_v4 _ = V m c main_v4 (ix3 (row t) h (⟨t.val % 16 * 1024 + k.val, hk⟩ : Fin 16256)) from congrArg _ hi]
  entry_read
  pointwise

theorem index_6 : ∀ t : Fin cfg0.N, win0_6.index t = ![t.val / 16, 0, t.val % 16] := by decide +kernel
theorem xsize_6 : ∀ t : Fin cfg0.N, (cfg0.win 6).xsize (cfg0.grid.coords t) = ![1, 4, if t.val % 16 = 15 then 896 else 1024] := by decide +kernel

/-- Input 6's block at an index inside its array: an element of the argument. -/
theorem x6_apply (c : Dev nD) (t : Fin cfg0.N) (x : Ins F) (hb : Blocks m c t x) (h : Fin 4) (k : Fin 1024) (hk : t.val % 16 * 1024 + k.val < 16256) :
    x.x6 (ix3 0 h k) = m ((c : Thread nD τ).loc main_arg8) (ix3 (row t) ⟨t.val % 16 * 1024 + k.val, hk⟩ h) := by
  obtain ⟨e, he⟩ := hb.2.2.2.2.2.2.1
  have hlt : ∀ a, ((ix3 (0 : Fin 1) h k) a).val < (cfg0.win 6).xsize (cfg0.grid.coords t) a := by
    intro a; rw [xsize_6]; fin_cases a <;> simp <;> split <;> omega
  rw [he]
  unfold Window.fill
  rw [dif_pos ((Window.moved_iff _ _ _).mpr hlt)]
  blk_simp [iblk]
  have hi : ((win0_6.blk t).view.emb fun a => ⟨((ix3 (0 : Fin 1) h k) a).val, hlt a⟩) = ix3 (row t) h (⟨t.val % 16 * 1024 + k.val, hk⟩ : Fin 16256) := by
    funext a; apply Fin.ext; blk_simp [index_6]; fin_cases a <;> simp [row]
  rw [show V m c main_v5 _ = V m c main_v5 (ix3 (row t) h (⟨t.val % 16 * 1024 + k.val, hk⟩ : Fin 16256)) from congrArg _ hi]
  entry_read
  pointwise

end Cert.KernelIdeal.Body
end
-- ==== Proof.Val.Final.lean ====
/-
  The result arrays after the launch: each is read off what the last point of every batch row leaves in its buffer.
-/
module
public import proofs.«01_k».proof.Proof.KI.Frame
public import Idealize.ShloMosaic.Lib.Pointwise
public import Idealize.ShloMosaic.Lib.Pipeline.ArrRel
public import Idealize.ShloMosaic.Lib.Pipeline.ValueKit.Geometry
@[expose] public section
set_option maxRecDepth 16384
noncomputable section
namespace Cert.KernelIdeal.Body
open Cert.KernelIdeal.Gen
open Idealize.ShloMosaic Idealize.ShloMosaic.TcCoe Idealize.ShloMosaic.Tactic
open Idealize.ShloMosaic.Pipeline (Dat RDat Cfg Window cellOf)
variable {F : FTy → Type} [FloatOps F] [Named F]
variable (m : (ℓ : Loc nD τ sig) → Buf (Elt F) ℓ)

theorem index_11 : ∀ t : Fin cfg0.N, win0_11.index t = ![t.val / 16, 0, 0] := by decide +kernel
theorem flush_11 : ∀ t : Fin cfg0.N, (cfg0.win 11).flush t = true → t.val % 16 = 15 := by decide +kernel

/-- The result array that window 11 writes, from what is tracked of the window's buffer. -/
theorem final_11 (T : Track F) {r : PUnit × MemSt nD τ sig (Elt F)} (h : Pipeline.RDat.FramePost (cfgs 0) (rdat m T) (V m) r) (c : Dev nD)
    (G : Buf (Elt F) ((c : Thread nD τ).loc main_v10_0))
    (hG : ∀ t : Fin cfg0.N, t.val % 16 = 15 → ∀ X, T.O11 t.val X → ∀ (a : Fin 128) (b : Fin 4096), X (ix3 0 a b) = G (ix3 ⟨t.val / 16, by have : t.val < 512 := t.isLt; omega⟩ a b)) :
    r.2.mem ((c : Thread nD τ).loc main_v10_0) = G := by
  obtain ⟨after, hl, ha⟩ := RDat.FramePost.exists_exact h c
  refine (ha 11).trans ?_
  refine Dat.arrAt_eq_of_covers (dat := (rdat m T c).withAfter after) 11 G (by decide +kernel) (fun t hf y => ?_)
  obtain ⟨Y, hY, hX⟩ := hl 11 t hf
  have hx := hG t (flush_11 t hf) _ (hX (flush_11 t hf)) (y 1) (y 2)
  blk_simp
  rw [RDat.withAfter_after]
  have h0 : (y 0).val = 0 := by have : (y 0).val < 1 := (y 0).isLt; omega
  have h1 : (y : S1x128x4096.Idx) = ix3 0 (y 1) (y 2) := by
    funext a; apply Fin.ext; fin_cases a
    · exact h0
    all_goals rfl
  have h2 : (win0_11.blk t).view.emb y = ix3 ⟨t.val / 16, by have : t.val < 512 := t.isLt; omega⟩ (y 1) (y 2) := by
    funext a; apply Fin.ext; blk_simp [index_11]; fin_cases a <;> simp [h0]
  exact (congrArg (after 11 t) h1).trans (hx.trans (congrArg G h2.symm))

theorem index_12 : ∀ t : Fin cfg0.N, win0_12.index t = ![t.val / 16, 0, 0, 0] := by decide +kernel
theorem flush_12 : ∀ t : Fin cfg0.N, (cfg0.win 12).flush t = true → t.val % 16 = 15 := by decide +kernel

/-- The result array that window 12 writes, from what is tracked of the window's buffer. -/
theorem final_12 (T : Track F) {r : PUnit × MemSt nD τ sig (Elt F)} (h : Pipeline.RDat.FramePost (cfgs 0) (rdat m T) (V m) r) (c : Dev nD)
    (G : Buf (Elt F) ((c : Thread nD τ).loc main_v10_1))
    (hG : ∀ t : Fin cfg0.N, t.val % 16 = 15 → ∀ X, T.O12 t.val X → ∀ (a : Fin 4) (b : Fin 64) (d : Fin 128), X (ix4 0 a b d) = G (ix4 ⟨t.val / 16, by have : t.val < 512 := t.isLt; omega⟩ a b d)) :
    r.2.mem ((c : Thread nD τ).loc main_v10_1) = G := by
  obtain ⟨after, hl, ha⟩ := RDat.FramePost.exists_exact h c
  refine (ha 12).trans ?_
  refine Dat.arrAt_eq_of_covers (dat := (rdat m T c).withAfter after) 12 G (by decide +kernel) (fun t hf y => ?_)
  obtain ⟨Y, hY, hX⟩ := hl 12 t hf
  have hx := hG t (flush_12 t hf) _ (hX (flush_12 t hf)) (y 1) (y 2) (y 3)
  blk_simp
  rw [RDat.withAfter_after]
  have h0 : (y 0).val = 0 := by have : (y 0).val < 1 := (y 0).isLt; omega
  have h1 : (y : S1x4x64x128.Idx) = ix4 0 (y 1) (y 2) (y 3) := by
    funext a; apply Fin.ext; fin_cases a
    · exact h0
    all_goals rfl
  have h2 : (win0_12.blk t).view.emb y = ix4 ⟨t.val / 16, by have : t.val < 512 := t.isLt; omega⟩ (y 1) (y 2) (y 3) := by
    funext a; apply Fin.ext; blk_simp [index_12]; fin_cases a <;> simp [h0]
  exact (congrArg (after 12 t) h1).trans (hx.trans (congrArg G h2.symm))

theorem index_13 : ∀ t : Fin cfg0.N, win0_13.index t = ![t.val / 16, 0, 0, 0] := by decide +kernel
theorem flush_13 : ∀ t : Fin cfg0.N, (cfg0.win 13).flush t = true → t.val % 16 = 15 := by decide +kernel

/-- The result array that window 13 writes, from what is tracked of the window's buffer. -/
theorem final_13 (T : Track F) {r : PUnit × MemSt nD τ sig (Elt F)} (h : Pipeline.RDat.FramePost (cfgs 0) (rdat m T) (V m) r) (c : Dev nD)
    (G : Buf (Elt F) ((c : Thread nD τ).loc main_v10_2))
    (hG : ∀ t : Fin cfg0.N, t.val % 16 = 15 → ∀ X, T.O13 t.val X → ∀ (a : Fin 4) (b : Fin 4) (d : Fin 128), X (ix4 0 a b d) = G (ix4 ⟨t.val / 16, by have : t.val < 512 := t.isLt; omega⟩ a b d)) :
    r.2.mem ((c : Thread nD τ).loc main_v10_2) = G := by
  obtain ⟨after, hl, ha⟩ := RDat.FramePost.exists_exact h c
  refine (ha 13).trans ?_
  refine Dat.arrAt_eq_of_covers (dat := (rdat m T c).withAfter after) 13 G (by decide +kernel) (fun t hf y => ?_)
  obtain ⟨Y, hY, hX⟩ := hl 13 t hf
  have hx := hG t (flush_13 t hf) _ (hX (flush_13 t hf)) (y 1) (y 2) (y 3)
  blk_simp
  rw [RDat.withAfter_after]
  have h0 : (y 0).val = 0 := by have : (y 0).val < 1 := (y 0).isLt; omega
  have h1 : (y : S1x4x4x128.Idx) = ix4 0 (y 1) (y 2) (y 3) := by
    funext a; apply Fin.ext; fin_cases a
    · exact h0
    all_goals rfl
  have h2 : (win0_13.blk t).view.emb y = ix4 ⟨t.val / 16, by have : t.val < 512 := t.isLt; omega⟩ (y 1) (y 2) (y 3) := by
    funext a; apply Fin.ext; blk_simp [index_13]; fin_cases a <;> simp [h0]
  exact (congrArg (after 13 t) h1).trans (hx.trans (congrArg G h2.symm))

theorem index_14 : ∀ t : Fin cfg0.N, win0_14.index t = ![t.val / 16, 0, 0, 0] := by decide +kernel
theorem flush_14 : ∀ t : Fin cfg0.N, (cfg0.win 14).flush t = true → t.val % 16 = 15 := by decide +kernel

/-- The result array that window 14 writes, from what is tracked of the window's buffer. -/
theorem final_14 (T : Track F) {r : PUnit × MemSt nD τ sig (Elt F)} (h : Pipeline.RDat.FramePost (cfgs 0) (rdat m T) (V m) r) (c : Dev nD)
    (G : Buf (Elt F) ((c : Thread nD τ).loc main_v10_3))
    (hG : ∀ t : Fin cfg0.N, t.val % 16 = 15 → ∀ X, T.O14 t.val X → ∀ (a : Fin 4) (b : Fin 4) (d : Fin 128), X (ix4 0 a b d) = G (ix4 ⟨t.val / 16, by have : t.val < 512 := t.isLt; omega⟩ a b d)) :
    r.2.mem ((c : Thread nD τ).loc main_v10_3) = G := by
  obtain ⟨after, hl, ha⟩ := RDat.FramePost.exists_exact h c
  refine (ha 14).trans ?_
  refine Dat.arrAt_eq_of_covers (dat := (rdat m T c).withAfter after) 14 G (by decide +kernel) (fun t hf y => ?_)
  obtain ⟨Y, hY, hX⟩ := hl 14 t hf
  have hx := hG t (flush_14 t hf) _ (hX (flush_14 t hf)) (y 1) (y 2) (y 3)
  blk_simp
  rw [RDat.withAfter_after]
  have h0 : (y 0).val = 0 := by have : (y 0).val < 1 := (y 0).isLt; omega
  have h1 : (y : S1x4x4x128.Idx) = ix4 0 (y 1) (y 2) (y 3) := by
    funext a; apply Fin.ext; fin_cases a
    · exact h0
    all_goals rfl
  have h2 : (win0_14.blk t).view.emb y = ix4 ⟨t.val / 16, by have : t.val < 512 := t.isLt; omega⟩ (y 1) (y 2) (y 3) := by
    funext a; apply Fin.ext; blk_simp [index_14]; fin_cases a <;> simp [h0]
  exact (congrArg (after 14 t) h1).trans (hx.trans (congrArg G h2.symm))

theorem index_15 : ∀ t : Fin cfg0.N, win0_15.index t = ![t.val / 16, 0, 0, 0] := by decide +kernel
theorem flush_15 : ∀ t : Fin cfg0.N, (cfg0.win 15).flush t = true → t.val % 16 = 15 := by decide +kernel

/-- The result array that window 15 writes, from what is tracked of the window's buffer. -/
theorem final_15 (T : Track F) {r : PUnit × MemSt nD τ sig (Elt F)} (h : Pipeline.RDat.FramePost (cfgs 0) (rdat m T) (V m) r) (c : Dev nD)
    (G : Buf (Elt F) ((c : Thread nD τ).loc main_v10_4))
    (hG : ∀ t : Fin cfg0.N, t.val % 16 = 15 → ∀ X, T.O15 t.val X → ∀ (a : Fin 4) (b : Fin 64) (d : Fin 128), X (ix4 0 a b d) = G (ix4 ⟨t.val / 16, by have : t.val < 512 := t.isLt; omega⟩ a b d)) :
    r.2.mem ((c : Thread nD τ).loc main_v10_4) = G := by
  obtain ⟨after, hl, ha⟩ := RDat.FramePost.exists_exact h c
  refine (ha 15).trans ?_
  refine Dat.arrAt_eq_of_covers (dat := (rdat m T c).withAfter after) 15 G (by decide +kernel) (fun t hf y => ?_)
  obtain ⟨Y, hY, hX⟩ := hl 15 t hf
  have hx := hG t (flush_15 t hf) _ (hX (flush_15 t hf)) (y 1) (y 2) (y 3)
  blk_simp
  rw [RDat.withAfter_after]
  have h0 : (y 0).val = 0 := by have : (y 0).val < 1 := (y 0).isLt; omega
  have h1 : (y : S1x4x64x128.Idx) = ix4 0 (y 1) (y 2) (y 3) := by
    funext a; apply Fin.ext; fin_cases a
    · exact h0
    all_goals rfl
  have h2 : (win0_15.blk t).view.emb y = ix4 ⟨t.val / 16, by have : t.val < 512 := t.isLt; omega⟩ (y 1) (y 2) (y 3) := by
    funext a; apply Fin.ext; blk_simp [index_15]; fin_cases a <;> simp [h0]
  exact (congrArg (after 15 t) h1).trans (hx.trans (congrArg G h2.symm))

theorem index_16 : ∀ t : Fin cfg0.N, win0_16.index t = ![t.val / 16, 0, 0] := by decide +kernel
theorem flush_16 : ∀ t : Fin cfg0.N, (cfg0.win 16).flush t = true → t.val % 16 = 15 := by decide +kernel

/-- The result array that window 16 writes, from what is tracked of the window's buffer. -/
theorem final_16 (T : Track F) {r : PUnit × MemSt nD τ sig (Elt F)} (h : Pipeline.RDat.FramePost (cfgs 0) (rdat m T) (V m) r) (c : Dev nD)
    (G : Buf (Elt F) ((c : Thread nD τ).loc main_v10_5))
    (hG : ∀ t : Fin cfg0.N, t.val % 16 = 15 → ∀ X, T.O16 t.val X → ∀ (a : Fin 4) (b : Fin 128), X (ix3 0 a b) = G (ix3 ⟨t.val / 16, by have : t.val < 512 := t.isLt; omega⟩ a b)) :
    r.2.mem ((c : Thread nD τ).loc main_v10_5) = G := by
  obtain ⟨after, hl, ha⟩ := RDat.FramePost.exists_exact h c
  refine (ha 16).trans ?_
  refine Dat.arrAt_eq_of_covers (dat := (rdat m T c).withAfter after) 16 G (by decide +kernel) (fun t hf y => ?_)
  obtain ⟨Y, hY, hX⟩ := hl 16 t hf
  have hx := hG t (flush_16 t hf) _ (hX (flush_16 t hf)) (y 1) (y 2)
  blk_simp
  rw [RDat.withAfter_after]
  have h0 : (y 0).val = 0 := by have : (y 0).val < 1 := (y 0).isLt; omega
  have h1 : (y : S1x4x128.Idx) = ix3 0 (y 1) (y 2) := by
    funext a; apply Fin.ext; fin_cases a
    · exact h0
    all_goals rfl
  have h2 : (win0_16.blk t).view.emb y = ix3 ⟨t.val / 16, by have : t.val < 512 := t.isLt; omega⟩ (y 1) (y 2) := by
    funext a; apply Fin.ext; blk_simp [index_16]; fin_cases a <;> simp [h0]
  exact (congrArg (after 16 t) h1).trans (hx.trans (congrArg G h2.symm))

theorem index_17 : ∀ t : Fin cfg0.N, win0_17.index t = ![t.val / 16, 0, 0] := by decide +kernel
theorem flush_17 : ∀ t : Fin cfg0.N, (cfg0.win 17).flush t = true → t.val % 16 = 15 := by decide +kernel

/-- The result array that window 17 writes, from what is tracked of the window's buffer. -/
theorem final_17 (T : Track F) {r : PUnit × MemSt nD τ sig (Elt F)} (h : Pipeline.RDat.FramePost (cfgs 0) (rdat m T) (V m) r) (c : Dev nD)
    (G : Buf (Elt F) ((c : Thread nD τ).loc main_v10_6))
    (hG : ∀ t : Fin cfg0.N, t.val % 16 = 15 → ∀ X, T.O17 t.val X → ∀ (a : Fin 4) (b : Fin 128), X (ix3 0 a b) = G (ix3 ⟨t.val / 16, by have : t.val < 512 := t.isLt; omega⟩ a b)) :
    r.2.mem ((c : Thread nD τ).loc main_v10_6) = G := by
  obtain ⟨after, hl, ha⟩ := RDat.FramePost.exists_exact h c
  refine (ha 17).trans ?_
  refine Dat.arrAt_eq_of_covers (dat := (rdat m T c).withAfter after) 17 G (by decide +kernel) (fun t hf y => ?_)
  obtain ⟨Y, hY, hX⟩ := hl 17 t hf
  have hx := hG t (flush_17 t hf) _ (hX (flush_17 t hf)) (y 1) (y 2)
  blk_simp
  rw [RDat.withAfter_after]
  have h0 : (y 0).val = 0 := by have : (y 0).val < 1 := (y 0).isLt; omega
  have h1 : (y : S1x4x128.Idx) = ix3 0 (y 1) (y 2) := by
    funext a; apply Fin.ext; fin_cases a
    · exact h0
    all_goals rfl
  have h2 : (win0_17.blk t).view.emb y = ix3 ⟨t.val / 16, by have : t.val < 512 := t.isLt; omega⟩ (y 1) (y 2) := by
    funext a; apply Fin.ext; blk_simp [index_17]; fin_cases a <;> simp [h0]
  exact (congrArg (after 17 t) h1).trans (hx.trans (congrArg G h2.symm))

end Cert.KernelIdeal.Body
end
-- ==== Proof.Val.Walk.lean ====
/-
  A buffer written piece after piece, each piece a tile of a tiling: what it holds is read tile by tile.
-/
module
public import Idealize.ShloMosaic.Lib.Pipeline.FrameBody
@[expose] public section
noncomputable section
namespace Cert.Val
open Idealize.ShloMosaic
variable {sig : RefSig} {κ : Kind} {sp : Space} {s : Shape} {e : EltTy} {Val : EltTy → Type} [∀ e, Nonempty (Val e)]

/-- A rectangle's members are the images of its own indices. -/
theorem mem_rect (r : Rect s) (y : s.Idx) : y ∈ r.set ↔ ∃ z, r.emb z = y := by
  rw [← Rect.map_emb_univ]; simp

/-- Pieces written one after another, the latest first, each from what the buffer then holds at the piece's place. -/
def walk (v : View sig κ sp s e) (base : List (View.Piece Val s e)) (R : ℕ → Rect s)
    (f : (n : ℕ) → ((R n).shape.Idx → Val e) → (R n).shape.Idx → Val e) : ℕ → List (View.Piece Val s e)
  | 0 => base
  | n + 1 => ⟨R n, f n (v.readCov (walk v base R f n) (R n).toLoadRect)⟩ :: walk v base R f n

/-- Where every index lies in one tile, the buffer after `N` tiles holds the tiles' new values, and elsewhere what it held. -/
theorem canon_walk (v : View sig κ sp s e) (base : List (View.Piece Val s e)) (R : ℕ → Rect s)
    (f : (n : ℕ) → ((R n).shape.Idx → Val e) → (R n).shape.Idx → Val e) (G : s.Idx → Val e) (tile : s.Idx → ℕ) (M : ℕ)
    (hmem : ∀ n < M, ∀ y, y ∈ (R n).set ↔ tile y = n)
    (hG : ∀ n < M, ∀ z, f n (fun x => View.canon base ((R n).emb x)) z = G ((R n).emb z)) :
    ∀ N ≤ M, ∀ y, View.canon (walk v base R f N) y = if tile y < N then G y else View.canon base y := by
  intro N
  induction N with
  | zero => intro _ y; rfl
  | succ n ih =>
    intro hN y
    have ih := ih (by omega)
    have hold : v.readCov (walk v base R f n) (R n).toLoadRect = fun x => View.canon base ((R n).emb x) := by
      rw [View.readCov_eq_canon']
      funext x
      have hx : tile ((R n).emb x) = n := (hmem n (by omega) _).1 ((mem_rect _ _).2 ⟨x, rfl⟩)
      exact (ih ((R n).emb x)).trans (if_neg (by omega))
    by_cases hy : tile y = n
    · obtain ⟨z, rfl⟩ := (mem_rect _ _).1 ((hmem n (by omega) y).2 hy)
      rw [if_pos (by omega)]
      refine (View.canon_cons_emb _ _ _ _).trans ?_
      rw [hold]
      exact hG n (by omega) z
    · refine (View.canon_cons_of_not_mem _ _ (fun h => hy ((hmem n (by omega) y).1 h))).trans ?_
      rw [ih]
      by_cases h : tile y < n
      · rw [if_pos h, if_pos (by omega)]
      · rw [if_neg h, if_neg (by omega)]

/-- What such a load reads at tile `n`. -/
theorem readCov_walk (v : View sig κ sp s e) (base : List (View.Piece Val s e)) (R : ℕ → Rect s)
    (f : (n : ℕ) → ((R n).shape.Idx → Val e) → (R n).shape.Idx → Val e) (G : s.Idx → Val e) (tile : s.Idx → ℕ) (M : ℕ)
    (hmem : ∀ n < M, ∀ y, y ∈ (R n).set ↔ tile y = n)
    (hG : ∀ n < M, ∀ z, f n (fun x => View.canon base ((R n).emb x)) z = G ((R n).emb z)) (n : ℕ) (hn : n < M) :
    v.readCov (walk v base R f n) (R n).toLoadRect = fun x => View.canon base ((R n).emb x) := by
  rw [View.readCov_eq_canon']
  funext x
  have hx : tile ((R n).emb x) = n := (hmem n hn _).1 ((mem_rect _ _).2 ⟨x, rfl⟩)
  exact (canon_walk v base R f G tile M hmem hG n (by omega) ((R n).emb x)).trans (if_neg (by omega))

end Cert.Val
end
-- ==== Proof.Val.Lists.lean ====
/-
  What the body writes, piece by piece: the block's dequantised keys and values, and the tiles of the running maximum, the
  running sum and the accumulator.
-/
module
public import proofs.«01_k».proof.Proof.KI.Frame
public import proofs.«01_k».proof.Proof.Val.Walk
@[expose] public section
set_option maxRecDepth 16384
noncomputable section
namespace Cert.KernelIdeal.Body
open Cert.KernelIdeal.Gen
open Idealize.ShloMosaic Idealize.ShloMosaic.TcCoe Idealize.ShloMosaic.Tactic
open Idealize.ShloMosaic.Pipeline (Dat RDat Cfg Window cellOf)
open Cert.Val (walk)
variable {F : FTy → Type} [FloatOps F] [Named F]

/-- Rows `4g + h` of the scales' or zeros' table. -/
abbrev Rrow (n : ℕ) : Rect S128x128 := Rect.unit ![4 * (n % 32) + n / 32 % 4, 0] S1x128.size (by
  intro a; fin_cases a <;> simp [S128x128, S1x128] <;> omega)
/-- Keys `32g … 32g+31` of head `h`, `n = 32h + g`. -/
abbrev Rk (n : ℕ) : Rect S4x1024x128 := Rect.unit ![n / 32 % 4, 32 * (n % 32), 0] S1x32x128.size (by
  intro a; fin_cases a <;> simp [S4x1024x128, S1x32x128] <;> omega)
/-- The keys of a head. -/
abbrev RkB (h : ℕ) : Rect S4x1024x128 := Rect.unit ![h % 4, 0, 0] S1x1024x128.size (by
  intro a; fin_cases a <;> simp [S4x1024x128, S1x1024x128] <;> omega)
/-- The values of a head. -/
abbrev Rv (h : ℕ) : Rect S4x128x1024 := Rect.unit ![h % 4, 0, 0] S1x128x1024.size (by
  intro a; fin_cases a <;> simp [S4x128x1024, S1x128x1024] <;> omega)
/-- Tile `n` of 256 query columns. -/
abbrev R7 (n : ℕ) : Rect S1x4096 := Rect.unit ![0, 256 * (n % 16)] S1x256.size (by
  intro a; fin_cases a <;> simp [S1x4096, S1x256] <;> omega)
abbrev R6 (n : ℕ) : Rect S128x4096 := Rect.unit ![0, 256 * (n % 16)] S128x256.size (by
  intro a; fin_cases a <;> simp [S128x4096, S128x256] <;> omega)
/-- The codes of a head. -/
abbrev Rc (h : ℕ) : Rect S1x4x64x1024 := Rect.unit ![0, h % 4, 0, 0] S1x1x64x1024.size (by
  intro a; fin_cases a <;> simp [S1x4x64x1024, S1x1x64x1024] <;> omega)
/-- The values' scales or zeros of a head. -/
abbrev Rvs (h : ℕ) : Rect S1x4x1024 := Rect.unit ![0, h % 4, 0] S1x1x1024.size (by
  intro a; fin_cases a <;> simp [S1x4x1024, S1x1x1024] <;> omega)

theorem slices_k (n : ℕ) : S1024x128.Slices ![32 * (n % 32), 0] S32x128 := by
  refine ⟨rfl, ?_⟩
  intro a; fin_cases a <;> simp [S1024x128, S32x128] <;> omega

/-- One group of keys: codes times the scale's row, plus the zero's row. -/
def kPay (kq : FVec F S1024x128 .bf16) (sc zr : Vec F S1x128 .f32) (n : ℕ) : Vec F S1x32x128 .bf16 :=
  shapeCast S1x32x128 (addf (mulf (extractStridedSlice S32x128 ![32 * (n % 32), 0] kq (slices_k n))
    (truncf .bf16 (broadcastTo S32x128 (shapeCast S1x128 sc shapeCasts_S1x128_S1x128) broadcasts_S1x128_S32x128) bitsLt_bf16_f32))
    (truncf .bf16 (broadcastTo S32x128 (shapeCast S1x128 zr shapeCasts_S1x128_S1x128) broadcasts_S1x128_S32x128) bitsLt_bf16_f32)) shapeCasts_S32x128_S1x32x128

/-- The block's scales (or zeros), permuted: as a written buffer. -/
abbrev rowL (k : Vec F S1x128x128 .f32) (P : Vec F S128x128 .bf16) : List (View.Piece (Elt F) S128x128 .f32) :=
  [⟨Rect.unit ![0, 0] S128x128.size inb_S128x128_S128x128_0_0, k0_pay45 P k⟩]

/-- The block's keys, as written. -/
def kL (P : Vec F S128x128 .bf16) (t : Fin cfg0.N) (x : Ins F) : ℕ → List (View.Piece (Elt F) S4x1024x128 .bf16) :=
  walk scM0_2.view [] Rk (fun n _ => kPay
    (k0_pay51 (View.readAt (Elt F) (ms0_1 t).view (Rc (n / 32)).toLoadRect ((hs0_1 t).unread x.x1)))
    (scM0_4.view.readCov (rowL (View.readAt (Elt F) (ms0_2 t).view (Rect.unit ![0, 0, 0] S1x128x128.size (by decide)).toLoadRect ((hs0_2 t).unread x.x2)) P) (Rrow n).toLoadRect)
    (scM0_5.view.readCov (rowL (View.readAt (Elt F) (ms0_3 t).view (Rect.unit ![0, 0, 0] S1x128x128.size (by decide)).toLoadRect ((hs0_3 t).unread x.x3)) P) (Rrow n).toLoadRect)
    n)

/-- The block's values, as written. -/
def vL (t : Fin cfg0.N) (x : Ins F) : ℕ → List (View.Piece (Elt F) S4x128x1024 .bf16) :=
  walk scM0_3.view [] Rv (fun h _ => k0_pay50
    (k0_pay47 (View.readAt (Elt F) (ms0_4 t).view (Rc h).toLoadRect ((hs0_4 t).unread x.x4)))
    (k0_pay48 (View.readAt (Elt F) (ms0_5 t).view (Rvs h).toLoadRect ((hs0_5 t).unread x.x5)))
    (k0_pay49 (View.readAt (Elt F) (ms0_6 t).view (Rvs h).toLoadRect ((hs0_6 t).unread x.x6))))

/-- The keys of a head as loaded, and the values. -/
abbrev kB (L : List (View.Piece (Elt F) S4x1024x128 .bf16)) (h : ℕ) : Vec F S1x1024x128 .bf16 := scM0_2.view.readCov L (RkB h).toLoadRect
abbrev vB (L : List (View.Piece (Elt F) S4x128x1024 .bf16)) (h : ℕ) : Vec F S1x128x1024 .bf16 := scM0_3.view.readCov L (Rv h).toLoadRect

section
variable (K : ℕ → Vec F S1x1024x128 .bf16) (V : ℕ → Vec F S1x128x1024 .bf16) (Q : ℕ → Vec F S128x256 .bf16)
/-- The tiles of the maximum, where each is read from the buffer as it was given. -/
def mLB (M : ℕ → Vec F S1x256 .f32) : ℕ → List (View.Piece (Elt F) S1x4096 .f32) :=
  walk scM0_7.view [] R7 (fun n _ => k0_pay664 (k0_pay661 (K (n / 4)) (Q n) (M n)))
/-- The tiles of the sum. -/
def lLB (M L : ℕ → Vec F S1x256 .f32) : ℕ → List (View.Piece (Elt F) S1x4096 .f32) :=
  walk scM0_8.view [] R7 (fun n _ => k0_pay665 (k0_pay662 (K (n / 4)) (Q n) (M n)) (k0_pay663 (K (n / 4)) (Q n) (M n)) (L n))
/-- The tiles of the accumulator. -/
def aLB (M : ℕ → Vec F S1x256 .f32) (A : ℕ → Vec F S128x256 .f32) : ℕ → List (View.Piece (Elt F) S128x4096 .f32) :=
  walk scM0_6.view [] R6 (fun n _ => k0_pay666 (k0_pay659 (V (n / 4))) (k0_pay662 (K (n / 4)) (Q n) (M n)) (k0_pay663 (K (n / 4)) (Q n) (M n)) (A n))
end

abbrev rd0 (s : Scr F) : Vec F S128x128 .bf16 := View.readAt (Elt F) scM0_0.view (Rect.unit ![0, 0] S128x128.size inb_S128x128_S128x128_0_0).toLoadRect ((Memref.isWhole_whole _ : scM0_0.IsWhole).unread s.s0)
abbrev rd1 (s : Scr F) (n : ℕ) : Vec F S128x256 .bf16 := View.readAt (Elt F) scM0_1.view (R6 n).toLoadRect ((Memref.isWhole_whole _ : scM0_1.IsWhole).unread s.s1)
abbrev rd6 (s : Scr F) (n : ℕ) : Vec F S128x256 .f32 := View.readAt (Elt F) scM0_6.view (R6 n).toLoadRect ((Memref.isWhole_whole _ : scM0_6.IsWhole).unread s.s6)
abbrev rd7 (s : Scr F) (n : ℕ) : Vec F S1x256 .f32 := View.readAt (Elt F) scM0_7.view (R7 n).toLoadRect ((Memref.isWhole_whole _ : scM0_7.IsWhole).unread s.s7)
abbrev rd8 (s : Scr F) (n : ℕ) : Vec F S1x256 .f32 := View.readAt (Elt F) scM0_8.view (R7 n).toLoadRect ((Memref.isWhole_whole _ : scM0_8.IsWhole).unread s.s8)

theorem piecesB7 (c : Dev nD) (t : Fin cfg0.N) (h : t.val % 16 ≠ 0 ∧ t.val % 16 ≠ 15) (x : Ins F) (s : Scr F) :
    (rB c t h x s).2.2.2.2.2.2.2.2.2.2.1 = mLB (kB (kL (rd0 s) t x 128)) (rd1 s) (rd7 s) 16 := by
  sl_kernel_rfl
theorem piecesB8 (c : Dev nD) (t : Fin cfg0.N) (h : t.val % 16 ≠ 0 ∧ t.val % 16 ≠ 15) (x : Ins F) (s : Scr F) :
    (rB c t h x s).2.2.2.2.2.2.2.2.2.2.2.1 = lLB (kB (kL (rd0 s) t x 128)) (rd1 s) (rd7 s) (rd8 s) 16 := by
  sl_kernel_rfl
theorem piecesB6 (c : Dev nD) (t : Fin cfg0.N) (h : t.val % 16 ≠ 0 ∧ t.val % 16 ≠ 15) (x : Ins F) (s : Scr F) :
    (rB c t h x s).2.2.2.2.2.2.2.2.2.1 = aLB (kB (kL (rd0 s) t x 128)) (vB (vL t x 4)) (rd1 s) (rd7 s) (rd6 s) 16 := by
  sl_kernel_rfl
end Cert.KernelIdeal.Body
end
-- ==== Proof.Val.ListsC.lean ====
/-
  What the body writes at the last point of a batch row, piece by piece.
-/
module
public import proofs.«01_k».proof.Proof.Val.Lists
@[expose] public section
set_option maxRecDepth 16384
noncomputable section
namespace Cert.KernelIdeal.Body
open Cert.KernelIdeal.Gen
open Idealize.ShloMosaic Idealize.ShloMosaic.TcCoe Idealize.ShloMosaic.Tactic
open Idealize.ShloMosaic.Pipeline (Dat RDat Cfg Window cellOf)
open Cert.Val (walk)
variable {F : FTy → Type} [FloatOps F] [Named F]

/-- Rows `4g + h` of the scales' or zeros' table, of 28 groups. -/
abbrev RrowC (n : ℕ) : Rect S128x128 := Rect.unit ![4 * (n % 28) + n / 28 % 4, 0] S1x128.size (by
  intro a; fin_cases a <;> simp [S128x128, S1x128] <;> omega)
abbrev RkC (n : ℕ) : Rect S4x1024x128 := Rect.unit ![n / 28 % 4, 32 * (n % 28), 0] S1x32x128.size (by
  intro a; fin_cases a <;> simp [S4x1024x128, S1x32x128] <;> omega)
abbrev RkT (h : ℕ) : Rect S4x1024x128 := Rect.unit ![h % 4, 896, 0] S1x128x128.size (by
  intro a; fin_cases a <;> simp [S4x1024x128, S1x128x128] <;> omega)
abbrev RvC (h : ℕ) : Rect S4x128x1024 := Rect.unit ![h % 4, 0, 0] S1x128x896.size (by
  intro a; fin_cases a <;> simp [S4x128x1024, S1x128x896] <;> omega)
abbrev RvT (h : ℕ) : Rect S4x128x1024 := Rect.unit ![h % 4, 0, 896] S1x128x128.size (by
  intro a; fin_cases a <;> simp [S4x128x1024, S1x128x128] <;> omega)
abbrev RcC (h : ℕ) : Rect S1x4x64x1024 := Rect.unit ![0, h % 4, 0, 0] S1x1x64x896.size (by
  intro a; fin_cases a <;> simp [S1x4x64x1024, S1x1x64x896] <;> omega)
abbrev RvsC (h : ℕ) : Rect S1x4x1024 := Rect.unit ![0, h % 4, 0] S1x1x896.size (by
  intro a; fin_cases a <;> simp [S1x4x1024, S1x1x896] <;> omega)
/-- A head of the tail or of the new tokens. -/
abbrev Rt (h : ℕ) : Rect S1x4x128x128 := Rect.unit ![0, h % 4, 0, 0] S1x1x128x128.size (by
  intro a; fin_cases a <;> simp [S1x4x128x128, S1x1x128x128] <;> omega)

abbrev Rsc : Rect S1x128x128 := Rect.unit ![0, 0, 0] S1x112x128.size (by
  intro a; fin_cases a <;> simp [S1x128x128, S1x112x128])

theorem slices_kC (n : ℕ) : S896x128.Slices ![32 * (n % 28), 0] S32x128 := by
  refine ⟨rfl, ?_⟩
  intro a; fin_cases a <;> simp [S896x128, S32x128] <;> omega

/-- One group of keys: codes times the scale's row, plus the zero's row. -/
def kPayC (kq : FVec F S896x128 .bf16) (sc zr : Vec F S1x128 .f32) (n : ℕ) : Vec F S1x32x128 .bf16 :=
  shapeCast S1x32x128 (addf (mulf (extractStridedSlice S32x128 ![32 * (n % 28), 0] kq (slices_kC n))
    (truncf .bf16 (broadcastTo S32x128 (shapeCast S1x128 sc shapeCasts_S1x128_S1x128) broadcasts_S1x128_S32x128) bitsLt_bf16_f32))
    (truncf .bf16 (broadcastTo S32x128 (shapeCast S1x128 zr shapeCasts_S1x128_S1x128) broadcasts_S1x128_S32x128) bitsLt_bf16_f32)) shapeCasts_S32x128_S1x32x128

/-- A head of the tail's keys, permuted. -/
def kTail (P : Vec F S128x128 .bf16) (k : Vec F S1x1x128x128 .bf16) : Vec F S1x128x128 .bf16 :=
  shapeCast S1x128x128 (truncf .bf16 (matmul dot_S128x128_S128x128_S128x128_1_1_0_0_n_n none
    (shapeCast S128x128 k shapeCasts_S1x1x128x128_S128x128 : FVec F S128x128 .bf16) P (constant S128x128 .f32 0x00000000#32)) bitsLt_bf16_f32) shapeCasts_S128x128_S1x128x128

abbrev rowLC (k : Vec F S1x112x128 .f32) (P : Vec F S128x128 .bf16) : List (View.Piece (Elt F) S128x128 .f32) :=
  [⟨Rect.unit ![0, 0] S112x128.size (by decide), k0_pay241 P k⟩]

/-- The last block's keys, as written: 896 cached ones and the tail. -/
def kLC (P : Vec F S128x128 .bf16) (t : Fin cfg0.N) (x : Ins F) : ℕ → List (View.Piece (Elt F) S4x1024x128 .bf16) :=
  walk scM0_2.view (walk scM0_2.view [] RkC (fun n _ => kPayC
    (k0_pay247 (View.readAt (Elt F) (ms0_1 t).view (RcC (n / 28)).toLoadRect ((hs0_1 t).unread x.x1)))
    (scM0_4.view.readCov (rowLC (View.readAt (Elt F) (ms0_2 t).view Rsc.toLoadRect ((hs0_2 t).unread x.x2)) P) (RrowC n).toLoadRect)
    (scM0_5.view.readCov (rowLC (View.readAt (Elt F) (ms0_3 t).view Rsc.toLoadRect ((hs0_3 t).unread x.x3)) P) (RrowC n).toLoadRect)
    n) 112) RkT (fun h _ => kTail P (View.readAt (Elt F) (ms0_7 t).view (Rt h).toLoadRect ((hs0_7 t).unread x.x7)))

/-- The last block's values, as written. -/
def vLC (P : Vec F S128x128 .bf16) (t : Fin cfg0.N) (x : Ins F) : ℕ → List (View.Piece (Elt F) S4x128x1024 .bf16) :=
  walk scM0_3.view (walk scM0_3.view [] RvC (fun h _ => k0_pay246
    (k0_pay243 (View.readAt (Elt F) (ms0_4 t).view (RcC h).toLoadRect ((hs0_4 t).unread x.x4)))
    (k0_pay244 (View.readAt (Elt F) (ms0_5 t).view (RvsC h).toLoadRect ((hs0_5 t).unread x.x5)))
    (k0_pay245 (View.readAt (Elt F) (ms0_6 t).view (RvsC h).toLoadRect ((hs0_6 t).unread x.x6)))) 4)
    RvT (fun h _ => k0_pay657 (k0_pay421 P (View.readAt (Elt F) (ms0_8 t).view (Rt h).toLoadRect ((hs0_8 t).unread x.x8))))

/-- The new tokens of a head, as loaded. -/
abbrev knB (t : Fin cfg0.N) (x : Ins F) (h : ℕ) : Vec F S1x1x128x128 .bf16 := View.readAt (Elt F) (ms0_9 t).view (Rt h).toLoadRect ((hs0_9 t).unread x.x9)
abbrev vnB (t : Fin cfg0.N) (x : Ins F) (h : ℕ) : Vec F S1x1x128x128 .bf16 := View.readAt (Elt F) (ms0_10 t).view (Rt h).toLoadRect ((hs0_10 t).unread x.x10)
/-- The new keys and values of a head, quantised and dequantised, permuted. -/
def kdB (P : Vec F S128x128 .bf16) (kn : Vec F S1x1x128x128 .bf16) : FVec F S128x128 .bf16 := k0_pay432 P (k0_pay425 kn) (k0_pay426 kn) (k0_pay427 kn)
abbrev vd1 (P : Vec F S128x128 .bf16) (vn : Vec F S1x1x128x128 .bf16) : FVec F S128x128 .bf16 := k0_pay440 (k0_pay433 P vn) (k0_pay434 P vn)
abbrev vd2 (P : Vec F S128x128 .bf16) (vn : Vec F S1x1x128x128 .bf16) : FVec F S1x128 .bf16 := k0_pay441 (k0_pay434 P vn)

section
variable (bm bl : List (View.Piece (Elt F) S1x4096 .f32)) (ba : List (View.Piece (Elt F) S128x4096 .f32))
  (K : ℕ → FVec F S128x128 .bf16) (V1 : ℕ → FVec F S128x128 .bf16) (V2 : ℕ → FVec F S1x128 .bf16) (Q : ℕ → Vec F S128x256 .bf16)
/-- The new tokens' tiles of the maximum, over the pieces before. -/
def mLN : ℕ → List (View.Piece (Elt F) S1x4096 .f32) :=
  walk scM0_7.view bm R7 (fun n o => k0_pay447 k0_pay422 (K (n / 4)) (Q n) o)
abbrev mN (n : ℕ) : Vec F S1x256 .f32 := scM0_7.view.readCov (mLN bm K Q n) (R7 n).toLoadRect
def lLN : ℕ → List (View.Piece (Elt F) S1x4096 .f32) :=
  walk scM0_8.view bl R7 (fun n o => k0_pay448 k0_pay422 (K (n / 4)) (Q n) (mN bm K Q n) o)
def aLN : ℕ → List (View.Piece (Elt F) S128x4096 .f32) :=
  walk scM0_6.view ba R6 (fun n o => k0_pay450 (k0_pay449 k0_pay422 (K (n / 4)) (V1 (n / 4)) (V2 (n / 4)) (Q n) (mN bm K Q n) o))
end

section
variable (t : Fin cfg0.N) (x : Ins F) (s : Scr F)
abbrev mC1 : List (View.Piece (Elt F) S1x4096 .f32) := mLB (kB (kLC (rd0 s) t x 4)) (rd1 s) (rd7 s) 16
abbrev lC1 : List (View.Piece (Elt F) S1x4096 .f32) := lLB (kB (kLC (rd0 s) t x 4)) (rd1 s) (rd7 s) (rd8 s) 16
abbrev aC1 : List (View.Piece (Elt F) S128x4096 .f32) := aLB (kB (kLC (rd0 s) t x 4)) (vB (vLC (rd0 s) t x 4)) (rd1 s) (rd7 s) (rd6 s) 16
abbrev kdn (h : ℕ) : FVec F S128x128 .bf16 := kdB (rd0 s) (knB t x h)
abbrev lC2 : List (View.Piece (Elt F) S1x4096 .f32) := lLN (mC1 t x s) (lC1 t x s) (kdn t x s) (rd1 s) 16
abbrev aC2 : List (View.Piece (Elt F) S128x4096 .f32) :=
  aLN (mC1 t x s) (aC1 t x s) (kdn t x s) (fun h => vd1 (rd0 s) (vnB t x h)) (fun h => vd2 (rd0 s) (vnB t x h)) (rd1 s) 16
end

abbrev Rya (n : ℕ) : Rect S128x4096 := Rect.unit ![0, 128 * (n % 32)] S128x128.size (by
  intro a; fin_cases a <;> simp [S128x4096, S128x128] <;> omega)
abbrev Ryl (n : ℕ) : Rect S1x4096 := Rect.unit ![0, 128 * (n % 32)] S1x128.size (by
  intro a; fin_cases a <;> simp [S1x4096, S1x128] <;> omega)
abbrev Ry (n : ℕ) : Rect S1x128x4096 := Rect.unit ![0, 0, 128 * (n % 32)] S1x128x128.size (by
  intro a; fin_cases a <;> simp [S1x128x4096, S1x128x128] <;> omega)

/-- The block of the first result, as written. -/
def yL (t : Fin cfg0.N) (x : Ins F) (s : Scr F) : ℕ → List (View.Piece (Elt F) S1x128x4096 .bf16) :=
  walk (ms0_11 t).view [] Ry (fun n _ => k0_pay4 (rd0 s) (scM0_6.view.readCov (aC2 t x s) (Rya n).toLoadRect) (scM0_8.view.readCov (lC2 t x s) (Ryl n).toLoadRect))

theorem piecesC11 (c : Dev nD) (t : Fin cfg0.N) (h : t.val % 16 = 15) (x : Ins F) (s : Scr F) :
    (rC c t h x s).1 = yL t x s 32 := by
  sl_kernel_rfl
end Cert.KernelIdeal.Body
end
-- ==== Proof.Val.ListsA.lean ====
/-
  What the body writes at the first point of a batch row, piece by piece.
-/
module
public import proofs.«01_k».proof.Proof.Val.Lists
@[expose] public section
set_option maxRecDepth 16384
noncomputable section
namespace Cert.KernelIdeal.Body
open Cert.KernelIdeal.Gen
open Idealize.ShloMosaic Idealize.ShloMosaic.TcCoe Idealize.ShloMosaic.Tactic
open Idealize.ShloMosaic.Pipeline (Dat RDat Cfg Window cellOf)
open Cert.Val (walk)
variable {F : FTy → Type} [FloatOps F] [Named F]

/-- Columns `128n … 128n+127` of the queries. -/
abbrev Rq (n : ℕ) : Rect S128x4096 := Rect.unit ![0, 128 * (n % 32)] S128x128.size (by
  intro a; fin_cases a <;> simp [S128x4096, S128x128] <;> omega)
abbrev Rx (n : ℕ) : Rect S1x128x4096 := Rect.unit ![0, 0, 128 * (n % 32)] S1x128x128.size (by
  intro a; fin_cases a <;> simp [S1x128x4096, S1x128x128] <;> omega)

/-- The permuted queries, as written. -/
def qL (t : Fin cfg0.N) (x : Ins F) : ℕ → List (View.Piece (Elt F) S128x4096 .bf16) :=
  walk scM0_1.view [] Rq (fun n _ => k0_pay31 (k0_pay30 k0_pay6 (View.readAt (Elt F) (ms0_0 t).view (Rx n).toLoadRect ((hs0_0 t).unread x.x0))))

/-- The permutation matrix, as written. -/
abbrev pL : List (View.Piece (Elt F) S128x128 .bf16) := [⟨Rect.unit ![0, 0] S128x128.size inb_S128x128_S128x128_0_0, k0_pay7⟩]
abbrev pA : Vec F S128x128 .bf16 := scM0_0.view.readCov (pL (F := F)) (Rect.unit ![0, 0] S128x128.size inb_S128x128_S128x128_0_0).toLoadRect
abbrev qA (t : Fin cfg0.N) (x : Ins F) (n : ℕ) : Vec F S128x256 .bf16 := scM0_1.view.readCov (qL t x 32) (R6 n).toLoadRect

section
variable (K : ℕ → Vec F S1x1024x128 .bf16) (V : ℕ → Vec F S1x128x1024 .bf16) (Q : ℕ → Vec F S128x256 .bf16)
/-- The tiles of the maximum, where each is read from the buffer as it has been written. -/
def mLA : ℕ → List (View.Piece (Elt F) S1x4096 .f32) :=
  walk scM0_7.view [⟨Rect.unit ![0, 0] S1x4096.size inb_S1x4096_S1x4096_0_0, k0_pay44⟩] R7 (fun n o => k0_pay664 (k0_pay661 (K (n / 4)) (Q n) o))
abbrev mA (n : ℕ) : Vec F S1x256 .f32 := scM0_7.view.readCov (mLA K Q n) (R7 n).toLoadRect
/-- The tiles of the sum. -/
def lLA : ℕ → List (View.Piece (Elt F) S1x4096 .f32) :=
  walk scM0_8.view [⟨Rect.unit ![0, 0] S1x4096.size inb_S1x4096_S1x4096_0_0, k0_pay653⟩] R7
    (fun n o => k0_pay665 (k0_pay662 (K (n / 4)) (Q n) (mA K Q n)) (k0_pay663 (K (n / 4)) (Q n) (mA K Q n)) o)
/-- The tiles of the accumulator. -/
def aLA : ℕ → List (View.Piece (Elt F) S128x4096 .f32) :=
  walk scM0_6.view [⟨Rect.unit ![0, 0] S128x4096.size inb_S128x4096_S128x4096_0_0, k0_pay654⟩] R6
    (fun n o => k0_pay666 (k0_pay659 (V (n / 4))) (k0_pay662 (K (n / 4)) (Q n) (mA K Q n)) (k0_pay663 (K (n / 4)) (Q n) (mA K Q n)) o)
end

theorem piecesA0 (c : Dev nD) (t : Fin cfg0.N) (h : t.val % 16 = 0) (x : Ins F) :
    (rA c t h x).2.2.2.2.2.2.2.1 = pL := by
  sl_kernel_rfl
theorem piecesA1 (c : Dev nD) (t : Fin cfg0.N) (h : t.val % 16 = 0) (x : Ins F) :
    (rA c t h x).2.2.2.2.2.2.2.2.1 = qL t x 32 := by
  sl_kernel_rfl
theorem piecesA7 (c : Dev nD) (t : Fin cfg0.N) (h : t.val % 16 = 0) (x : Ins F) :
    (rA c t h x).2.2.2.2.2.2.2.2.2.2.1 = mLA (kB (kL pA t x 128)) (qA t x) 16 := by
  sl_kernel_rfl
theorem piecesA8 (c : Dev nD) (t : Fin cfg0.N) (h : t.val % 16 = 0) (x : Ins F) :
    (rA c t h x).2.2.2.2.2.2.2.2.2.2.2.1 = lLA (kB (kL pA t x 128)) (qA t x) 16 := by
  sl_kernel_rfl
theorem piecesA6 (c : Dev nD) (t : Fin cfg0.N) (h : t.val % 16 = 0) (x : Ins F) :
    (rA c t h x).2.2.2.2.2.2.2.2.2.1 = aLA (kB (kL pA t x 128)) (vB (vL t x 4)) (qA t x) 16 := by
  sl_kernel_rfl
end Cert.KernelIdeal.Body
end
-- ==== Proof.Val.Unpack.lean ====
/-
  Four-bit codes taken out of bytes: words of four bytes are masked and shifted, and read as bytes again.
-/
module
public import Idealize.ShloMosaic.Lib.BitcastFour
public import Idealize.ShloMosaic.Lib.Pointwise
@[expose] public section
noncomputable section
namespace Cert.Val
open Idealize.ShloMosaic Idealize.ShloMosaic.TcCoe

/-- Words read as bytes: bit `i` of row `p` is a bit of the word in row `p / 4`. -/
theorem bitcast_32_8_getLsbD_ix2 {R r n : Nat} (x : (⟨2, ![r, n]⟩ : Shape).Idx → BitVec 32)
    (h : (⟨2, ![r, n]⟩ : Shape).Bitcasts 32 ⟨2, ![R, n]⟩ 8) (p : Fin R) (l : Fin n) (i : Nat) (hi : i < 8) (a : Fin r)
    (ha : a.val = p.val / 4) :
    (bitcast ⟨2, ![R, n]⟩ 8 x h (ix2 p l)).getLsbD i = (x (ix2 a l)).getLsbD (8 * (p.val % 4) + i) := by
  rw [bitcast_getLsbD x h _ i hi (by decide)]
  have er : (⟨2, ![R, n]⟩ : Shape).row (ix2 p l) = p.val := rfl
  have e1 : ((⟨2, ![R, n]⟩ : Shape).row (ix2 p l) * 8 + i) / 32 = a.val := by rw [er]; omega
  have e2 : ((⟨2, ![R, n]⟩ : Shape).row (ix2 p l) * 8 + i) % 32 = 8 * (p.val % 4) + i := by rw [er]; omega
  rw [e2]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

/-- The mask's bits: four set, four clear. -/
theorem mask_getLsbD : ∀ q : Fin 32, (0x0F0F0F0F#32).getLsbD q.val = decide (q.val % 8 < 4) := by decide
theorem low_getLsbD : ∀ q : Fin 8, (15#8).getLsbD q.val = decide (q.val < 4) := by decide

/-- The low four bits of every byte. -/
theorem lo_nibble {n : ℕ} (w : (⟨2, ![64, n]⟩ : Shape).Idx → BitVec 8) (h1 : (⟨2, ![64, n]⟩ : Shape).Bitcasts 8 ⟨2, ![16, n]⟩ 32)
    (h2 : (⟨2, ![16, n]⟩ : Shape).Bitcasts 32 ⟨2, ![64, n]⟩ 8) (r : Fin 64) (l : Fin n) :
    bitcast ⟨2, ![64, n]⟩ 8 (andi (bitcast ⟨2, ![16, n]⟩ 32 w h1) (broadcast ⟨2, ![16, n]⟩ 0x0F0F0F0F#32)) h2 (ix2 r l) = w (ix2 r l) &&& 15#8 := by
  apply BitVec.eq_of_getLsbD_eq
  intro i hi
  rw [bitcast_32_8_getLsbD_ix2 _ h2 r l i hi ⟨r.val / 4, by omega⟩ rfl]
  have h3 : (bitcast ⟨2, ![16, n]⟩ 32 w h1 (ix2 (⟨r.val / 4, by omega⟩ : Fin 16) l)).getLsbD (8 * (r.val % 4) + i) = (w (ix2 r l)).getLsbD ((8 * (r.val % 4) + i) % 8) :=
    bitcast_8_32_getLsbD_ix2 w h1 (⟨r.val / 4, by omega⟩ : Fin 16) l (8 * (r.val % 4) + i) (by omega) r (by show r.val = 4 * (r.val / 4) + _; omega)
  have hm := mask_getLsbD ⟨8 * (r.val % 4) + i, by omega⟩
  have hl := low_getLsbD ⟨i, hi⟩
  simp only at hm hl
  change (BitVec.and (bitcast ⟨2, ![16, n]⟩ 32 w h1 _) 0x0F0F0F0F#32).getLsbD _ = _
  change (bitcast ⟨2, ![16, n]⟩ 32 w h1 _ &&& 0x0F0F0F0F#32).getLsbD _ = _
  rw [BitVec.getLsbD_and, BitVec.getLsbD_and, h3, hm, hl, show (8 * (r.val % 4) + i) % 8 = i by omega]

/-- The high four bits of every byte. -/
theorem hi_nibble {n : ℕ} (w : (⟨2, ![64, n]⟩ : Shape).Idx → BitVec 8) (h1 : (⟨2, ![64, n]⟩ : Shape).Bitcasts 8 ⟨2, ![16, n]⟩ 32)
    (h2 : (⟨2, ![16, n]⟩ : Shape).Bitcasts 32 ⟨2, ![64, n]⟩ 8) (r : Fin 64) (l : Fin n) :
    bitcast ⟨2, ![64, n]⟩ 8 (andi (shrsi (bitcast ⟨2, ![16, n]⟩ 32 w h1) (broadcast ⟨2, ![16, n]⟩ 4#32)) (broadcast ⟨2, ![16, n]⟩ 0x0F0F0F0F#32)) h2 (ix2 r l)
      = w (ix2 r l) >>> 4 := by
  apply BitVec.eq_of_getLsbD_eq
  intro i hi
  rw [bitcast_32_8_getLsbD_ix2 _ h2 r l i hi ⟨r.val / 4, by omega⟩ rfl]
  have hm := mask_getLsbD ⟨8 * (r.val % 4) + i, by omega⟩
  simp only at hm
  change ((bitcast ⟨2, ![16, n]⟩ 32 w h1 _).sshiftRight 4 &&& 0x0F0F0F0F#32).getLsbD _ = _
  rw [BitVec.getLsbD_and, hm, BitVec.getLsbD_ushiftRight]
  by_cases h : i < 4
  · have h3 : (bitcast ⟨2, ![16, n]⟩ 32 w h1 (ix2 (⟨r.val / 4, by omega⟩ : Fin 16) l)).getLsbD (8 * (r.val % 4) + i + 4) = (w (ix2 r l)).getLsbD ((8 * (r.val % 4) + i + 4) % 8) :=
      bitcast_8_32_getLsbD_ix2 w h1 (⟨r.val / 4, by omega⟩ : Fin 16) l (8 * (r.val % 4) + i + 4) (by omega) r (by show r.val = 4 * (r.val / 4) + _; omega)
    rw [BitVec.getLsbD_sshiftRight]
    rw [decide_eq_true (by omega : (8 * (r.val % 4) + i) % 8 < 4), Bool.and_true]
    rw [decide_eq_false (by omega : ¬ 32 ≤ 8 * (r.val % 4) + i)]
    rw [if_pos (by omega), show 4 + (8 * (r.val % 4) + i) = 8 * (r.val % 4) + i + 4 by omega, h3]
    simp only [Bool.not_false, Bool.true_and]
    congr 1; omega
  · rw [decide_eq_false (by omega : ¬ (8 * (r.val % 4) + i) % 8 < 4), Bool.and_false]
    exact (BitVec.getLsbD_of_ge _ _ (by omega)).symm

end Cert.Val
end
-- ==== Proof.Val.Perm.lean ====
/-
  The permutation of the channels: even channels first, then odd ones. Products with its matrix read an operand at a permuted place.
-/
module
public import proofs.«01_k».proof.Proof.Val.ListsC
public import proofs.«01_k».proof.Proof.Val.ListsA
public import proofs.«01_k».proof.Proof.Val.Unpack
public import Idealize.ShloMosaic.Lib.Pointwise
public import Idealize.ShloMosaic.Lib.WholeRead
@[expose] public section
set_option maxRecDepth 16384
noncomputable section
namespace Cert.KernelIdeal.Body
open Cert.KernelIdeal.Gen
open Idealize.ShloMosaic Idealize.ShloMosaic.TcCoe Idealize.ShloMosaic.Tactic
open Idealize.ShloMosaic.Pipeline (Dat RDat Cfg Window cellOf)
open Cert.Val

/-- The channel at place `r`: even channels first. -/
def src : Fin 128 ≃ Fin 128 where
  toFun r := if h : r.val < 64 then ⟨2 * r.val, by omega⟩ else ⟨2 * r.val - 127, by omega⟩
  invFun d := if d.val % 2 = 0 then ⟨d.val / 2, by omega⟩ else ⟨64 + d.val / 2, by omega⟩
  left_inv := by decide +kernel
  right_inv := by decide +kernel

/-- The channel's byte among the 64 of a row. -/
def byteOf (d : Fin 128) : Fin 64 := ⟨d.val / 2, by omega⟩
/-- A channel's code: the low half of its byte for an even channel, else the high half. -/
def nib (w : BitVec 8) (d : Fin 128) : EReal :=
  (((if d.val % 2 = 0 then w &&& 15#8 else w >>> 4).toNat : ℝ) : EReal)

/-- A matrix is the permutation's. -/
def IsPerm (P : S128x128.Idx → EReal) : Prop := ∀ r c : Fin 128, P (ix2 r c) = if c = src r then 1 else 0

theorem perm_bit : ∀ r c : Fin 128, BitVec.setWidth 32
        (IntOp.cmpi CmpIPredicate.eq (BitVec.ofNat 32 ↑c)
          (Scalar.select (IntOp.cmpi CmpIPredicate.slt (BitVec.ofNat 32 ↑r) 64#32)
            (IntOp.muli (2#32) (BitVec.ofNat 32 ↑r)) (IntOp.subi (IntOp.muli (2#32) (BitVec.ofNat 32 ↑r)) 127#32)))
    = if c = src r then 1#32 else 0#32 := by
  decide +kernel

/-- The matrix that the kernel builds is the permutation's. -/
theorem isPerm : IsPerm (k0_pay6 (F := Ideal)) := by
  intro r c
  have e : k0_pay6 (F := Ideal) (ix2 r c) = FloatOps.sitofp (F := Ideal) FTy.f32 (BitVec.setWidth 32
        (IntOp.cmpi CmpIPredicate.eq (BitVec.ofNat 32 ↑c)
          (Scalar.select (IntOp.cmpi CmpIPredicate.slt (BitVec.ofNat 32 ↑r) 64#32)
            (IntOp.muli (2#32) (BitVec.ofNat 32 ↑r)) (IntOp.subi (IntOp.muli (2#32) (BitVec.ofNat 32 ↑r)) 127#32)))) := by
    pointwise [k0_pay6]
  rw [e, perm_bit]
  by_cases h : c = src r
  · rw [if_pos h, if_pos h]; change (((1#32).toInt : ℝ) : EReal) = 1; norm_num
  · rw [if_neg h, if_neg h]; change (((0#32).toInt : ℝ) : EReal) = 0; norm_num

theorem sum_perm {P : S128x128.Idx → EReal} (h : IsPerm P) (a : Fin 128 → EReal) (r : Fin 128) :
    ∑ c, a c * P (ix2 r c) = a (src r) := by
  rw [Finset.sum_eq_single (src r)]
  · rw [h, if_pos rfl, mul_one]
  · intro c _ hc; rw [h, if_neg hc, mul_zero]
  · intro hc; exact absurd (Finset.mem_univ _) hc
theorem sum_perm' {P : S128x128.Idx → EReal} (h : IsPerm P) (a : Fin 128 → EReal) (r : Fin 128) :
    ∑ c, P (ix2 r c) * a c = a (src r) := by
  rw [← sum_perm h a r]; exact Finset.sum_congr rfl fun c _ => mul_comm _ _
theorem sum_permT {P : S128x128.Idx → EReal} (h : IsPerm P) (a : Fin 128 → EReal) (c : Fin 128) :
    ∑ r, a r * P (ix2 r c) = a (src.symm c) := by
  rw [Finset.sum_eq_single (src.symm c)]
  · rw [h, if_pos (by simp), mul_one]
  · intro r _ hr; rw [h, if_neg (fun e => hr (by rw [e]; simp)), mul_zero]
  · intro hc; exact absurd (Finset.mem_univ _) hc

theorem pay30_apply {P : S128x128.Idx → EReal} (h : IsPerm P) (v : S1x128x128.Idx → EReal) (r s : Fin 128) :
    k0_pay31 (F := Ideal) (k0_pay30 P v) (ix2 r s) = v (ix3 0 s (src r)) := by
  rw [← sum_perm' h (fun c => v (ix3 0 s c)) r]
  pointwise [k0_pay31, k0_pay30]
theorem pay45_apply {P : S128x128.Idx → EReal} (h : IsPerm P) (v : S1x128x128.Idx → EReal) (g r : Fin 128) :
    k0_pay45 (F := Ideal) P v (ix2 g r) = v (ix3 0 g (src r)) := by
  rw [← sum_perm h (fun c => v (ix3 0 g c)) r]
  pointwise [k0_pay45]
theorem pay241_apply {P : S128x128.Idx → EReal} (h : IsPerm P) (v : S1x112x128.Idx → EReal) (g : Fin 112) (r : Fin 128) :
    k0_pay241 (F := Ideal) P v (ix2 g r) = v (ix3 0 g (src r)) := by
  rw [← sum_perm h (fun c => v (ix3 0 g c)) r]
  pointwise [k0_pay241]
theorem kTail_apply {P : S128x128.Idx → EReal} (h : IsPerm P) (v : S1x1x128x128.Idx → EReal) (k r : Fin 128) :
    kTail (F := Ideal) P v (ix3 0 k r) = v (ix4 0 0 k (src r)) := by
  rw [← sum_perm h (fun c => v (ix4 0 0 k c)) r]
  pointwise [kTail]
theorem vTail_apply {P : S128x128.Idx → EReal} (h : IsPerm P) (v : S1x1x128x128.Idx → EReal) (k r : Fin 128) :
    k0_pay657 (F := Ideal) (k0_pay421 P v) (ix3 0 r k) = v (ix4 0 0 k (src r)) := by
  rw [← sum_perm' h (fun c => v (ix4 0 0 k c)) r]
  pointwise [k0_pay657, k0_pay421]
theorem pay4_apply {P : S128x128.Idx → EReal} (h : IsPerm P) (a : S128x128.Idx → EReal) (l : S1x128.Idx → EReal) (s c : Fin 128) :
    k0_pay4 (F := Ideal) P a l (ix3 0 s c) = Ideal.div (a (ix2 (src.symm c) s)) (l (ix2 0 s)) := by
  rw [← sum_permT h (fun r => Ideal.div (a (ix2 r s)) (l (ix2 0 s))) c]
  pointwise [k0_pay4]

theorem nib_toInt : ∀ w : BitVec 8, (w &&& 15#8).toInt = ((w &&& 15#8).toNat : ℤ) ∧ (w >>> 4).toInt = ((w >>> 4).toNat : ℤ) := by
  decide +kernel
theorem sitofp_lo (w : BitVec 8) (d : Fin 128) (h : d.val % 2 = 0) :
    FloatOps.sitofp (F := Ideal) FTy.bf16 (w &&& 15#8) = nib w d := by
  change (((w &&& 15#8).toInt : ℝ) : EReal) = _
  rw [(nib_toInt w).1, nib, if_pos h, Int.cast_natCast]
theorem sitofp_hi (w : BitVec 8) (d : Fin 128) (h : ¬ d.val % 2 = 0) :
    FloatOps.sitofp (F := Ideal) FTy.bf16 (w >>> 4) = nib w d := by
  change (((w >>> 4).toInt : ℝ) : EReal) = _
  rw [(nib_toInt w).2, nib, if_neg h, Int.cast_natCast]

abbrev lo64 (r : Fin 64) : Fin 128 := ⟨r.val, by omega⟩
abbrev hi64 (r : Fin 64) : Fin 128 := ⟨64 + r.val, by omega⟩
theorem src_lo : ∀ r : Fin 64, (src ⟨r.val, by omega⟩).val % 2 = 0 ∧ byteOf (src ⟨r.val, by omega⟩) = r := by decide +kernel
theorem src_hi : ∀ r : Fin 64, ¬ (src ⟨64 + r.val, by omega⟩).val % 2 = 0 ∧ byteOf (src ⟨64 + r.val, by omega⟩) = r := by decide +kernel

/-! Blocks of 1024 tokens. -/

/-- The two halves of every byte, stacked: rows below 64 hold the low halves. -/
theorem stack_lo1024 (a b : S64x1024.Idx → EReal) (r : Fin 64) (l : Fin 1024) :
    concatenate S128x1024 0 [⟨S64x1024, a⟩, ⟨S64x1024, b⟩] concatenates_S64x1024_S64x1024_S128x1024_d0 (ix2 ⟨r.val, by omega⟩ l) = a (ix2 r l) := by
  pointwise
theorem stack_hi1024 (a b : S64x1024.Idx → EReal) (r : Fin 64) (l : Fin 1024) :
    concatenate S128x1024 0 [⟨S64x1024, a⟩, ⟨S64x1024, b⟩] concatenates_S64x1024_S64x1024_S128x1024_d0 (ix2 ⟨64 + r.val, by omega⟩ l) = b (ix2 r l) := by
  pointwise

/-- The codes of a head's values, unpacked. -/
theorem pay47_apply (v : S1x1x64x1024.Idx → BitVec 8) (r : Fin 128) (l : Fin 1024) :
    k0_pay47 (F := Ideal) v (ix2 r l) = nib (v (ix4 0 0 (byteOf (src r)) l)) (src r) := by
  have e : ∀ r : Fin 64, shapeCast S64x1024 v shapeCasts_S1x1x64x1024_S64x1024 (ix2 r l) = v (ix4 0 0 r l) := by
    intro r; pointwise
  unfold k0_pay47
  by_cases h : r.val < 64
  · obtain ⟨r', rfl⟩ : ∃ r' : Fin 64, r = lo64 r' := ⟨⟨r.val, h⟩, rfl⟩
    refine (stack_lo1024 _ _ r' l).trans ?_
    refine (congrArg (FloatOps.sitofp (F := Ideal) FTy.bf16) (lo_nibble (n := 1024) _ _ _ r' l)).trans ?_
    rw [(src_lo r').2, sitofp_lo _ _ (src_lo r').1]
    exact congrArg (fun w => nib w _) (e r')
  · obtain ⟨r', rfl⟩ : ∃ r' : Fin 64, r = hi64 r' := ⟨⟨r.val - 64, by omega⟩, by ext; simp; omega⟩
    refine (stack_hi1024 _ _ r' l).trans ?_
    refine (congrArg (FloatOps.sitofp (F := Ideal) FTy.bf16) (hi_nibble (n := 1024) _ _ _ r' l)).trans ?_
    rw [(src_hi r').2, sitofp_hi _ _ (src_hi r').1]
    exact congrArg (fun w => nib w _) (e r')

/-- The codes of a head's keys, unpacked. -/
theorem pay51_apply (v : S1x1x64x1024.Idx → BitVec 8) (r : Fin 128) (l : Fin 1024) :
    k0_pay51 (F := Ideal) v (ix2 l r) = nib (v (ix4 0 0 (byteOf (src r)) l)) (src r) := by
  rw [← pay47_apply]
  unfold k0_pay51
  have e : ∀ w : S128x1024.Idx → EReal, transpose S1024x128 [1, 0] w (by decide : S128x1024.Transposes [1, 0] S1024x128) (ix2 l r) = w (ix2 r l) := by
    intro w; pointwise
  exact e _

/-- A head's values: codes times the token's scale plus its zero. -/
theorem pay50_apply (v : S1x1x64x1024.Idx → BitVec 8) (s z : S1x1x1024.Idx → EReal) (r : Fin 128) (l : Fin 1024) :
    k0_pay50 (F := Ideal) (k0_pay47 v) (k0_pay48 s) (k0_pay49 z) (ix3 0 r l)
      = nib (v (ix4 0 0 (byteOf (src r)) l)) (src r) * s (ix3 0 0 l) + z (ix3 0 0 l) := by
  rw [← pay47_apply]
  generalize k0_pay47 (F := Ideal) v = w
  pointwise [k0_pay50, k0_pay48, k0_pay49]

/-! Blocks of 896 tokens. -/

/-- The two halves of every byte, stacked: rows below 64 hold the low halves. -/
theorem stack_lo896 (a b : S64x896.Idx → EReal) (r : Fin 64) (l : Fin 896) :
    concatenate S128x896 0 [⟨S64x896, a⟩, ⟨S64x896, b⟩] concatenates_S64x896_S64x896_S128x896_d0 (ix2 ⟨r.val, by omega⟩ l) = a (ix2 r l) := by
  pointwise
theorem stack_hi896 (a b : S64x896.Idx → EReal) (r : Fin 64) (l : Fin 896) :
    concatenate S128x896 0 [⟨S64x896, a⟩, ⟨S64x896, b⟩] concatenates_S64x896_S64x896_S128x896_d0 (ix2 ⟨64 + r.val, by omega⟩ l) = b (ix2 r l) := by
  pointwise

/-- The codes of a head's values, unpacked. -/
theorem pay243_apply (v : S1x1x64x896.Idx → BitVec 8) (r : Fin 128) (l : Fin 896) :
    k0_pay243 (F := Ideal) v (ix2 r l) = nib (v (ix4 0 0 (byteOf (src r)) l)) (src r) := by
  have e : ∀ r : Fin 64, shapeCast S64x896 v shapeCasts_S1x1x64x896_S64x896 (ix2 r l) = v (ix4 0 0 r l) := by
    intro r; pointwise
  unfold k0_pay243
  by_cases h : r.val < 64
  · obtain ⟨r', rfl⟩ : ∃ r' : Fin 64, r = lo64 r' := ⟨⟨r.val, h⟩, rfl⟩
    refine (stack_lo896 _ _ r' l).trans ?_
    refine (congrArg (FloatOps.sitofp (F := Ideal) FTy.bf16) (lo_nibble (n := 896) _ _ _ r' l)).trans ?_
    rw [(src_lo r').2, sitofp_lo _ _ (src_lo r').1]
    exact congrArg (fun w => nib w _) (e r')
  · obtain ⟨r', rfl⟩ : ∃ r' : Fin 64, r = hi64 r' := ⟨⟨r.val - 64, by omega⟩, by ext; simp; omega⟩
    refine (stack_hi896 _ _ r' l).trans ?_
    refine (congrArg (FloatOps.sitofp (F := Ideal) FTy.bf16) (hi_nibble (n := 896) _ _ _ r' l)).trans ?_
    rw [(src_hi r').2, sitofp_hi _ _ (src_hi r').1]
    exact congrArg (fun w => nib w _) (e r')

/-- The codes of a head's keys, unpacked. -/
theorem pay247_apply (v : S1x1x64x896.Idx → BitVec 8) (r : Fin 128) (l : Fin 896) :
    k0_pay247 (F := Ideal) v (ix2 l r) = nib (v (ix4 0 0 (byteOf (src r)) l)) (src r) := by
  rw [← pay243_apply]
  unfold k0_pay247
  have e : ∀ w : S128x896.Idx → EReal, transpose S896x128 [1, 0] w (by decide : S128x896.Transposes [1, 0] S896x128) (ix2 l r) = w (ix2 r l) := by
    intro w; pointwise
  exact e _

/-- A head's values: codes times the token's scale plus its zero. -/
theorem pay246_apply (v : S1x1x64x896.Idx → BitVec 8) (s z : S1x1x896.Idx → EReal) (r : Fin 128) (l : Fin 896) :
    k0_pay246 (F := Ideal) (k0_pay243 v) (k0_pay244 s) (k0_pay245 z) (ix3 0 r l)
      = nib (v (ix4 0 0 (byteOf (src r)) l)) (src r) * s (ix3 0 0 l) + z (ix3 0 0 l) := by
  rw [← pay243_apply]
  generalize k0_pay243 (F := Ideal) v = w
  pointwise [k0_pay246, k0_pay244, k0_pay245]

/-- A group of 32 keys: codes times the channel's scale plus its zero. -/
theorem kPay_apply (kq : S1024x128.Idx → EReal) (sc zr : S1x128.Idx → EReal) (n : ℕ) (i : Fin 32) (r : Fin 128) :
    kPay (F := Ideal) kq sc zr n (ix3 0 i r) = kq (ix2 ⟨32 * (n % 32) + i.val, by omega⟩ r) * sc (ix2 0 r) + zr (ix2 0 r) := by
  pointwise [kPay]
theorem kPayC_apply (kq : S896x128.Idx → EReal) (sc zr : S1x128.Idx → EReal) (n : ℕ) (i : Fin 32) (r : Fin 128) :
    kPayC (F := Ideal) kq sc zr n (ix3 0 i r) = kq (ix2 ⟨32 * (n % 28) + i.val, by omega⟩ r) * sc (ix2 0 r) + zr (ix2 0 r) := by
  pointwise [kPayC]

end Cert.KernelIdeal.Body
end
-- ==== Proof.Val.Softmax.lean ====
/-
  The online softmax over the extended reals: a running maximum, a running sum of powers and a running weighted sum, moved
  forward by a block of keys, are the maximum, the sum and the weighted sum over all keys so far.
-/
module

public import Idealize.ShloMosaic.PureOps.Ideal

@[expose] public section

noncomputable section

namespace Cert.Val

open Idealize.ShloMosaic

/-- A power of two is not negative. -/
theorem exp2_nonneg (x : EReal) : 0 ≤ Ideal.exp2 x := by
  induction x with
  | bot => simp
  | top => simp
  | coe r => rw [Ideal.exp2_coe]; exact EReal.coe_nonneg.2 (Real.rpow_nonneg (by norm_num) r)

/-- A power of two of a difference `x - y` with `x ≤ y` is finite. -/
theorem exp2_sub_ne_top {x y : EReal} (h : x ≤ y) : Ideal.exp2 (x - y) ≠ ⊤ := by
  induction y with
  | bot => obtain rfl := le_bot_iff.1 h; simp
  | top => induction x <;> simp
  | coe y =>
    induction x with
    | bot => simp
    | top => simp at h
    | coe x => rw [← EReal.coe_sub, Ideal.exp2_coe]; exact EReal.coe_ne_top _

/-- Weights relative to one maximum become weights relative to a larger one. -/
theorem exp2_rescale {s m m' : EReal} (h : s ≤ m) (h' : m ≤ m') :
    Ideal.exp2 (m - m') * Ideal.exp2 (s - m) = Ideal.exp2 (s - m') := by
  induction m' with
  | bot => obtain rfl := le_bot_iff.1 h'; obtain rfl := le_bot_iff.1 h; simp
  | top => induction m <;> induction s <;> simp
  | coe m' =>
    induction m with
    | bot => obtain rfl := le_bot_iff.1 h; simp
    | top => simp at h'
    | coe m =>
      induction s with
      | bot => simp
      | top => simp at h
      | coe s =>
        rw [← EReal.coe_sub, ← EReal.coe_sub, ← EReal.coe_sub, Ideal.exp2_coe, Ideal.exp2_coe, Ideal.exp2_coe, ← EReal.coe_mul]
        congr 1
        change (2:ℝ) ^ (m - m') * (2:ℝ) ^ (s - m) = (2:ℝ) ^ (s - m')
        rw [← Real.rpow_add (by norm_num)]
        congr 1; ring

/-- A finite nonnegative factor goes inside a sum. -/
theorem mul_sum_of_nonneg {ι : Type*} {a : EReal} (h0 : 0 ≤ a) (ht : a ≠ ⊤) (S : Finset ι) (f : ι → EReal) :
    a * ∑ i ∈ S, f i = ∑ i ∈ S, a * f i := by
  classical
  induction S using Finset.induction_on with
  | empty => simp
  | insert i S hi ih =>
    rw [Finset.sum_insert hi, Finset.sum_insert hi, EReal.left_distrib_of_nonneg_of_ne_top h0 ht, ih]

/-- The maximum of the first `n` scores. -/
def runMax (s : ℕ → EReal) (n : ℕ) : EReal := (Finset.range n).sup s

/-- The sum of the first `n` weights. -/
def runSum (s : ℕ → EReal) (n : ℕ) : EReal := ∑ k ∈ Finset.range n, Ideal.exp2 (s k - runMax s n)

/-- The sum of the first `n` values, weighted. -/
def runAcc (s v : ℕ → EReal) (n : ℕ) : EReal := ∑ k ∈ Finset.range n, v k * Ideal.exp2 (s k - runMax s n)

theorem runMax_zero (s : ℕ → EReal) : runMax s 0 = ⊥ := rfl
theorem runSum_zero (s : ℕ → EReal) : runSum s 0 = 0 := rfl
theorem runAcc_zero (s v : ℕ → EReal) : runAcc s v 0 = 0 := rfl

theorem le_runMax (s : ℕ → EReal) {n k : ℕ} (h : k < n) : s k ≤ runMax s n :=
  Finset.le_sup (Finset.mem_range.2 h)

/-- The maximum moves forward by a block. -/
theorem runMax_add (s : ℕ → EReal) (n b : ℕ) :
    runMax s (n + b) = max (runMax s n) (Finset.univ.sup fun i : Fin b => s (n + i)) := by
  unfold runMax
  apply le_antisymm
  · refine Finset.sup_le fun k hk => ?_
    rw [Finset.mem_range] at hk
    by_cases h : k < n
    · exact le_max_of_le_left (Finset.le_sup (Finset.mem_range.2 h))
    · refine le_max_of_le_right ?_
      have := Finset.le_sup (s := Finset.univ) (f := fun i : Fin b => s (n + i)) (Finset.mem_univ ⟨k - n, by omega⟩)
      simpa [show n + (k - n) = k by omega] using this
  · refine max_le (Finset.sup_mono (Finset.range_mono (by omega))) (Finset.sup_le fun i _ => ?_)
    exact Finset.le_sup (f := s) (Finset.mem_range.2 (by have := i.2; omega))

theorem runMax_mono (s : ℕ → EReal) (n b : ℕ) : runMax s n ≤ runMax s (n + b) :=
  Finset.sup_mono (Finset.range_mono (by omega))

/-- The sum of the weights moves forward by a block. -/
theorem runSum_add (s : ℕ → EReal) (n b : ℕ) :
    runSum s (n + b) = Ideal.exp2 (runMax s n - runMax s (n + b)) * runSum s n
      + ∑ i : Fin b, Ideal.exp2 (s (n + i) - runMax s (n + b)) := by
  have hm := runMax_mono s n b
  rw [runSum, Finset.sum_range_add, runSum, mul_sum_of_nonneg (exp2_nonneg _) (exp2_sub_ne_top hm)]
  congr 1
  · exact Finset.sum_congr rfl fun k hk => (exp2_rescale (le_runMax s (Finset.mem_range.1 hk)) hm).symm
  · exact Finset.sum_range fun i => Ideal.exp2 (s (n + i) - runMax s (n + b))

/-- The weighted sum moves forward by a block. -/
theorem runAcc_add (s v : ℕ → EReal) (n b : ℕ) :
    runAcc s v (n + b) = Ideal.exp2 (runMax s n - runMax s (n + b)) * runAcc s v n
      + ∑ i : Fin b, v (n + i) * Ideal.exp2 (s (n + i) - runMax s (n + b)) := by
  have hm := runMax_mono s n b
  rw [runAcc, Finset.sum_range_add, runAcc, mul_sum_of_nonneg (exp2_nonneg _) (exp2_sub_ne_top hm)]
  congr 1
  · refine Finset.sum_congr rfl fun k hk => ?_
    rw [mul_left_comm, exp2_rescale (le_runMax s (Finset.mem_range.1 hk)) hm]
  · exact Finset.sum_range fun i => v (n + i) * Ideal.exp2 (s (n + i) - runMax s (n + b))

/-- A positive real factor distributes over a difference. -/
theorem sub_mul_pos (x y : EReal) {c : ℝ} (hc : 0 < c) : (x - y) * (c : EReal) = x * c - y * c := by
  induction x <;> induction y <;>
    simp [EReal.top_mul_coe_of_pos hc, EReal.bot_mul_coe_of_pos hc, ← EReal.coe_sub, ← EReal.coe_mul, sub_mul]

/-- The exponential is a power of two at the exponent over `log 2`. -/
theorem exp_eq_exp2 (x : EReal) : Ideal.exp x = Ideal.exp2 (x * (((Real.log 2)⁻¹ : ℝ) : EReal)) := by
  have hc : 0 < (Real.log 2)⁻¹ := inv_pos.2 (Real.log_pos (by norm_num))
  induction x with
  | bot => rw [EReal.bot_mul_coe_of_pos hc]; rfl
  | top => rw [EReal.top_mul_coe_of_pos hc]; rfl
  | coe r =>
    rw [← EReal.coe_mul, Ideal.exp2_coe, Ideal.exp_coe]
    congr 1
    change Real.exp r = (2:ℝ) ^ (r * (Real.log 2)⁻¹)
    rw [Real.rpow_def_of_pos (by norm_num)]
    congr 1
    have : Real.log 2 ≠ 0 := (Real.log_pos (by norm_num)).ne'
    field_simp

/-- A positive real factor goes inside a supremum. -/
theorem sup_mul_pos {ι : Type*} (S : Finset ι) (f : ι → EReal) {c : ℝ} (hc : 0 < c) :
    S.sup f * (c : EReal) = S.sup fun i => f i * c := by
  classical
  induction S using Finset.induction_on with
  | empty => simp [EReal.bot_mul_coe_of_pos hc]
  | insert i S hi ih =>
    rw [Finset.sup_insert, Finset.sup_insert, ← ih]
    have hmono : Monotone fun x : EReal => x * (c : EReal) := fun x y h =>
      mul_le_mul_of_nonneg_right h (EReal.coe_nonneg.2 hc.le)
    exact hmono.map_sup _ _

end Cert.Val

end
-- ==== Proof.Val.Tile.lean ====
/-
  One tile of the attention, read at an index: keys against 256 query columns, the running maximum, the running sum and the
  running weighted sum moved forward by the tile's keys.
-/
module
public import proofs.«01_k».proof.Proof.KI.Frame
public import proofs.«01_k».proof.Proof.Val.Softmax
public import Idealize.ShloMosaic.Lib.Pointwise
public import Idealize.ShloMosaic.Lib.WholeRead
@[expose] public section
set_option maxRecDepth 16384
noncomputable section
namespace Cert.KernelIdeal.Body
open Cert.KernelIdeal.Gen
open Idealize.ShloMosaic Idealize.ShloMosaic.TcCoe Idealize.ShloMosaic.Tactic
open Idealize.ShloMosaic.Pipeline (Dat RDat Cfg Window cellOf)
/-- The factor on the scores: one over the root of 128, over the logarithm of two. -/
def lscale : ℝ := (Real.sqrt 128)⁻¹ * (Real.log 2)⁻¹

theorem lscale_pos : 0 < lscale := by
  unfold lscale
  have := Real.log_pos (by norm_num : (1:ℝ) < 2)
  positivity

theorem named_lscale (b : BitVec 32) : (Named.named κ "log2_scale" b : Ideal .f32) = ((lscale : ℝ) : EReal) := by
  have h : κ "log2_scale" = some (((Real.sqrt 128)⁻¹ * (Real.log 2)⁻¹ : ℝ) : EReal) := rfl
  rw [IdealRules.named_const.ideal_named_scalar κ "log2_scale" (φ := .f32) b _ h, lscale]

/-- The bits of minus infinity. -/
theorem ofBits_bot : Ideal.ofBits .f32 0xFF800000#32 = ⊥ := by
  simp [Ideal.ofBits, Ideal.ieee]

/-- The maximum moved forward by the scores of a tile. -/
def mStep {n : ℕ} (s : Fin n → EReal) (m : EReal) : EReal := max m (Finset.univ.sup s)
/-- The sum of weights moved forward by the scores of a tile. -/
def lStep {n : ℕ} (s : Fin n → EReal) (m l : EReal) : EReal :=
  Ideal.exp2 (m - mStep s m) * l + ∑ i, Ideal.exp2 (s i - mStep s m)
/-- The weighted sum moved forward by the scores and the values of a tile. -/
def aStep {n : ℕ} (s v : Fin n → EReal) (m a : EReal) : EReal :=
  Ideal.exp2 (m - mStep s m) * a + ∑ i, v i * Ideal.exp2 (s i - mStep s m)

/-- The scaled score of a tile's key against a column. -/
def tsc {n : ℕ} (k : Fin n → Fin 128 → EReal) (q : Fin 128 → EReal) (i : Fin n) : EReal := (∑ d, k i d * q d) * ((lscale : ℝ) : EReal)

theorem pay661_apply (k : Vec Ideal S1x1024x128 .bf16) (q : Vec Ideal S128x256 .bf16) (mo : Vec Ideal S1x256 .f32) (c : Fin 256) :
    k0_pay661 (F := Ideal) k q mo (ix2 0 c) = mStep (tsc (fun i d => k (ix3 0 i d)) (fun d => q (ix2 d c))) (mo (ix2 0 c)) := by
  pointwise [k0_pay661, k0_pay660, k0_pay658]
  rw [named_lscale, ofBits_bot]
  exact congrArg (max _) (Cert.Val.sup_mul_pos _ _ lscale_pos)

theorem pay663_apply (k : Vec Ideal S1x1024x128 .bf16) (q : Vec Ideal S128x256 .bf16) (mo : Vec Ideal S1x256 .f32) (i : Fin 1024) (c : Fin 256) :
    k0_pay663 (F := Ideal) k q mo (ix2 i c) = Ideal.exp2 (tsc (fun i d => k (ix3 0 i d)) (fun d => q (ix2 d c)) i
      - mStep (tsc (fun i d => k (ix3 0 i d)) (fun d => q (ix2 d c))) (mo (ix2 0 c))) := by
  pointwise [k0_pay663, k0_pay660, k0_pay658]
  rw [named_lscale, pay661_apply]
  rfl

theorem pay662_apply (k : Vec Ideal S1x1024x128 .bf16) (q : Vec Ideal S128x256 .bf16) (mo : Vec Ideal S1x256 .f32) (c : Fin 256) :
    k0_pay662 (F := Ideal) k q mo (ix2 0 c) = Ideal.exp2 (mo (ix2 0 c) - mStep (tsc (fun i d => k (ix3 0 i d)) (fun d => q (ix2 d c))) (mo (ix2 0 c))) := by
  pointwise [k0_pay662]
  rw [pay661_apply]
  rfl

/-- The tile's maximum. -/
theorem tile_m (k : Vec Ideal S1x1024x128 .bf16) (q : Vec Ideal S128x256 .bf16) (mo : Vec Ideal S1x256 .f32) (c : Fin 256) :
    k0_pay664 (F := Ideal) (k0_pay661 k q mo) (ix2 0 c) = mStep (tsc (fun i d => k (ix3 0 i d)) (fun d => q (ix2 d c))) (mo (ix2 0 c)) := by
  unfold k0_pay664
  pointwise
  exact pay661_apply k q mo c

/-- The tile's sum of weights. -/
theorem tile_l (k : Vec Ideal S1x1024x128 .bf16) (q : Vec Ideal S128x256 .bf16) (mo lo : Vec Ideal S1x256 .f32) (c : Fin 256) :
    k0_pay665 (F := Ideal) (k0_pay662 k q mo) (k0_pay663 k q mo) lo (ix2 0 c)
      = lStep (tsc (fun i d => k (ix3 0 i d)) (fun d => q (ix2 d c))) (mo (ix2 0 c)) (lo (ix2 0 c)) := by
  pointwise [k0_pay665]
  rw [pay662_apply]
  exact congrArg _ (Finset.sum_congr rfl fun i _ => pay663_apply k q mo i c)

/-- The tile's weighted sum. -/
theorem tile_a (k : Vec Ideal S1x1024x128 .bf16) (v : Vec Ideal S1x128x1024 .bf16) (q : Vec Ideal S128x256 .bf16) (mo : Vec Ideal S1x256 .f32)
    (ao : Vec Ideal S128x256 .f32) (d : Fin 128) (c : Fin 256) :
    k0_pay666 (F := Ideal) (k0_pay659 v) (k0_pay662 k q mo) (k0_pay663 k q mo) ao (ix2 d c)
      = aStep (tsc (fun i d => k (ix3 0 i d)) (fun d => q (ix2 d c))) (fun i => v (ix3 0 d i)) (mo (ix2 0 c)) (ao (ix2 d c)) := by
  pointwise [k0_pay666, k0_pay659]
  rw [pay662_apply]
  exact congrArg _ (Finset.sum_congr rfl fun i _ => congrArg _ (pay663_apply k q mo i c))

/-- A step moves the running maximum forward. -/
theorem mStep_run (s : ℕ → EReal) (n b : ℕ) : mStep (fun i : Fin b => s (n + i)) (Cert.Val.runMax s n) = Cert.Val.runMax s (n + b) :=
  (Cert.Val.runMax_add s n b).symm
theorem lStep_run (s : ℕ → EReal) (n b : ℕ) :
    lStep (fun i : Fin b => s (n + i)) (Cert.Val.runMax s n) (Cert.Val.runSum s n) = Cert.Val.runSum s (n + b) := by
  unfold lStep; rw [mStep_run, Cert.Val.runSum_add]
theorem aStep_run (s v : ℕ → EReal) (n b : ℕ) :
    aStep (fun i : Fin b => s (n + i)) (fun i => v (n + i)) (Cert.Val.runMax s n) (Cert.Val.runAcc s v n) = Cert.Val.runAcc s v (n + b) := by
  unfold aStep; rw [mStep_run, Cert.Val.runAcc_add]
end Cert.KernelIdeal.Body
end
-- ==== Proof.Val.NewTok.lean ====
/-
  The new tokens: their keys and values quantised and dequantised, and one tile of the causal attention on them.
-/
module
public import proofs.«01_k».proof.Proof.Val.Perm
public import proofs.«01_k».proof.Proof.Val.Tile
public import proofs.«01_k».proof.Proof.Val.Quant
@[expose] public section
set_option maxRecDepth 16384
noncomputable section
namespace Cert.KernelIdeal.Body
open Cert.KernelIdeal.Gen
open Idealize.ShloMosaic Idealize.ShloMosaic.TcCoe Idealize.ShloMosaic.Tactic
open Idealize.ShloMosaic.Pipeline (Dat RDat Cfg Window cellOf)
open Cert.Val

/-- A value's code: its offset from the least over the step, rounded to the nearest integer and cut to 0 … 15. -/
def qcode {n : ℕ} (f : Fin n → EReal) (i : Fin n) : EReal :=
  min (Ideal.ofBits .f32 0x41700000#32) (max (((0#32).toInt : ℝ) : EReal) (Ideal.liftRound Ideal.roundHalfEven (Ideal.div (f i - qlo f) (qscale f))))
/-- A value quantised and read back. -/
def deq {n : ℕ} (f : Fin n → EReal) (i : Fin n) : EReal := qcode f i * qscale f + qlo f

theorem qlo_equiv {n : ℕ} (f : Fin n → EReal) (e : Fin n ≃ Fin n) : qlo (fun i => f (e i)) = qlo f := by
  unfold qlo
  conv_rhs => rw [← Finset.map_univ_equiv e]
  rw [Finset.fold_map]; rfl
theorem qhi_equiv {n : ℕ} (f : Fin n → EReal) (e : Fin n ≃ Fin n) : qhi (fun i => f (e i)) = qhi f := by
  unfold qhi
  conv_rhs => rw [← Finset.map_univ_equiv e]
  rw [Finset.fold_map]; rfl
theorem qscale_equiv {n : ℕ} (f : Fin n → EReal) (e : Fin n ≃ Fin n) : qscale (fun i => f (e i)) = qscale f := by
  unfold qscale; rw [qlo_equiv, qhi_equiv]
theorem deq_equiv {n : ℕ} (f : Fin n → EReal) (e : Fin n ≃ Fin n) (i : Fin n) : deq (fun i => f (e i)) i = deq f (e i) := by
  unfold deq qcode; rw [qlo_equiv, qscale_equiv]

/-- The kernel's new keys, read back: of token `32g + i` and place `r`. -/
theorem kd_apply {P : S128x128.Idx → EReal} (h : IsPerm P) (v : S1x1x128x128.Idx → EReal) (k r : Fin 128) :
    kdB (F := Ideal) P v (ix2 k r) = deq (grp (fun k => v (ix4 0 0 k (src r))) ⟨k.val / 32, by omega⟩) ⟨k.val % 32, by omega⟩ := by
  rw [← sum_perm h (fun c => deq (grp (fun k => v (ix4 0 0 k c)) ⟨k.val / 32, by omega⟩) ⟨k.val % 32, by omega⟩) r]
  have e25 : ∀ (g : Fin 4) (d : Fin 128), k0_pay425 (F := Ideal) v (ix2 g d) = qlo (grp (fun k => v (ix4 0 0 k d)) g) := by
    intro g d; pointwise [k0_pay425, k0_pay424]; rfl
  have e26 : ∀ (g : Fin 4) (d : Fin 128), k0_pay426 (F := Ideal) v (ix2 g d) = qscale (grp (fun k => v (ix4 0 0 k d)) g) := by
    intro g d; pointwise [k0_pay426, k0_pay425, k0_pay424]; rfl
  unfold kdB k0_pay427
  generalize e5 : k0_pay425 (F := Ideal) v = a at e25 ⊢
  generalize e6 : k0_pay426 (F := Ideal) v = b at e26 ⊢
  pointwise [k0_pay432, k0_pay428, k0_pay424]
  refine Finset.sum_congr rfl fun c _ => ?_
  simp only [e25, e26]
  have hk : grp (fun k => v (ix4 0 0 k c)) ⟨k.val / 32, by omega⟩ ⟨k.val % 32, by omega⟩ = v (ix4 0 0 k c) := by
    unfold grp
    exact congrArg (fun k => v (ix4 0 0 k c)) (Fin.ext (by simp only; omega))
  unfold deq qcode
  rw [hk]

/-- The kernel's new values, read back. -/
theorem vd_apply {P : S128x128.Idx → EReal} (h : IsPerm P) (v : S1x1x128x128.Idx → EReal) (k r : Fin 128) :
    k0_pay442 (F := Ideal) (vd1 P v) (vd2 P v) (ix2 r k) = deq (fun d => v (ix4 0 0 k d)) (src r) := by
  rw [← deq_equiv]
  have e33 : ∀ r k : Fin 128, k0_pay433 (F := Ideal) P v (ix2 r k) = v (ix4 0 0 k (src r)) := by
    intro r k
    rw [← sum_perm' h (fun c => v (ix4 0 0 k c)) r]
    pointwise [k0_pay433]
  have e34 : ∀ k : Fin 128, k0_pay434 (F := Ideal) P v (ix2 0 k) = qlo (fun r => v (ix4 0 0 k (src r))) := by
    intro k
    unfold k0_pay434
    generalize k0_pay433 (F := Ideal) P v = a at e33 ⊢
    pointwise
    simp only [e33]; rfl
  unfold vd1 vd2
  generalize k0_pay433 (F := Ideal) P v = a at e33 ⊢
  generalize k0_pay434 (F := Ideal) P v = b at e34 ⊢
  have e35 : ∀ k : Fin 128, k0_pay435 (F := Ideal) a b (ix2 0 k) = qscale (fun r => v (ix4 0 0 k (src r))) := by
    intro k
    pointwise [k0_pay435]
    simp only [e33, e34]; rfl
  unfold k0_pay440 k0_pay436
  generalize k0_pay435 (F := Ideal) a b = c at e35 ⊢
  pointwise [k0_pay442, k0_pay441]
  simp only [e33, e34, e35]
  rfl

/-! The causal tile. -/

/-- A key's scaled score against a column, minus infinity where the column's token comes before the key's. -/
def tscN (k : Fin 128 → Fin 128 → EReal) (q : Fin 128 → EReal) (s : ℕ) (i : Fin 128) : EReal :=
  if i.val ≤ s then tsc k q i else ⊥

theorem mask_col : ∀ c : Fin 256,
      (Scalar.select
        (IntOp.andi
          (IntOp.xori
            (IntOp.cmpi CmpIPredicate.slt
              (IntOp.remsi ArithUnit.vector (BitVec.ofNat 32 ↑c)
                (Scalar.select (Scalar.cmpi CmpIPredicate.eq 128#32 0#32) 1#32 128#32))
              0#32)
            (Scalar.cmpi CmpIPredicate.slt (Scalar.select (Scalar.cmpi CmpIPredicate.eq 128#32 0#32) 1#32 128#32) 0#32))
          (IntOp.cmpi CmpIPredicate.ne
            (IntOp.remsi ArithUnit.vector (BitVec.ofNat 32 ↑c)
              (Scalar.select (Scalar.cmpi CmpIPredicate.eq 128#32 0#32) 1#32 128#32))
            0#32))
        (IntOp.addi
          (IntOp.remsi ArithUnit.vector (BitVec.ofNat 32 ↑c)
            (Scalar.select (Scalar.cmpi CmpIPredicate.eq 128#32 0#32) 1#32 128#32))
          (Scalar.select (Scalar.cmpi CmpIPredicate.eq 128#32 0#32) 1#32 128#32))
        (IntOp.remsi ArithUnit.vector (BitVec.ofNat 32 ↑c)
          (Scalar.select (Scalar.cmpi CmpIPredicate.eq 128#32 0#32) 1#32 128#32))) = BitVec.ofNat 32 (c.val % 128) := by
  decide +kernel
theorem sge_nat : ∀ a b : Fin 128, IntOp.cmpi CmpIPredicate.sge (BitVec.ofNat 32 a.val) (BitVec.ofNat 32 b.val) = if b.val ≤ a.val then 1#1 else 0#1 := by
  decide +kernel
/-- The causal mask: a column's token is not before the key's. -/
theorem mask_apply (i : Fin 128) (c : Fin 256) : k0_pay422 (ix2 i c) = if i.val ≤ c.val % 128 then 1#1 else 0#1 := by
  pointwise [k0_pay422]
  rw [mask_col]
  exact sge_nat ⟨c.val % 128, by omega⟩ i

theorem pay443_apply (k : FVec Ideal S128x128 .bf16) (q : Vec Ideal S128x256 .bf16) (i : Fin 128) (c : Fin 256) :
    k0_pay443 (F := Ideal) k0_pay422 k q (ix2 i c) * ((lscale : ℝ) : EReal) = tscN (fun i d => k (ix2 i d)) (fun d => q (ix2 d c)) (c.val % 128) i := by
  have e : k0_pay443 (F := Ideal) k0_pay422 k q (ix2 i c) = Scalar.select (k0_pay422 (ix2 i c)) (∑ d, k (ix2 i d) * q (ix2 d c)) (⊥ : EReal) := by
    generalize k0_pay422 = w
    pointwise [k0_pay443]
    rw [ofBits_bot]
  rw [e, mask_apply]
  unfold tscN
  by_cases hc : i.val ≤ c.val % 128
  · rw [if_pos hc, if_pos hc]; rfl
  · rw [if_neg hc, if_neg hc]; exact EReal.bot_mul_coe_of_pos lscale_pos

theorem pay444_apply (k : FVec Ideal S128x128 .bf16) (q : Vec Ideal S128x256 .bf16) (mo : Vec Ideal S1x256 .f32) (c : Fin 256) :
    k0_pay444 (F := Ideal) k0_pay422 k q mo (ix2 0 c) = mStep (tscN (fun i d => k (ix2 i d)) (fun d => q (ix2 d c)) (c.val % 128)) (mo (ix2 0 c)) := by
  have h := pay443_apply k q
  unfold k0_pay444
  generalize k0_pay443 (F := Ideal) k0_pay422 k q = w at h ⊢
  pointwise
  rw [named_lscale, ofBits_bot]
  refine congrArg (max _) ((Cert.Val.sup_mul_pos _ _ lscale_pos).trans ?_)
  simp only [h]

theorem pay446_apply (k : FVec Ideal S128x128 .bf16) (q : Vec Ideal S128x256 .bf16) (mo : Vec Ideal S1x256 .f32) (i : Fin 128) (c : Fin 256) :
    k0_pay446 (F := Ideal) k0_pay422 k q mo (ix2 i c) = Ideal.exp2 (tscN (fun i d => k (ix2 i d)) (fun d => q (ix2 d c)) (c.val % 128) i
      - mStep (tscN (fun i d => k (ix2 i d)) (fun d => q (ix2 d c)) (c.val % 128)) (mo (ix2 0 c))) := by
  have h := pay443_apply k q
  have h' := pay444_apply k q mo
  unfold k0_pay446
  generalize k0_pay443 (F := Ideal) k0_pay422 k q = w at h ⊢
  generalize k0_pay444 (F := Ideal) k0_pay422 k q mo = w' at h' ⊢
  pointwise
  rw [named_lscale, h', h]
  rfl

theorem pay445_apply (k : FVec Ideal S128x128 .bf16) (q : Vec Ideal S128x256 .bf16) (mo : Vec Ideal S1x256 .f32) (c : Fin 256) :
    k0_pay445 (F := Ideal) k0_pay422 k q mo (ix2 0 c) = Ideal.exp2 (mo (ix2 0 c)
      - mStep (tscN (fun i d => k (ix2 i d)) (fun d => q (ix2 d c)) (c.val % 128)) (mo (ix2 0 c))) := by
  have h' := pay444_apply k q mo
  unfold k0_pay445
  generalize k0_pay444 (F := Ideal) k0_pay422 k q mo = w' at h' ⊢
  pointwise
  rw [h']
  rfl

theorem tileN_m (k : FVec Ideal S128x128 .bf16) (q : Vec Ideal S128x256 .bf16) (mo : Vec Ideal S1x256 .f32) (c : Fin 256) :
    k0_pay447 (F := Ideal) k0_pay422 k q mo (ix2 0 c) = mStep (tscN (fun i d => k (ix2 i d)) (fun d => q (ix2 d c)) (c.val % 128)) (mo (ix2 0 c)) := by
  have h' := pay444_apply k q mo
  unfold k0_pay447
  generalize k0_pay444 (F := Ideal) k0_pay422 k q mo = w' at h' ⊢
  pointwise
  rw [h']

theorem tileN_l (k : FVec Ideal S128x128 .bf16) (q : Vec Ideal S128x256 .bf16) (mo lo : Vec Ideal S1x256 .f32) (c : Fin 256) :
    k0_pay448 (F := Ideal) k0_pay422 k q mo lo (ix2 0 c)
      = lStep (tscN (fun i d => k (ix2 i d)) (fun d => q (ix2 d c)) (c.val % 128)) (mo (ix2 0 c)) (lo (ix2 0 c)) := by
  have h := pay446_apply k q mo
  have h' := pay445_apply k q mo
  unfold k0_pay448
  generalize k0_pay446 (F := Ideal) k0_pay422 k q mo = w at h ⊢
  generalize k0_pay445 (F := Ideal) k0_pay422 k q mo = w' at h' ⊢
  pointwise
  rw [h']
  exact congrArg _ (Finset.sum_congr rfl fun i _ => h i c)

theorem tileN_a (k : FVec Ideal S128x128 .bf16) (v1 : FVec Ideal S128x128 .bf16) (v2 : FVec Ideal S1x128 .bf16) (q : Vec Ideal S128x256 .bf16) (mo : Vec Ideal S1x256 .f32)
    (ao : Vec Ideal S128x256 .f32) (d : Fin 128) (c : Fin 256) :
    k0_pay450 (F := Ideal) (k0_pay449 k0_pay422 k v1 v2 q mo ao) (ix2 d c)
      = aStep (tscN (fun i d => k (ix2 i d)) (fun d => q (ix2 d c)) (c.val % 128)) (fun i => k0_pay442 v1 v2 (ix2 d i)) (mo (ix2 0 c)) (ao (ix2 d c)) := by
  have h := pay446_apply k q mo
  have h' := pay445_apply k q mo
  unfold k0_pay449
  generalize k0_pay446 (F := Ideal) k0_pay422 k q mo = w at h ⊢
  generalize k0_pay445 (F := Ideal) k0_pay422 k q mo = w' at h' ⊢
  generalize k0_pay442 (F := Ideal) v1 v2 = w2
  pointwise [k0_pay450]
  rw [h']
  exact congrArg _ (Finset.sum_congr rfl fun i _ => congrArg _ (h i c))
end Cert.KernelIdeal.Body
end
-- ==== Proof.Val.Spec.lean ====
/-
  The attention of the arguments, in plain mathematics: keys and values by position, scores, and the weighted mean.
-/
module
public import proofs.«01_k».proof.Proof.Val.NewTok
@[expose] public section
set_option maxRecDepth 16384
noncomputable section
namespace Cert.KernelIdeal.Body
open Cert.KernelIdeal.Gen
open Idealize.ShloMosaic Idealize.ShloMosaic.TcCoe Idealize.ShloMosaic.Tactic
open Idealize.ShloMosaic.Pipeline (Dat RDat Cfg Window cellOf)

/-- The eleven arguments. -/
structure Args where
  x : S32x128x4096.Idx → EReal
  kn : S32x128x4x128.Idx → EReal
  vn : S32x128x4x128.Idx → EReal
  kc : S32x16256x4x64.Idx → BitVec 8
  ks : S32x508x4x128.Idx → EReal
  kz : S32x508x4x128.Idx → EReal
  vc : S32x16256x4x64.Idx → BitVec 8
  vs : S32x16256x4.Idx → EReal
  vz : S32x16256x4.Idx → EReal
  kt : S32x128x4x128.Idx → EReal
  vt : S32x128x4x128.Idx → EReal

/-- The key at position `n`: 16256 cached ones, 128 of the tail, 128 new ones. -/
def keyAt (A : Args) (b : Fin 32) (h : Fin 4) (n : ℕ) (d : Fin 128) : EReal :=
  if h1 : n < 16256 then nib (A.kc (ix4 b ⟨n, h1⟩ h (byteOf d))) d * A.ks (ix4 b ⟨n / 32, by omega⟩ h d) + A.kz (ix4 b ⟨n / 32, by omega⟩ h d)
  else if h2 : n - 16256 < 128 then A.kt (ix4 b ⟨n - 16256, h2⟩ h d)
  else if h3 : n - 16384 < 128 then deq (grp (fun r => A.kn (ix4 b r h d)) ⟨(n - 16384) / 32, by omega⟩) ⟨(n - 16384) % 32, by omega⟩
  else 0
/-- The value at position `n`. -/
def valAt (A : Args) (b : Fin 32) (h : Fin 4) (n : ℕ) (d : Fin 128) : EReal :=
  if h1 : n < 16256 then nib (A.vc (ix4 b ⟨n, h1⟩ h (byteOf d))) d * A.vs (ix3 b ⟨n, h1⟩ h) + A.vz (ix3 b ⟨n, h1⟩ h)
  else if h2 : n - 16256 < 128 then A.vt (ix4 b ⟨n - 16256, h2⟩ h d)
  else if h3 : n - 16384 < 128 then deq (fun d => A.vn (ix4 b ⟨n - 16384, h3⟩ h d)) d
  else 0
/-- The query of column `k = 128 (query head) + token`. -/
def qAt (A : Args) (b : Fin 32) (k : Fin 4096) (d : Fin 128) : EReal :=
  A.x (ix3 b ⟨k.val % 128, by omega⟩ ⟨k.val / 128 * 128 + d.val, by omega⟩)
/-- The key head of a column. -/
abbrev hd (k : Fin 4096) : Fin 4 := ⟨k.val / 1024, by omega⟩
/-- A column's scaled score at position `n`: minus infinity at positions after the column's token. -/
def scoreAt (A : Args) (b : Fin 32) (k : Fin 4096) (n : ℕ) : EReal :=
  if n ≤ 16384 + k.val % 128 then (∑ d, keyAt A b (hd k) n d * qAt A b k d) * ((lscale : ℝ) : EReal) else ⊥
/-- A column's weighted mean of channel `d`. -/
def meanAt (A : Args) (b : Fin 32) (k : Fin 4096) (d : Fin 128) : EReal :=
  Ideal.div (Cert.Val.runAcc (scoreAt A b k) (fun n => valAt A b (hd k) n d) 16512) (Cert.Val.runSum (scoreAt A b k) 16512)
/-- The first result. -/
def yAt (A : Args) : S32x128x4096.Idx → EReal := fun i =>
  meanAt A (i 0) ⟨(i 2).val / 128 * 128 + (i 1).val, by have h1 : (i 1).val < 128 := (i 1).isLt; have h2 : (i 2).val < 4096 := (i 2).isLt; omega⟩ ⟨(i 2).val % 128, by omega⟩
end Cert.KernelIdeal.Body
end
-- ==== Proof.Val.Block.lean ====
/-
  The block's dequantised keys and values, and the tiles of a point, read at an index of their buffers.
-/
module
public import proofs.«01_k».proof.Proof.Val.NewTok
@[expose] public section
set_option maxRecDepth 16384
noncomputable section
namespace Cert.KernelIdeal.Body
open Cert.KernelIdeal.Gen
open Idealize.ShloMosaic Idealize.ShloMosaic.TcCoe Idealize.ShloMosaic.Tactic
open Idealize.ShloMosaic.Pipeline (Dat RDat Cfg Window cellOf)
open Cert.Val

theorem mem_R7 (n : ℕ) (hn : n < 16) (y : S1x4096.Idx) : y ∈ (R7 n).set ↔ (y 1).val / 256 = n := by
  rw [Rect.mem_set_unit]
  have h0 : (y 0).val < 1 := (y 0).isLt
  have h1 : (y 1).val < 4096 := (y 1).isLt
  rw [Fin.forall_fin_two]
  simp [S1x256]
  omega
theorem mem_R6 (n : ℕ) (hn : n < 16) (y : S128x4096.Idx) : y ∈ (R6 n).set ↔ (y 1).val / 256 = n := by
  rw [Rect.mem_set_unit]
  have h0 : (y 0).val < 128 := (y 0).isLt
  have h1 : (y 1).val < 4096 := (y 1).isLt
  rw [Fin.forall_fin_two]
  simp [S128x256]
  omega
theorem mem_Rq (n : ℕ) (hn : n < 32) (y : S128x4096.Idx) : y ∈ (Rq n).set ↔ (y 1).val / 128 = n := by
  rw [Rect.mem_set_unit]
  have h0 : (y 0).val < 128 := (y 0).isLt
  have h1 : (y 1).val < 4096 := (y 1).isLt
  rw [Fin.forall_fin_two]
  simp [S128x128]
  omega

/-- Column `256n + c`. -/
abbrev col (n : ℕ) (c : Fin 256) : Fin 4096 := ⟨256 * (n % 16) + c.val, by omega⟩

theorem emb_R7 (n : ℕ) (c : Fin 256) : (R7 n).emb (ix2 0 c) = ix2 0 (col n c) := by
  idx_ext
theorem emb_R6 (n : ℕ) (d : Fin 128) (c : Fin 256) : (R6 n).emb (ix2 d c) = ix2 d (col n c) := by
  idx_ext

section
variable (base : List (View.Piece (Elt Ideal) S1x4096 .f32)) (f : (n : ℕ) → ((R7 n).shape.Idx → Elt Ideal .f32) → (R7 n).shape.Idx → Elt Ideal .f32)
  (g : Fin 4096 → EReal) (h : ∀ n < 16, ∀ c : Fin 256, f n (fun x => View.canon base ((R7 n).emb x)) (ix2 0 c) = g (col n c))
include h
theorem hG7 : ∀ n < 16, ∀ z, f n (fun x => View.canon base ((R7 n).emb x)) z = (fun y : S1x4096.Idx => g (y 1)) ((R7 n).emb z) := by
  intro n hn z
  idx_vars z
  rw [Subsingleton.elim z0 0, h n hn, emb_R7]
  rfl
theorem walk7 (v : View sig .tc .vmem S1x4096 .f32) (k : Fin 4096) : View.canon (walk v base R7 f 16) (ix2 0 k) = g k := by
  refine (canon_walk v base R7 f (fun y : S1x4096.Idx => g (y 1)) (fun y => (y 1).val / 256) 16 mem_R7 (hG7 base f g h) 16 le_rfl (ix2 0 k)).trans (if_pos ?_)
  have := k.isLt
  show k.val / 256 < 16
  omega
theorem walk7_read (v : View sig .tc .vmem S1x4096 .f32) (n : ℕ) (hn : n < 16) :
    v.readCov (walk v base R7 f n) (R7 n).toLoadRect = fun x => View.canon base ((R7 n).emb x) :=
  readCov_walk v base R7 f (fun y : S1x4096.Idx => g (y 1)) (fun y => (y 1).val / 256) 16 mem_R7 (hG7 base f g h) n hn
end

section
variable (base : List (View.Piece (Elt Ideal) S128x4096 .f32)) (f : (n : ℕ) → ((R6 n).shape.Idx → Elt Ideal .f32) → (R6 n).shape.Idx → Elt Ideal .f32)
  (g : Fin 128 → Fin 4096 → EReal) (h : ∀ n < 16, ∀ (d : Fin 128) (c : Fin 256), f n (fun x => View.canon base ((R6 n).emb x)) (ix2 d c) = g d (col n c))
include h
theorem walk6 (v : View sig .tc .vmem S128x4096 .f32) (d : Fin 128) (k : Fin 4096) : View.canon (walk v base R6 f 16) (ix2 d k) = g d k := by
  refine (canon_walk v base R6 f (fun y : S128x4096.Idx => g (y 0) (y 1)) (fun y => (y 1).val / 256) 16 mem_R6 ?_ 16 le_rfl (ix2 d k)).trans (if_pos ?_)
  · intro n hn z
    idx_vars z
    rw [h n hn, emb_R6]
    rfl
  · have := k.isLt
    show k.val / 256 < 16
    omega
end

/-! The tiles of a point. Columns of head `h` are `1024h … 1024h + 1023`. -/
section
variable (K : ℕ → Vec Ideal S1x1024x128 .bf16) (V : ℕ → Vec Ideal S1x128x1024 .bf16) (Q : ℕ → Vec Ideal S128x256 .bf16)
  (kf vf : ℕ → Fin 1024 → Fin 128 → EReal) (qf : Fin 128 → Fin 4096 → EReal)
  (hK : ∀ h < 4, ∀ i d, K h (ix3 0 i d) = kf h i d) (hV : ∀ h < 4, ∀ i d, V h (ix3 0 d i) = vf h i d) (hQ : ∀ n < 16, ∀ d c, Q n (ix2 d c) = qf d (col n c))
  (mo lo : Fin 4096 → EReal) (ao : Fin 128 → Fin 4096 → EReal)

/-- The scaled scores of a column against a block's keys. -/
def scs (k : Fin 4096) : Fin 1024 → EReal := tsc (kf (k.val / 1024)) (fun d => qf d k)

include hK hQ in
theorem tile_scs (n : ℕ) (hn : n < 16) (c : Fin 256) :
    tsc (fun i d => K (n / 4) (ix3 0 i d)) (fun d => Q n (ix2 d c)) = scs kf qf (col n c) := by
  funext i
  unfold scs tsc
  have e : (col n c).val / 1024 = n / 4 := by simp [col]; omega
  rw [e]
  refine congrArg (· * _) (Finset.sum_congr rfl fun d _ => ?_)
  show K (n / 4) (ix3 0 i d) * Q n (ix2 d c) = _
  rw [hK _ (by omega), hQ n hn]

section B
variable (M L : ℕ → Vec Ideal S1x256 .f32) (A : ℕ → Vec Ideal S128x256 .f32)
  (hM : ∀ n < 16, ∀ c, M n (ix2 0 c) = mo (col n c)) (hL : ∀ n < 16, ∀ c, L n (ix2 0 c) = lo (col n c)) (hA : ∀ n < 16, ∀ d c, A n (ix2 d c) = ao d (col n c))
include hK hQ hM in
theorem mLB_apply (k : Fin 4096) : View.canon (mLB K Q M 16) (ix2 0 k) = mStep (scs kf qf k) (mo k) := by
  unfold mLB
  refine walk7 _ _ (fun k => mStep (scs kf qf k) (mo k)) (fun n hn c => ?_) _ k
  rw [tile_m, tile_scs K Q kf qf hK hQ n hn, hM n hn]
include hK hQ hM hL in
theorem lLB_apply (k : Fin 4096) : View.canon (lLB K Q M L 16) (ix2 0 k) = lStep (scs kf qf k) (mo k) (lo k) := by
  unfold lLB
  refine walk7 _ _ (fun k => lStep (scs kf qf k) (mo k) (lo k)) (fun n hn c => ?_) _ k
  rw [tile_l, tile_scs K Q kf qf hK hQ n hn, hM n hn, hL n hn]
include hK hV hQ hM hA in
theorem aLB_apply (d : Fin 128) (k : Fin 4096) :
    View.canon (aLB K V Q M A 16) (ix2 d k) = aStep (scs kf qf k) (fun i => vf (k.val / 1024) i d) (mo k) (ao d k) := by
  unfold aLB
  refine walk6 _ _ (fun d k => aStep (scs kf qf k) (fun i => vf (k.val / 1024) i d) (mo k) (ao d k)) (fun n hn d c => ?_) _ d k
  have e : (col n c).val / 1024 = n / 4 := by simp [col]; omega
  rw [tile_a, tile_scs K Q kf qf hK hQ n hn, hM n hn, hA n hn, e]
  simp only [hV _ (by omega : n / 4 < 4)]
end B

/-! The first point starts from minus infinity and zeros. -/
theorem off2 : (![0, 0] : Fin 2 → ℕ) = fun _ => 0 := by
  funext a; fin_cases a <;> rfl
theorem fill_m (y : S1x4096.Idx) : View.canon (Val := Elt Ideal) (e := .f32) [⟨Rect.unit ![0, 0] S1x4096.size inb_S1x4096_S1x4096_0_0, k0_pay44 (F := Ideal)⟩] y = (⊥ : EReal) := by
  rw [View.canon_unit_zero off2]
  idx_vars y
  pointwise [k0_pay44]
  exact ofBits_bot
theorem fill_l (y : S1x4096.Idx) : View.canon (Val := Elt Ideal) (e := .f32) [⟨Rect.unit ![0, 0] S1x4096.size inb_S1x4096_S1x4096_0_0, k0_pay653 (F := Ideal)⟩] y = (0 : EReal) := by
  rw [View.canon_unit_zero off2]
  idx_vars y
  pointwise [k0_pay653]
theorem fill_a (y : S128x4096.Idx) : View.canon (Val := Elt Ideal) (e := .f32) [⟨Rect.unit ![0, 0] S128x4096.size inb_S128x4096_S128x4096_0_0, k0_pay654 (F := Ideal)⟩] y = (0 : EReal) := by
  rw [View.canon_unit_zero off2]
  idx_vars y
  pointwise [k0_pay654]

include hK hQ in
theorem hA7 (n : ℕ) (hn : n < 16) (c : Fin 256) (o : (R7 n).shape.Idx → Elt Ideal .f32) (ho : o (ix2 0 c) = (⊥ : EReal)) :
    k0_pay664 (F := Ideal) (k0_pay661 (K (n / 4)) (Q n) o) (ix2 0 c) = mStep (scs kf qf (col n c)) ⊥ := by
  rw [tile_m, tile_scs K Q kf qf hK hQ n hn, ho]
include hK hQ in
theorem mLA_apply (k : Fin 4096) : View.canon (mLA K Q 16) (ix2 0 k) = mStep (scs kf qf k) ⊥ := by
  unfold mLA
  exact walk7 _ _ (fun k => mStep (scs kf qf k) ⊥) (fun n hn c => hA7 K Q kf qf hK hQ n hn c _ (fill_m _)) _ k
include hK hQ in
theorem mA_apply (n : ℕ) (hn : n < 16) (c : Fin 256) : mA K Q n (ix2 0 c) = (⊥ : EReal) := by
  unfold mA mLA
  rw [walk7_read _ _ (fun k => mStep (scs kf qf k) ⊥) (fun n hn c => hA7 K Q kf qf hK hQ n hn c _ (fill_m _)) _ n hn]
  exact fill_m _
include hK hQ in
theorem lLA_apply (k : Fin 4096) : View.canon (lLA K Q 16) (ix2 0 k) = lStep (scs kf qf k) ⊥ 0 := by
  unfold lLA
  refine walk7 _ _ (fun k => lStep (scs kf qf k) ⊥ 0) (fun n hn c => ?_) _ k
  rw [tile_l, tile_scs K Q kf qf hK hQ n hn, mA_apply K Q kf qf hK hQ n hn, fill_l]
include hK hV hQ in
theorem aLA_apply (d : Fin 128) (k : Fin 4096) :
    View.canon (aLA K V Q 16) (ix2 d k) = aStep (scs kf qf k) (fun i => vf (k.val / 1024) i d) ⊥ 0 := by
  unfold aLA
  refine walk6 _ _ (fun d k => aStep (scs kf qf k) (fun i => vf (k.val / 1024) i d) ⊥ 0) (fun n hn d c => ?_) _ d k
  have e : (col n c).val / 1024 = n / 4 := by simp [col]; omega
  rw [tile_a, tile_scs K Q kf qf hK hQ n hn, mA_apply K Q kf qf hK hQ n hn, fill_a, e]
  simp only [hV _ (by omega : n / 4 < 4)]
end

/-! The new tokens' tiles, over what the block's tiles left. -/
section
variable (bm bl : List (View.Piece (Elt Ideal) S1x4096 .f32)) (ba : List (View.Piece (Elt Ideal) S128x4096 .f32))
  (K : ℕ → FVec Ideal S128x128 .bf16) (V1 : ℕ → FVec Ideal S128x128 .bf16) (V2 : ℕ → FVec Ideal S1x128 .bf16) (Q : ℕ → Vec Ideal S128x256 .bf16)
  (kf vf : ℕ → Fin 128 → Fin 128 → EReal) (qf : Fin 128 → Fin 4096 → EReal)
  (hK : ∀ h < 4, ∀ i d, K h (ix2 i d) = kf h i d) (hV : ∀ h < 4, ∀ i d, k0_pay442 (F := Ideal) (V1 h) (V2 h) (ix2 d i) = vf h i d)
  (hQ : ∀ n < 16, ∀ d c, Q n (ix2 d c) = qf d (col n c))
  (mo lo : Fin 4096 → EReal) (ao : Fin 128 → Fin 4096 → EReal)
  (hm : ∀ k, View.canon bm (ix2 0 k) = mo k) (hl : ∀ k, View.canon bl (ix2 0 k) = lo k) (ha : ∀ d k, View.canon ba (ix2 d k) = ao d k)

/-- The scaled scores of a column against the new keys, masked. -/
def scsN (k : Fin 4096) : Fin 128 → EReal := tscN (kf (k.val / 1024)) (fun d => qf d k) (k.val % 128)

include hK hQ in
theorem tile_scsN (n : ℕ) (hn : n < 16) (c : Fin 256) :
    tscN (fun i d => K (n / 4) (ix2 i d)) (fun d => Q n (ix2 d c)) (c.val % 128) = scsN kf qf (col n c) := by
  funext i
  unfold scsN tscN tsc
  have e : (col n c).val / 1024 = n / 4 := by simp [col]; omega
  have e' : (col n c).val % 128 = c.val % 128 := by simp [col]; omega
  rw [e, e']
  refine congrArg (fun z => if i.val ≤ c.val % 128 then z * _ else ⊥) (Finset.sum_congr rfl fun d _ => ?_)
  show K (n / 4) (ix2 i d) * Q n (ix2 d c) = _
  rw [hK _ (by omega), hQ n hn]

include hK hQ hm in
theorem hN7 (n : ℕ) (hn : n < 16) (c : Fin 256) :
    k0_pay447 (F := Ideal) k0_pay422 (K (n / 4)) (Q n) (fun x => View.canon bm ((R7 n).emb x)) (ix2 0 c) = mStep (scsN kf qf (col n c)) (mo (col n c)) := by
  rw [tileN_m, tile_scsN K Q kf qf hK hQ n hn, emb_R7, hm]
include hK hQ hm in
theorem mLN_apply (k : Fin 4096) : View.canon (mLN bm K Q 16) (ix2 0 k) = mStep (scsN kf qf k) (mo k) := by
  unfold mLN
  exact walk7 _ _ (fun k => mStep (scsN kf qf k) (mo k)) (hN7 bm K Q kf qf hK hQ mo hm) _ k
include hK hQ hm in
theorem mN_apply (n : ℕ) (hn : n < 16) (c : Fin 256) : mN bm K Q n (ix2 0 c) = mo (col n c) := by
  unfold mN mLN
  rw [walk7_read _ _ (fun k => mStep (scsN kf qf k) (mo k)) (hN7 bm K Q kf qf hK hQ mo hm) _ n hn]
  show View.canon bm ((R7 n).emb (ix2 0 c)) = _
  rw [emb_R7, hm]
include hK hQ hm hl in
theorem lLN_apply (k : Fin 4096) : View.canon (lLN bm bl K Q 16) (ix2 0 k) = lStep (scsN kf qf k) (mo k) (lo k) := by
  unfold lLN
  refine walk7 _ _ (fun k => lStep (scsN kf qf k) (mo k) (lo k)) (fun n hn c => ?_) _ k
  rw [tileN_l, tile_scsN K Q kf qf hK hQ n hn, mN_apply bm K Q kf qf hK hQ mo hm n hn, emb_R7, hl]
include hK hV hQ hm ha in
theorem aLN_apply (d : Fin 128) (k : Fin 4096) :
    View.canon (aLN bm ba K V1 V2 Q 16) (ix2 d k) = aStep (scsN kf qf k) (fun i => vf (k.val / 1024) i d) (mo k) (ao d k) := by
  unfold aLN
  refine walk6 _ _ (fun d k => aStep (scsN kf qf k) (fun i => vf (k.val / 1024) i d) (mo k) (ao d k)) (fun n hn d c => ?_) _ d k
  have e : (col n c).val / 1024 = n / 4 := by simp [col]; omega
  rw [tileN_a, tile_scsN K Q kf qf hK hQ n hn, mN_apply bm K Q kf qf hK hQ mo hm n hn, emb_R6, ha, e]
  simp only [hV _ (by omega : n / 4 < 4)]
end
end Cert.KernelIdeal.Body
end
-- ==== Proof.Val.Keys.lean ====
/-
  The block's dequantised keys and values and the permuted queries, read at an index of their buffers.
-/
module
public import proofs.«01_k».proof.Proof.Val.Block
@[expose] public section
set_option maxRecDepth 16384
noncomputable section
namespace Cert.KernelIdeal.Body
open Cert.KernelIdeal.Gen
open Idealize.ShloMosaic Idealize.ShloMosaic.TcCoe Idealize.ShloMosaic.Tactic
open Idealize.ShloMosaic.Pipeline (Dat RDat Cfg Window cellOf)
open Cert.Val

/-- A cached key: its code times the group's scale plus the group's zero. -/
def kval (x : Ins Ideal) (h : Fin 4) (i : Fin 1024) (d : Fin 128) : EReal :=
  nib (x.x1 (ix4 0 h (byteOf d) i)) d * x.x2 (ix3 0 ⟨4 * (i.val / 32) + h.val, by omega⟩ d) + x.x3 (ix3 0 ⟨4 * (i.val / 32) + h.val, by omega⟩ d)
/-- A cached value: its code times the token's scale plus the token's zero. -/
def vval (x : Ins Ideal) (h : Fin 4) (i : Fin 1024) (d : Fin 128) : EReal :=
  nib (x.x4 (ix4 0 h (byteOf d) i)) d * x.x5 (ix3 0 h i) + x.x6 (ix3 0 h i)

theorem mem_Rk (n : ℕ) (hn : n < 128) (y : S4x1024x128.Idx) : y ∈ (Rk n).set ↔ 32 * (y 0).val + (y 1).val / 32 = n := by
  rw [Rect.mem_set_unit]
  have h0 : (y 0).val < 4 := (y 0).isLt
  have h1 : (y 1).val < 1024 := (y 1).isLt
  have h2 : (y 2).val < 128 := (y 2).isLt
  rw [show (∀ a : Fin 3, _) ↔ _ from Fin.forall_fin_succ, Fin.forall_fin_two]
  simp [S1x32x128]
  omega
theorem mem_Rv (n : ℕ) (hn : n < 4) (y : S4x128x1024.Idx) : y ∈ (Rv n).set ↔ (y 0).val = n := by
  rw [Rect.mem_set_unit]
  have h0 : (y 0).val < 4 := (y 0).isLt
  have h1 : (y 1).val < 128 := (y 1).isLt
  have h2 : (y 2).val < 1024 := (y 2).isLt
  rw [show (∀ a : Fin 3, _) ↔ _ from Fin.forall_fin_succ, Fin.forall_fin_two]
  simp [S1x128x1024]
  omega
theorem mem_RkC (n : ℕ) (hn : n < 112) (y : S4x1024x128.Idx) :
    y ∈ (RkC n).set ↔ (if (y 1).val < 896 then 28 * (y 0).val + (y 1).val / 32 else 112) = n := by
  rw [Rect.mem_set_unit]
  have h0 : (y 0).val < 4 := (y 0).isLt
  have h1 : (y 1).val < 1024 := (y 1).isLt
  have h2 : (y 2).val < 128 := (y 2).isLt
  rw [show (∀ a : Fin 3, _) ↔ _ from Fin.forall_fin_succ, Fin.forall_fin_two]
  simp [S1x32x128]
  split <;> omega
theorem mem_RkT (n : ℕ) (hn : n < 4) (y : S4x1024x128.Idx) :
    y ∈ (RkT n).set ↔ (if (y 1).val < 896 then 4 else (y 0).val) = n := by
  rw [Rect.mem_set_unit]
  have h0 : (y 0).val < 4 := (y 0).isLt
  have h1 : (y 1).val < 1024 := (y 1).isLt
  have h2 : (y 2).val < 128 := (y 2).isLt
  rw [show (∀ a : Fin 3, _) ↔ _ from Fin.forall_fin_succ, Fin.forall_fin_two]
  simp [S1x128x128]
  split <;> omega
theorem mem_RvC (n : ℕ) (hn : n < 4) (y : S4x128x1024.Idx) :
    y ∈ (RvC n).set ↔ (if (y 2).val < 896 then (y 0).val else 4) = n := by
  rw [Rect.mem_set_unit]
  have h0 : (y 0).val < 4 := (y 0).isLt
  have h1 : (y 1).val < 128 := (y 1).isLt
  have h2 : (y 2).val < 1024 := (y 2).isLt
  rw [show (∀ a : Fin 3, _) ↔ _ from Fin.forall_fin_succ, Fin.forall_fin_two]
  simp [S1x128x896]
  split <;> omega
theorem mem_RvT (n : ℕ) (hn : n < 4) (y : S4x128x1024.Idx) :
    y ∈ (RvT n).set ↔ (if (y 2).val < 896 then 4 else (y 0).val) = n := by
  rw [Rect.mem_set_unit]
  have h0 : (y 0).val < 4 := (y 0).isLt
  have h1 : (y 1).val < 128 := (y 1).isLt
  have h2 : (y 2).val < 1024 := (y 2).isLt
  rw [show (∀ a : Fin 3, _) ↔ _ from Fin.forall_fin_succ, Fin.forall_fin_two]
  simp [S1x128x128]
  split <;> omega

/-! Loads of the input blocks. -/
section
variable (t : Fin cfg0.N) (x : Ins Ideal)
theorem ld0_apply (R : Rect S1x128x4096) (y : R.shape.Idx) : View.readAt (Elt Ideal) (ms0_0 t).view R.toLoadRect ((hs0_0 t).unread x.x0) y = x.x0 (R.emb y) :=
  Memref.IsWhole.readAt_unread (hs0_0 t) _ R.toLoadRect y
theorem ld1_apply (R : Rect S1x4x64x1024) (y : R.shape.Idx) : View.readAt (Elt Ideal) (ms0_1 t).view R.toLoadRect ((hs0_1 t).unread x.x1) y = x.x1 (R.emb y) :=
  Memref.IsWhole.readAt_unread (hs0_1 t) _ R.toLoadRect y
theorem ld2_apply (R : Rect S1x128x128) (y : R.shape.Idx) : View.readAt (Elt Ideal) (ms0_2 t).view R.toLoadRect ((hs0_2 t).unread x.x2) y = x.x2 (R.emb y) :=
  Memref.IsWhole.readAt_unread (hs0_2 t) _ R.toLoadRect y
theorem ld3_apply (R : Rect S1x128x128) (y : R.shape.Idx) : View.readAt (Elt Ideal) (ms0_3 t).view R.toLoadRect ((hs0_3 t).unread x.x3) y = x.x3 (R.emb y) :=
  Memref.IsWhole.readAt_unread (hs0_3 t) _ R.toLoadRect y
theorem ld4_apply (R : Rect S1x4x64x1024) (y : R.shape.Idx) : View.readAt (Elt Ideal) (ms0_4 t).view R.toLoadRect ((hs0_4 t).unread x.x4) y = x.x4 (R.emb y) :=
  Memref.IsWhole.readAt_unread (hs0_4 t) _ R.toLoadRect y
theorem ld5_apply (R : Rect S1x4x1024) (y : R.shape.Idx) : View.readAt (Elt Ideal) (ms0_5 t).view R.toLoadRect ((hs0_5 t).unread x.x5) y = x.x5 (R.emb y) :=
  Memref.IsWhole.readAt_unread (hs0_5 t) _ R.toLoadRect y
theorem ld6_apply (R : Rect S1x4x1024) (y : R.shape.Idx) : View.readAt (Elt Ideal) (ms0_6 t).view R.toLoadRect ((hs0_6 t).unread x.x6) y = x.x6 (R.emb y) :=
  Memref.IsWhole.readAt_unread (hs0_6 t) _ R.toLoadRect y
theorem ld7_apply (R : Rect S1x4x128x128) (y : R.shape.Idx) : View.readAt (Elt Ideal) (ms0_7 t).view R.toLoadRect ((hs0_7 t).unread x.x7) y = x.x7 (R.emb y) :=
  Memref.IsWhole.readAt_unread (hs0_7 t) _ R.toLoadRect y
theorem ld8_apply (R : Rect S1x4x128x128) (y : R.shape.Idx) : View.readAt (Elt Ideal) (ms0_8 t).view R.toLoadRect ((hs0_8 t).unread x.x8) y = x.x8 (R.emb y) :=
  Memref.IsWhole.readAt_unread (hs0_8 t) _ R.toLoadRect y
theorem ldx_apply (R : Rect S1x4x128x128) (y : R.shape.Idx) : View.readAt (Elt Ideal) (ms0_10 t).view R.toLoadRect ((hs0_10 t).unread x.x10) y = x.x10 (R.emb y) :=
  Memref.IsWhole.readAt_unread (hs0_10 t) _ R.toLoadRect y

theorem row4_apply {P : S128x128.Idx → EReal} (hP : IsPerm P) (v : S1x128x128.Idx → EReal) (n : ℕ) (r : Fin 128) :
    scM0_4.view.readCov (Val := Elt Ideal) (rowL (F := Ideal) v P) (Rrow n).toLoadRect (ix2 0 r) = v (ix3 0 ⟨4 * (n % 32) + n / 32 % 4, by omega⟩ (src r)) := by
  rw [View.readCov_eq_canon']
  show View.canon (rowL (F := Ideal) v P) ((Rrow n).emb (ix2 0 r)) = _
  unfold rowL
  rw [View.canon_unit_zero off2]
  refine Eq.trans (congrArg (k0_pay45 (F := Ideal) P v) ?_) (pay45_apply hP v ⟨4 * (n % 32) + n / 32 % 4, by omega⟩ r)
  idx_ext
theorem row5_apply {P : S128x128.Idx → EReal} (hP : IsPerm P) (v : S1x128x128.Idx → EReal) (n : ℕ) (r : Fin 128) :
    scM0_5.view.readCov (Val := Elt Ideal) (rowL (F := Ideal) v P) (Rrow n).toLoadRect (ix2 0 r) = v (ix3 0 ⟨4 * (n % 32) + n / 32 % 4, by omega⟩ (src r)) :=
  row4_apply hP v n r

abbrev R112 : Rect S128x128 := Rect.unit ![0, 0] S112x128.size (by decide)
theorem rowC_apply {P : S128x128.Idx → EReal} (hP : IsPerm P) (v : S1x112x128.Idx → EReal) (n : ℕ) (r : Fin 128) :
    scM0_4.view.readCov (Val := Elt Ideal) (rowLC (F := Ideal) v P) (RrowC n).toLoadRect (ix2 0 r) = v (ix3 0 ⟨4 * (n % 28) + n / 28 % 4, by omega⟩ (src r)) := by
  rw [View.readCov_eq_canon']
  show View.canon (rowLC (F := Ideal) v P) ((RrowC n).emb (ix2 0 r)) = _
  unfold rowLC
  have e : (RrowC n).emb (ix2 0 r) = R112.emb (ix2 ⟨4 * (n % 28) + n / 28 % 4, by omega⟩ r) := by
    idx_ext
  rw [e]
  exact (View.canon_cons_emb (Val := Elt Ideal) R112 _ _ _).trans (pay241_apply hP v _ r)

theorem emb_Rk (n : ℕ) (i : Fin 32) (r : Fin 128) : (Rk n).emb (ix3 0 i r) = ix3 ⟨n / 32 % 4, by omega⟩ ⟨32 * (n % 32) + i.val, by omega⟩ r := by idx_ext
theorem emb_RkC (n : ℕ) (i : Fin 32) (r : Fin 128) : (RkC n).emb (ix3 0 i r) = ix3 ⟨n / 28 % 4, by omega⟩ ⟨32 * (n % 28) + i.val, by omega⟩ r := by idx_ext
theorem emb_RkT (n : ℕ) (i r : Fin 128) : (RkT n).emb (ix3 0 i r) = ix3 ⟨n % 4, by omega⟩ ⟨896 + i.val, by omega⟩ r := by idx_ext
theorem emb_Rv (n : ℕ) (r : Fin 128) (i : Fin 1024) : (Rv n).emb (ix3 0 r i) = ix3 ⟨n % 4, by omega⟩ r i := by idx_ext
theorem emb_RvC (n : ℕ) (r : Fin 128) (i : Fin 896) : (RvC n).emb (ix3 0 r i) = ix3 ⟨n % 4, by omega⟩ r ⟨i.val, by omega⟩ := by idx_ext
theorem emb_RvT (n : ℕ) (r i : Fin 128) : (RvT n).emb (ix3 0 r i) = ix3 ⟨n % 4, by omega⟩ r ⟨896 + i.val, by omega⟩ := by idx_ext
theorem emb_RkB (n : ℕ) (i : Fin 1024) (r : Fin 128) : (RkB n).emb (ix3 0 i r) = ix3 ⟨n % 4, by omega⟩ i r := by idx_ext
theorem emb_Rc (h : ℕ) (b : Fin 64) (i : Fin 1024) : (Rc h).emb (ix4 0 0 b i) = ix4 0 ⟨h % 4, by omega⟩ b i := by idx_ext
theorem emb_RcC (h : ℕ) (b : Fin 64) (i : Fin 896) : (RcC h).emb (ix4 0 0 b i) = ix4 0 ⟨h % 4, by omega⟩ b ⟨i.val, by omega⟩ := by idx_ext
theorem emb_Rvs (h : ℕ) (i : Fin 1024) : (Rvs h).emb (ix3 0 0 i) = ix3 0 ⟨h % 4, by omega⟩ i := by idx_ext
theorem emb_RvsC (h : ℕ) (i : Fin 896) : (RvsC h).emb (ix3 0 0 i) = ix3 0 ⟨h % 4, by omega⟩ ⟨i.val, by omega⟩ := by idx_ext
theorem emb_Rt (h : ℕ) (i d : Fin 128) : (Rt h).emb (ix4 0 0 i d) = ix4 0 ⟨h % 4, by omega⟩ i d := by idx_ext
theorem emb_Rx (n : ℕ) (s d : Fin 128) : (Rx n).emb (ix3 0 s d) = ix3 0 s ⟨128 * (n % 32) + d.val, by omega⟩ := by idx_ext
theorem emb_Rq (n : ℕ) (d s : Fin 128) : (Rq n).emb (ix2 d s) = ix2 d ⟨128 * (n % 32) + s.val, by omega⟩ := by idx_ext
theorem emb_Rs (i d : Fin 128) : (Rect.unit (s := S1x128x128) ![0, 0, 0] S1x128x128.size (by decide)).emb (ix3 0 i d) = ix3 0 i d := by idx_ext
theorem emb_Rsc (i : Fin 112) (d : Fin 128) : Rsc.emb (ix3 0 i d) = ix3 0 ⟨i.val, by omega⟩ d := by idx_ext

/-- The block's keys. -/
theorem kL_apply {P : S128x128.Idx → EReal} (hP : IsPerm P) (h : Fin 4) (i : Fin 1024) (r : Fin 128) :
    View.canon (kL (F := Ideal) P t x 128) (ix3 h i r) = kval x h i (src r) := by
  unfold kL
  refine (canon_walk _ _ _ _ (fun y : S4x1024x128.Idx => kval x (y 0) (y 1) (src (y 2))) (fun y => 32 * (y 0).val + (y 1).val / 32) 128 mem_Rk ?_ 128 le_rfl (ix3 h i r)).trans (if_pos ?_)
  · intro n hn z
    idx_vars z
    rw [Subsingleton.elim z0 0, kPay_apply, pay51_apply, row4_apply hP, row5_apply hP, ld1_apply, ld2_apply, ld3_apply, emb_Rk, emb_Rc]
    show _ = kval x ⟨n / 32 % 4, by omega⟩ ⟨32 * (n % 32) + z1.val, by omega⟩ (src z2)
    unfold kval
    have e : (32 * (n % 32) + z1.val) / 32 = n % 32 := by omega
    simp only [e]
    refine congrArg₂ (· + ·) (congrArg₂ (· * ·) rfl (congrArg x.x2 ?_)) (congrArg x.x3 ?_)
    · exact emb_Rs _ _
    · exact emb_Rs _ _
  · show 32 * h.val + i.val / 32 < 128
    omega

/-- The block's values. -/
theorem vL_apply (h : Fin 4) (i : Fin 1024) (r : Fin 128) :
    View.canon (vL (F := Ideal) t x 4) (ix3 h r i) = vval x h i (src r) := by
  unfold vL
  refine (canon_walk _ _ _ _ (fun y : S4x128x1024.Idx => vval x (y 0) (y 2) (src (y 1))) (fun y => (y 0).val) 4 mem_Rv ?_ 4 le_rfl (ix3 h r i)).trans (if_pos ?_)
  · intro n hn z
    idx_vars z
    rw [Subsingleton.elim z0 0, pay50_apply, ld4_apply, ld5_apply, ld6_apply, emb_Rv, emb_Rc, emb_Rvs]
    rfl
  · exact h.isLt

/-- The last block's keys: cached ones and the tail. -/
theorem kLC_apply {P : S128x128.Idx → EReal} (hP : IsPerm P) (h : Fin 4) (i : Fin 1024) (r : Fin 128) :
    View.canon (kLC (F := Ideal) P t x 4) (ix3 h i r) = if hi : i.val < 896 then kval x h i (src r) else x.x7 (ix4 0 h ⟨i.val - 896, by omega⟩ (src r)) := by
  unfold kLC
  refine (canon_walk _ _ _ _ (fun y : S4x1024x128.Idx => x.x7 (ix4 0 (y 0) ⟨(y 1).val - 896, by have : (y 1).val < 1024 := (y 1).isLt; omega⟩ (src (y 2))))
    (fun y => if (y 1).val < 896 then 4 else (y 0).val) 4 mem_RkT ?_ 4 le_rfl (ix3 h i r)).trans ?_
  · intro n hn z
    idx_vars z
    rw [Subsingleton.elim z0 0, kTail_apply hP, ld7_apply, emb_Rt, emb_RkT]
    refine congrArg x.x7 ?_
    idx_ext
  · by_cases hi : i.val < 896
    · rw [dif_pos hi]
      refine (if_neg ?_).trans ?_
      · show ¬ (if i.val < 896 then 4 else h.val) < 4
        rw [if_pos hi]; omega
      refine (canon_walk _ _ _ _ (fun y : S4x1024x128.Idx => kval x (y 0) (y 1) (src (y 2))) (fun y => if (y 1).val < 896 then 28 * (y 0).val + (y 1).val / 32 else 112)
        112 mem_RkC ?_ 112 le_rfl (ix3 h i r)).trans (if_pos ?_)
      · intro n hn z
        idx_vars z
        rw [Subsingleton.elim z0 0, kPayC_apply, pay247_apply, rowC_apply hP, emb_RkC]
        refine Eq.trans (congrArg₂ (· + ·) (congrArg₂ (· * ·) rfl rfl) (rowC_apply hP _ n z2)) ?_
        rw [ld1_apply, ld2_apply, ld3_apply, emb_RcC, emb_Rsc]
        show _ = kval x ⟨n / 28 % 4, by omega⟩ ⟨32 * (n % 28) + z1.val, by omega⟩ (src z2)
        unfold kval
        have e : (32 * (n % 28) + z1.val) / 32 = n % 28 := by omega
        simp only [e]
      · show (if i.val < 896 then 28 * h.val + i.val / 32 else 112) < 112
        rw [if_pos hi]; omega
    · rw [dif_neg hi]
      refine if_pos ?_
      show (if i.val < 896 then 4 else h.val) < 4
      rw [if_neg hi]; exact h.isLt

/-- The last block's values: cached ones and the tail. -/
theorem vLC_apply {P : S128x128.Idx → EReal} (hP : IsPerm P) (h : Fin 4) (i : Fin 1024) (r : Fin 128) :
    View.canon (vLC (F := Ideal) P t x 4) (ix3 h r i) = if hi : i.val < 896 then vval x h i (src r) else x.x8 (ix4 0 h ⟨i.val - 896, by omega⟩ (src r)) := by
  unfold vLC
  refine (canon_walk _ _ _ _ (fun y : S4x128x1024.Idx => x.x8 (ix4 0 (y 0) ⟨(y 2).val - 896, by have : (y 2).val < 1024 := (y 2).isLt; omega⟩ (src (y 1))))
    (fun y => if (y 2).val < 896 then 4 else (y 0).val) 4 mem_RvT ?_ 4 le_rfl (ix3 h r i)).trans ?_
  · intro n hn z
    idx_vars z
    rw [Subsingleton.elim z0 0, vTail_apply hP, ld8_apply, emb_Rt, emb_RvT]
    refine congrArg x.x8 ?_
    idx_ext
  · by_cases hi : i.val < 896
    · rw [dif_pos hi]
      refine (if_neg ?_).trans ?_
      · show ¬ (if i.val < 896 then 4 else h.val) < 4
        rw [if_pos hi]; omega
      refine (canon_walk _ _ _ _ (fun y : S4x128x1024.Idx => vval x (y 0) (y 2) (src (y 1))) (fun y => if (y 2).val < 896 then (y 0).val else 4)
        4 mem_RvC ?_ 4 le_rfl (ix3 h r i)).trans (if_pos ?_)
      · intro n hn z
        idx_vars z
        rw [Subsingleton.elim z0 0, pay246_apply, ld4_apply, ld5_apply, ld6_apply, emb_RvC, emb_RcC, emb_RvsC]
        rfl
      · show (if i.val < 896 then h.val else 4) < 4
        rw [if_pos hi]; exact h.isLt
    · rw [dif_neg hi]
      refine if_pos ?_
      show (if i.val < 896 then 4 else h.val) < 4
      rw [if_neg hi]; exact h.isLt

/-- The permuted queries: column `128 h + s` holds token `s` of query head `h`. -/
theorem qL_apply (r : Fin 128) (k : Fin 4096) :
    View.canon (qL (F := Ideal) t x 32) (ix2 r k) = x.x0 (ix3 0 ⟨k.val % 128, by omega⟩ ⟨k.val / 128 * 128 + (src r).val, by omega⟩) := by
  unfold qL
  refine (canon_walk _ _ _ _ (fun y : S128x4096.Idx => x.x0 (ix3 0 ⟨(y 1).val % 128, by omega⟩ ⟨(y 1).val / 128 * 128 + (src (y 0)).val, by have : (y 1).val < 4096 := (y 1).isLt; omega⟩))
    (fun y => (y 1).val / 128) 32 mem_Rq ?_ 32 le_rfl (ix2 r k)).trans (if_pos ?_)
  · intro n hn z
    idx_vars z
    rw [pay30_apply isPerm, ld0_apply, emb_Rx, emb_Rq]
    refine congrArg x.x0 ?_
    idx_ext
  · show k.val / 128 < 32
    omega
end
end Cert.KernelIdeal.Body
end
-- ==== Proof.Val.Value.lean ====
/-
  The kernel's first result: before each block of keys the scratch holds the running maximum, sum and weighted sum of the keys
  before it, and the last block divides the weighted sum by the sum.
-/
module
public import proofs.«01_k».proof.Proof.Val.Spec
public import proofs.«01_k».proof.Proof.Val.Keys
public import proofs.«01_k».proof.Proof.Val.Block
public import proofs.«01_k».proof.Proof.Val.Blocks
public import proofs.«01_k».proof.Proof.Val.Quant
@[expose] public section
set_option maxRecDepth 16384
noncomputable section
namespace Cert.KernelIdeal.Body
open Cert.KernelIdeal.Gen
open Idealize.ShloMosaic Idealize.ShloMosaic.TcCoe Idealize.ShloMosaic.Tactic
open Idealize.ShloMosaic.Pipeline (Dat RDat Cfg Window cellOf)
open Cert.Val (walk canon_walk runMax runSum runAcc)

variable (m : (ℓ : Loc nD τ sig) → Buf (Elt Ideal) ℓ)

/-- The arguments as launched. -/
def args (c : Dev nD) : Args where
  x := m ((c : Thread nD τ).loc main_arg0)
  kn := m ((c : Thread nD τ).loc main_arg1)
  vn := m ((c : Thread nD τ).loc main_arg2)
  kc := m ((c : Thread nD τ).loc main_arg3)
  ks := m ((c : Thread nD τ).loc main_arg4)
  kz := m ((c : Thread nD τ).loc main_arg5)
  vc := m ((c : Thread nD τ).loc main_arg6)
  vs := m ((c : Thread nD τ).loc main_arg7)
  vz := m ((c : Thread nD τ).loc main_arg8)
  kt := m ((c : Thread nD τ).loc main_arg9)
  vt := m ((c : Thread nD τ).loc main_arg10)

/-- What the scratch holds when `N` positions of batch row `b` are done. -/
structure Holds (A : Args) (b : Fin 32) (N : ℕ) (s : Scr Ideal) : Prop where
  p : IsPerm s.s0
  q : ∀ r k, s.s1 (ix2 r k) = qAt A b k (src r)
  mx : ∀ k, s.s7 (ix2 0 k) = runMax (scoreAt A b k) N
  sm : ∀ k, s.s8 (ix2 0 k) = runSum (scoreAt A b k) N
  ac : ∀ r k, s.s6 (ix2 r k) = runAcc (scoreAt A b k) (fun n => valAt A b (hd k) n (src r)) N

section
variable (A : Args) (b : Fin 32)
/-- Keys, values and queries by place. -/
def kf {n : ℕ} (N H : ℕ) (i : Fin n) (r : Fin 128) : EReal := keyAt A b ⟨H % 4, by omega⟩ (N + i.val) (src r)
def vf {n : ℕ} (N H : ℕ) (i : Fin n) (r : Fin 128) : EReal := valAt A b ⟨H % 4, by omega⟩ (N + i.val) (src r)
def qf (r : Fin 128) (k : Fin 4096) : EReal := qAt A b k (src r)

theorem hd_mod (k : Fin 4096) : (⟨k.val / 1024 % 4, by omega⟩ : Fin 4) = hd k := Fin.ext (by simp; omega)

theorem sum_place (N : ℕ) (k : Fin 4096) {n : ℕ} (i : Fin n) :
    ∑ d, kf A b N (k.val / 1024) i d * qf A b d k = ∑ d, keyAt A b (hd k) (N + i.val) d * qAt A b k d := by
  unfold kf qf
  rw [hd_mod]
  exact Equiv.sum_comp src (fun d => keyAt A b (hd k) (N + i.val) d * qAt A b k d)

theorem scs_eq (N : ℕ) (hN : N ≤ 15360) (k : Fin 4096) : scs (kf A b N) (qf A b) k = fun i => scoreAt A b k (N + i.val) := by
  funext i
  unfold scs tsc scoreAt
  rw [if_pos (by have := i.isLt; omega), sum_place]
theorem scsN_eq (k : Fin 4096) : scsN (kf A b 16384) (qf A b) k = fun i => scoreAt A b k (16384 + i.val) := by
  funext i
  unfold scsN tscN tsc scoreAt
  rw [sum_place]
  by_cases hc : i.val ≤ k.val % 128
  · rw [if_pos hc, if_pos (by omega)]
  · rw [if_neg hc, if_neg (by omega)]
theorem vf_eq (N : ℕ) (k : Fin 4096) (r : Fin 128) (n : ℕ) :
    (fun i : Fin n => vf A b N (k.val / 1024) i r) = fun i => (fun j => valAt A b (hd k) j (src r)) (N + i.val) := by
  unfold vf; rw [hd_mod]
end

section
variable (c : Dev nD) (t : Fin cfg0.N) (x : Ins Ideal) (hb : Blocks m c t x)
include hb
theorem kval_eq (h : Fin 4) (i : Fin 1024) (d : Fin 128) (hi : t.val % 16 * 1024 + i.val < 16256) :
    kval x h i d = keyAt (args m c) (row t) h (t.val % 16 * 1024 + i.val) d := by
  unfold kval keyAt
  have hg : t.val % 16 * 128 + (4 * (i.val / 32) + h.val) < 2032 := by omega
  rw [dif_pos hi, x1_apply m c t x hb _ _ _ hi, x2_apply m c t x hb _ _ hg, x3_apply m c t x hb _ _ hg]
  have e1 : (⟨(t.val % 16 * 128 + (4 * (i.val / 32) + h.val)) / 4, by omega⟩ : Fin 508) = ⟨(t.val % 16 * 1024 + i.val) / 32, by omega⟩ := Fin.ext (by simp; omega)
  have e2 : (⟨(t.val % 16 * 128 + (4 * (i.val / 32) + h.val)) % 4, by omega⟩ : Fin 4) = h := Fin.ext (by simp; omega)
  simp only [e1, e2]
  rfl
theorem vval_eq (h : Fin 4) (i : Fin 1024) (d : Fin 128) (hi : t.val % 16 * 1024 + i.val < 16256) :
    vval x h i d = valAt (args m c) (row t) h (t.val % 16 * 1024 + i.val) d := by
  unfold vval valAt
  rw [dif_pos hi, x4_apply m c t x hb _ _ _ hi, x5_apply m c t x hb _ _ hi, x6_apply m c t x hb _ _ hi]
  rfl

theorem kB_eq {P : S128x128.Idx → EReal} (hP : IsPerm P) (hj : t.val % 16 ≠ 15) (h : ℕ) (i : Fin 1024) (r : Fin 128) :
    kB (kL (F := Ideal) P t x 128) h (ix3 0 i r) = kf (args m c) (row t) (t.val % 16 * 1024) h i r := by
  unfold kB
  rw [View.readCov_eq_canon']
  show View.canon _ ((RkB h).emb (ix3 0 i r)) = _
  rw [emb_RkB, kL_apply t x hP, kval_eq m c t x hb _ _ _ (by omega)]
  rfl
theorem vB_eq (hj : t.val % 16 ≠ 15) (h : ℕ) (i : Fin 1024) (r : Fin 128) :
    vB (vL (F := Ideal) t x 4) h (ix3 0 r i) = vf (args m c) (row t) (t.val % 16 * 1024) h i r := by
  unfold vB
  rw [View.readCov_eq_canon']
  show View.canon _ ((Rv h).emb (ix3 0 r i)) = _
  rw [emb_Rv, vL_apply t x, vval_eq m c t x hb _ _ _ (by omega)]
  rfl
theorem kBC_eq {P : S128x128.Idx → EReal} (hP : IsPerm P) (hj : t.val % 16 = 15) (h : ℕ) (i : Fin 1024) (r : Fin 128) :
    kB (kLC (F := Ideal) P t x 4) h (ix3 0 i r) = kf (args m c) (row t) 15360 h i r := by
  unfold kB
  rw [View.readCov_eq_canon']
  show View.canon _ ((RkB h).emb (ix3 0 i r)) = _
  rw [emb_RkB, kLC_apply t x hP]
  by_cases hi : i.val < 896
  · rw [dif_pos hi, kval_eq m c t x hb _ _ _ (by omega), hj]; rfl
  · rw [dif_neg hi, x7_apply m c t x hb]
    unfold kf keyAt
    rw [dif_neg (by omega), dif_pos (by omega)]
    have e : (⟨15360 + i.val - 16256, by omega⟩ : Fin 128) = ⟨i.val - 896, by omega⟩ := Fin.ext (by simp; omega)
    rw [e]; rfl
theorem vBC_eq (hj : t.val % 16 = 15) (h : ℕ) (i : Fin 1024) (r : Fin 128) {P : S128x128.Idx → EReal} (hP : IsPerm P) :
    vB (vLC (F := Ideal) P t x 4) h (ix3 0 r i) = vf (args m c) (row t) 15360 h i r := by
  unfold vB
  rw [View.readCov_eq_canon']
  show View.canon _ ((Rv h).emb (ix3 0 r i)) = _
  rw [emb_Rv, vLC_apply t x hP]
  by_cases hi : i.val < 896
  · rw [dif_pos hi, vval_eq m c t x hb _ _ _ (by omega), hj]; rfl
  · rw [dif_neg hi, x8_apply m c t x hb]
    unfold vf valAt
    rw [dif_neg (by omega), dif_pos (by omega)]
    have e : (⟨15360 + i.val - 16256, by omega⟩ : Fin 128) = ⟨i.val - 896, by omega⟩ := Fin.ext (by simp; omega)
    rw [e]; rfl
theorem kN_eq {P : S128x128.Idx → EReal} (hP : IsPerm P) (h : ℕ) (i r : Fin 128) :
    kdB (F := Ideal) P (knB t x h) (ix2 i r) = kf (args m c) (row t) 16384 h i r := by
  rw [kd_apply hP]
  unfold kf keyAt
  rw [dif_neg (by omega), dif_neg (by omega), dif_pos (by omega)]
  have e1 : (⟨(16384 + i.val - 16384) / 32, by omega⟩ : Fin 4) = ⟨i.val / 32, by omega⟩ := Fin.ext (by simp)
  have e2 : (⟨(16384 + i.val - 16384) % 32, by omega⟩ : Fin 32) = ⟨i.val % 32, by omega⟩ := Fin.ext (by simp)
  rw [e1, e2]
  refine congrArg (fun f => deq (grp f ⟨i.val / 32, by omega⟩) ⟨i.val % 32, by omega⟩) (funext fun k => ?_)
  rw [show knB t x h (ix4 0 0 k (src r)) = x.x9 ((Rt h).emb (ix4 0 0 k (src r))) from ld9_apply t x _ _, emb_Rt, x9_apply m c t x hb]
  rfl
theorem vN_eq {P : S128x128.Idx → EReal} (hP : IsPerm P) (h : ℕ) (i r : Fin 128) :
    k0_pay442 (F := Ideal) (vd1 P (vnB t x h)) (vd2 P (vnB t x h)) (ix2 r i) = vf (args m c) (row t) 16384 h i r := by
  rw [vd_apply hP]
  unfold vf valAt
  rw [dif_neg (by omega), dif_neg (by omega), dif_pos (by omega)]
  have e1 : (⟨16384 + i.val - 16384, by omega⟩ : Fin 128) = i := Fin.ext (by simp)
  rw [e1]
  refine congrArg (fun f => deq f (src r)) (funext fun k => ?_)
  rw [show vnB t x h (ix4 0 0 i k) = x.x10 ((Rt h).emb (ix4 0 0 i k)) from ldx_apply t x _ _, emb_Rt, x10_apply m c t x hb]
  rfl
theorem qL_eq (r : Fin 128) (k : Fin 4096) : View.canon (qL (F := Ideal) t x 32) (ix2 r k) = qf (args m c) (row t) r k := by
  rw [qL_apply, x0_apply m c t x hb]
  rfl
end

theorem isPerm7 : IsPerm (k0_pay7 (F := Ideal)) := by
  intro r c
  refine Eq.trans ?_ (isPerm r c)
  generalize e : k0_pay6 (F := Ideal) = w
  unfold k0_pay7
  rw [e]
  pointwise
theorem pA_perm : IsPerm (pA (F := Ideal)) := by
  intro r c
  unfold pA pL
  rw [View.readCov_unit_zero scM0_0.view off2]
  exact isPerm7 r c

section
variable (c : Dev nD) (t : Fin cfg0.N) (h : t.val % 16 = 0) (x : Ins Ideal) (hb : Blocks m c t x)
include h hb
theorem hKA (h' : ℕ) (_ : h' < 4) (i : Fin 1024) (d : Fin 128) : kB (kL (F := Ideal) pA t x 128) h' (ix3 0 i d) = kf (args m c) (row t) 0 h' i d := by
  rw [kB_eq m c t x hb pA_perm (by omega), h]
theorem hVA (h' : ℕ) (_ : h' < 4) (i : Fin 1024) (d : Fin 128) : vB (vL (F := Ideal) t x 4) h' (ix3 0 d i) = vf (args m c) (row t) 0 h' i d := by
  rw [vB_eq m c t x hb (by omega), h]
omit h in
theorem hQA (n : ℕ) (_ : n < 16) (d : Fin 128) (k : Fin 256) : qA (F := Ideal) t x n (ix2 d k) = qf (args m c) (row t) d (col n k) := by
  unfold qA
  rw [View.readCov_eq_canon']
  show View.canon _ ((R6 n).emb (ix2 d k)) = _
  rw [emb_R6, qL_eq m c t x hb]
theorem stA_m (k : Fin 4096) : View.canon (mLA (kB (kL (F := Ideal) pA t x 128)) (qA t x) 16) (ix2 0 k) = runMax (scoreAt (args m c) (row t) k) 1024 := by
  have hK := hKA m c t h x hb
  have hQ := hQA m c t x hb
  generalize kB (kL (F := Ideal) pA t x 128) = K at hK ⊢
  generalize qA (F := Ideal) t x = Q at hQ ⊢
  refine (mLA_apply K Q (kf (args m c) (row t) 0) (qf (args m c) (row t)) hK hQ k).trans ?_
  rw [scs_eq _ _ 0 (by omega)]
  have e := mStep_run (scoreAt (args m c) (row t) k) 0 1024
  rw [Cert.Val.runMax_zero, Nat.zero_add] at e
  exact e
theorem stA_l (k : Fin 4096) : View.canon (lLA (kB (kL (F := Ideal) pA t x 128)) (qA t x) 16) (ix2 0 k) = runSum (scoreAt (args m c) (row t) k) 1024 := by
  have hK := hKA m c t h x hb
  have hQ := hQA m c t x hb
  generalize kB (kL (F := Ideal) pA t x 128) = K at hK ⊢
  generalize qA (F := Ideal) t x = Q at hQ ⊢
  refine (lLA_apply K Q (kf (args m c) (row t) 0) (qf (args m c) (row t)) hK hQ k).trans ?_
  rw [scs_eq _ _ 0 (by omega)]
  have e := lStep_run (scoreAt (args m c) (row t) k) 0 1024
  rw [Cert.Val.runMax_zero, Cert.Val.runSum_zero, Nat.zero_add] at e
  exact e
theorem stA_a (r : Fin 128) (k : Fin 4096) : View.canon (aLA (kB (kL (F := Ideal) pA t x 128)) (vB (vL t x 4)) (qA t x) 16) (ix2 r k)
    = runAcc (scoreAt (args m c) (row t) k) (fun n => valAt (args m c) (row t) (hd k) n (src r)) 1024 := by
  have hK := hKA m c t h x hb
  have hV := hVA m c t h x hb
  have hQ := hQA m c t x hb
  generalize kB (kL (F := Ideal) pA t x 128) = K at hK ⊢
  generalize vB (vL (F := Ideal) t x 4) = V at hV ⊢
  generalize qA (F := Ideal) t x = Q at hQ ⊢
  refine (aLA_apply K V Q (kf (args m c) (row t) 0) (vf (args m c) (row t) 0) (qf (args m c) (row t)) hK hV hQ r k).trans ?_
  rw [scs_eq _ _ 0 (by omega), vf_eq]
  have e := aStep_run (scoreAt (args m c) (row t) k) (fun n => valAt (args m c) (row t) (hd k) n (src r)) 0 1024
  rw [Cert.Val.runMax_zero, Cert.Val.runAcc_zero, Nat.zero_add] at e
  exact e
end

/-- The first block of a batch row. -/
theorem holdsA (c : Dev nD) (t : Fin cfg0.N) (h : t.val % 16 = 0) (x : Ins Ideal) (hb : Blocks m c t x) :
    Holds (args m c) (row t) 1024 (afterA c t h x) where
  p r k := by
    dsimp only [afterA]
    rw [View.read_writes_junk_eq_canon]
    refine (congrArg (fun L => View.canon L _) (piecesA0 c t h x)).trans ?_
    show View.canon pL _ = _
    rw [pL, View.canon_unit_zero off2]
    exact isPerm7 r k
  q r k := by
    dsimp only [afterA]
    rw [View.read_writes_junk_eq_canon]
    refine (congrArg (fun L => View.canon L _) (piecesA1 c t h x)).trans ?_
    exact qL_eq m c t x hb r k
  mx k := by
    dsimp only [afterA]
    rw [View.read_writes_junk_eq_canon]
    refine (congrArg (fun L => View.canon L _) (piecesA7 c t h x)).trans ?_
    exact stA_m m c t h x hb k
  sm k := by
    dsimp only [afterA]
    rw [View.read_writes_junk_eq_canon]
    refine (congrArg (fun L => View.canon L _) (piecesA8 c t h x)).trans ?_
    exact stA_l m c t h x hb k
  ac r k := by
    dsimp only [afterA]
    rw [View.read_writes_junk_eq_canon]
    refine (congrArg (fun L => View.canon L _) (piecesA6 c t h x)).trans ?_
    exact stA_a m c t h x hb r k

section
variable (A : Args) (b : Fin 32) (N : ℕ) (s : Scr Ideal) (hs : Holds A b N s)
include hs
theorem rd0_perm : IsPerm (rd0 (F := Ideal) s) := by
  intro r c
  unfold rd0
  rw [show View.readAt (Elt Ideal) scM0_0.view (Rect.unit ![0, 0] S128x128.size inb_S128x128_S128x128_0_0).toLoadRect ((Memref.isWhole_whole _ : scM0_0.IsWhole).unread s.s0) (ix2 r c) = s.s0 ((Rect.unit ![0, 0] S128x128.size inb_S128x128_S128x128_0_0).emb (ix2 r c)) from Memref.IsWhole.readAt_unread _ _ _ _]
  rw [show (Rect.unit ![0, 0] S128x128.size inb_S128x128_S128x128_0_0).emb (ix2 r c) = (ix2 r c : S128x128.Idx) by idx_ext]
  exact hs.p r c
theorem rd1_eq (n : ℕ) (d : Fin 128) (k : Fin 256) : rd1 (F := Ideal) s n (ix2 d k) = qf A b d (col n k) := by
  refine (Memref.IsWhole.readAt_unread _ _ _ _).trans ?_
  show s.s1 ((R6 n).emb (ix2 d k)) = _
  rw [emb_R6, hs.q]; rfl
theorem rd7_eq (n : ℕ) (k : Fin 256) : rd7 (F := Ideal) s n (ix2 0 k) = runMax (scoreAt A b (col n k)) N := by
  refine (Memref.IsWhole.readAt_unread _ _ _ _).trans ?_
  show s.s7 ((R7 n).emb (ix2 0 k)) = _
  rw [emb_R7, hs.mx]
theorem rd8_eq (n : ℕ) (k : Fin 256) : rd8 (F := Ideal) s n (ix2 0 k) = runSum (scoreAt A b (col n k)) N := by
  refine (Memref.IsWhole.readAt_unread _ _ _ _).trans ?_
  show s.s8 ((R7 n).emb (ix2 0 k)) = _
  rw [emb_R7, hs.sm]
theorem rd6_eq (n : ℕ) (d : Fin 128) (k : Fin 256) :
    rd6 (F := Ideal) s n (ix2 d k) = runAcc (scoreAt A b (col n k)) (fun j => valAt A b (hd (col n k)) j (src d)) N := by
  refine (Memref.IsWhole.readAt_unread _ _ _ _).trans ?_
  show s.s6 ((R6 n).emb (ix2 d k)) = _
  rw [emb_R6]
  exact hs.ac d (col n k)

section
variable (K : ℕ → Vec Ideal S1x1024x128 .bf16) (V : ℕ → Vec Ideal S1x128x1024 .bf16) (hN : N ≤ 15360)
  (hK : ∀ h < 4, ∀ (i : Fin 1024) d, K h (ix3 0 i d) = kf A b N h i d) (hV : ∀ h < 4, ∀ (i : Fin 1024) d, V h (ix3 0 d i) = vf A b N h i d)
include hN hK
theorem blk_m (k : Fin 4096) : View.canon (mLB K (rd1 s) (rd7 s) 16) (ix2 0 k) = runMax (scoreAt A b k) (N + 1024) := by
  refine (mLB_apply K (rd1 s) (kf A b N) (qf A b) hK (fun n _ => rd1_eq A b N s hs n) (fun k => runMax (scoreAt A b k) N) (rd7 s) (fun n _ => rd7_eq A b N s hs n) k).trans ?_
  rw [scs_eq A b N hN]
  exact mStep_run (scoreAt A b k) N 1024
theorem blk_l (k : Fin 4096) : View.canon (lLB K (rd1 s) (rd7 s) (rd8 s) 16) (ix2 0 k) = runSum (scoreAt A b k) (N + 1024) := by
  refine (lLB_apply K (rd1 s) (kf A b N) (qf A b) hK (fun n _ => rd1_eq A b N s hs n) (fun k => runMax (scoreAt A b k) N) (fun k => runSum (scoreAt A b k) N) (rd7 s) (rd8 s)
    (fun n _ => rd7_eq A b N s hs n) (fun n _ => rd8_eq A b N s hs n) k).trans ?_
  rw [scs_eq A b N hN]
  exact lStep_run (scoreAt A b k) N 1024
include hV
theorem blk_a (r : Fin 128) (k : Fin 4096) :
    View.canon (aLB K V (rd1 s) (rd7 s) (rd6 s) 16) (ix2 r k) = runAcc (scoreAt A b k) (fun n => valAt A b (hd k) n (src r)) (N + 1024) := by
  refine (aLB_apply K V (rd1 s) (kf A b N) (vf A b N) (qf A b) hK hV (fun n _ => rd1_eq A b N s hs n) (fun k => runMax (scoreAt A b k) N)
    (fun r k => runAcc (scoreAt A b k) (fun n => valAt A b (hd k) n (src r)) N) (rd7 s) (rd6 s)
    (fun n _ => rd7_eq A b N s hs n) (fun n _ => rd6_eq A b N s hs n) r k).trans ?_
  rw [scs_eq A b N hN, vf_eq]
  exact aStep_run (scoreAt A b k) (fun n => valAt A b (hd k) n (src r)) N 1024
end
end

/-- A block in the middle of a batch row. -/
theorem holdsB (c : Dev nD) (t : Fin cfg0.N) (h : t.val % 16 ≠ 0 ∧ t.val % 16 ≠ 15) (x : Ins Ideal) (hb : Blocks m c t x) (s : Scr Ideal)
    (hs : Holds (args m c) (row t) (t.val % 16 * 1024) s) : Holds (args m c) (row t) (t.val % 16 * 1024 + 1024) (afterB c t h x s) := by
  have hP := rd0_perm _ _ _ s hs
  have hN : t.val % 16 * 1024 ≤ 15360 := by omega
  have hK := fun h' (_ : h' < 4) i d => kB_eq m c t x hb hP h.2 h' i d
  have hV := fun h' (_ : h' < 4) i d => vB_eq m c t x hb h.2 h' i d
  refine ⟨hs.p, hs.q, fun k => ?_, fun k => ?_, fun r k => ?_⟩
  · dsimp only [afterB]
    rw [View.read_writes_junk_eq_canon]
    refine (congrArg (fun L => View.canon L _) (piecesB7 c t h x s)).trans ?_
    exact blk_m _ _ _ s hs _ hN hK k
  · dsimp only [afterB]
    rw [View.read_writes_junk_eq_canon]
    refine (congrArg (fun L => View.canon L _) (piecesB8 c t h x s)).trans ?_
    exact blk_l _ _ _ s hs _ hN hK k
  · dsimp only [afterB]
    rw [View.read_writes_junk_eq_canon]
    refine (congrArg (fun L => View.canon L _) (piecesB6 c t h x s)).trans ?_
    exact blk_a _ _ _ s hs _ _ hN hK hV r k

theorem mem_Ry (n : ℕ) (hn : n < 32) (y : S1x128x4096.Idx) : y ∈ (Ry n).set ↔ (y 2).val / 128 = n := by
  rw [Rect.mem_set_unit]
  have h0 : (y 0).val < 1 := (y 0).isLt
  have h1 : (y 1).val < 128 := (y 1).isLt
  have h2 : (y 2).val < 4096 := (y 2).isLt
  rw [Fin.forall_fin_succ, Fin.forall_fin_two]
  simp [S1x128x128]
  omega
theorem emb_Rya (n : ℕ) (r s : Fin 128) : (Rya n).emb (ix2 r s) = ix2 r ⟨128 * (n % 32) + s.val, by omega⟩ := by idx_ext
theorem emb_Ryl (n : ℕ) (s : Fin 128) : (Ryl n).emb (ix2 0 s) = ix2 0 ⟨128 * (n % 32) + s.val, by omega⟩ := by idx_ext
theorem emb_Ry (n : ℕ) (s d : Fin 128) : (Ry n).emb (ix3 0 s d) = ix3 0 s ⟨128 * (n % 32) + d.val, by omega⟩ := by idx_ext

/-- The block of the first result that the last block of keys writes. -/
theorem outY (c : Dev nD) (t : Fin cfg0.N) (h : t.val % 16 = 15) (x : Ins Ideal) (hb : Blocks m c t x) (s : Scr Ideal)
    (hs : Holds (args m c) (row t) 15360 s) (a : Fin 128) (j : Fin 4096) :
    outC_11 c t h x s (ix3 0 a j) = yAt (args m c) (ix3 (row t) a j) := by
  have hP := rd0_perm _ _ _ s hs
  have hK := fun h' (_ : h' < 4) i d => kBC_eq m c t x hb hP h h' i d
  have hV := fun h' (_ : h' < 4) i d => vBC_eq m c t x hb h h' i d hP
  have hm := blk_m _ _ _ s hs _ le_rfl hK
  have hl := blk_l _ _ _ s hs _ le_rfl hK
  have ha := blk_a _ _ _ s hs _ _ le_rfl hK hV
  have hKN := fun h' (_ : h' < 4) i d => kN_eq m c t x hb hP h' i d
  have hVN := fun h' (_ : h' < 4) i d => vN_eq m c t x hb hP h' i d
  have hQ := fun n (_ : n < 16) => rd1_eq _ _ _ s hs n
  have hl2 : ∀ k, View.canon (lC2 t x s) (ix2 0 k) = runSum (scoreAt (args m c) (row t) k) 16512 := by
    intro k
    refine (lLN_apply _ _ _ _ _ _ hKN hQ _ _ hm hl k).trans ?_
    rw [scsN_eq]
    exact lStep_run (scoreAt (args m c) (row t) k) 16384 128
  have ha2 : ∀ r k, View.canon (aC2 t x s) (ix2 r k) = runAcc (scoreAt (args m c) (row t) k) (fun n => valAt (args m c) (row t) (hd k) n (src r)) 16512 := by
    intro r k
    refine (aLN_apply _ _ _ _ _ _ _ _ _ hKN hVN hQ _ _ hm ha r k).trans ?_
    rw [scsN_eq, vf_eq]
    exact aStep_run (scoreAt (args m c) (row t) k) (fun n => valAt (args m c) (row t) (hd k) n (src r)) 16384 128
  unfold outC_11
  rw [View.read_writes_junk_eq_canon]
  refine (congrArg (fun L => View.canon L _) (piecesC11 c t h x s)).trans ?_
  unfold yL
  refine (canon_walk _ _ _ _ (fun y : S1x128x4096.Idx => yAt (args m c) (ix3 (row t) (y 1) (y 2))) (fun y => (y 2).val / 128) 32 mem_Ry ?_ 32 le_rfl (ix3 0 a j)).trans (if_pos ?_)
  · intro n hn z
    idx_vars z
    rw [Subsingleton.elim z0 0, emb_Ry, pay4_apply hP, View.readCov_eq_canon', View.readCov_eq_canon']
    have e1 : View.canon (aC2 t x s) ((Rya n).emb (ix2 (src.symm z2) z1)) = _ := (congrArg _ (emb_Rya n _ _)).trans (ha2 _ _)
    have e2 : View.canon (lC2 t x s) ((Ryl n).emb (ix2 0 z1)) = _ := (congrArg _ (emb_Ryl n _)).trans (hl2 _)
    refine (congrArg₂ Ideal.div e1 e2).trans ?_
    rw [src.apply_symm_apply]
    unfold yAt meanAt
    have k1 : (⟨(128 * (n % 32) + z2.val) / 128 * 128 + z1.val, by omega⟩ : Fin 4096) = ⟨128 * (n % 32) + z1.val, by omega⟩ := Fin.ext (by simp; omega)
    have k2 : (⟨(128 * (n % 32) + z2.val) % 128, by omega⟩ : Fin 128) = z2 := Fin.ext (by show (128 * (n % 32) + z2.val) % 128 = z2.val; omega)
    show _ = Ideal.div (runAcc (scoreAt (args m c) (row t) ⟨(128 * (n % 32) + z2.val) / 128 * 128 + z1.val, _⟩) (fun n' => valAt (args m c) (row t) (hd ⟨(128 * (n % 32) + z2.val) / 128 * 128 + z1.val, _⟩) n' ⟨(128 * (n % 32) + z2.val) % 128, _⟩) 16512)
      (runSum (scoreAt (args m c) (row t) ⟨(128 * (n % 32) + z2.val) / 128 * 128 + z1.val, _⟩) 16512)
    rw [k1, k2]
  · have := j.isLt
    show j.val / 128 < 32
    omega
end Cert.KernelIdeal.Body
end
-- ==== Proof.Val.Codes.lean ====
/-
  What the last block of keys writes of the new tokens: the packed codes of the keys and values, and the values' scales and zeros.
-/
module
public import proofs.«01_k».proof.Proof.Val.Value
@[expose] public section
set_option maxRecDepth 16384
noncomputable section
namespace Cert.KernelIdeal.Body
open Cert.KernelIdeal.Gen
open Idealize.ShloMosaic Idealize.ShloMosaic.TcCoe Idealize.ShloMosaic.Tactic
open Idealize.ShloMosaic.Pipeline (Dat RDat Cfg Window cellOf)
open Cert.Val (walk canon_walk)

section
variable {F : FTy → Type} [FloatOps F] [Named F]
abbrev Rcd (h : ℕ) : Rect S1x4x64x128 := Rect.unit ![0, h % 4, 0, 0] S1x1x64x128.size (by
  intro a; fin_cases a <;> simp [S1x4x64x128, S1x1x64x128] <;> omega)
abbrev Rvz (h : ℕ) : Rect S1x4x128 := Rect.unit ![0, h % 4, 0] S1x1x128.size (by
  intro a; fin_cases a <;> simp [S1x4x128, S1x1x128] <;> omega)

variable (t : Fin cfg0.N) (x : Ins F) (s : Scr F)
/-- The new values of a head, permuted and transposed, and their zeros. -/
abbrev vtB (h : ℕ) : FVec F S128x128 .f32 := k0_pay433 (rd0 s) (vnB t x h)
abbrev vzB (h : ℕ) : FVec F S1x128 .f32 := k0_pay434 (rd0 s) (vnB t x h)

theorem piecesC12 (c : Dev nD) (h : t.val % 16 = 15) :
    (rC c t h x s).2.1 = walk (ms0_12 t).view [] Rcd (fun n _ => k0_pay431 (k0_pay423 (rd0 s)) (k0_pay427 (knB t x n))) 4 := by
  sl_kernel_rfl
theorem piecesC15 (c : Dev nD) (h : t.val % 16 = 15) :
    (rC c t h x s).2.2.2.2.1 = walk (ms0_15 t).view [] Rcd (fun n _ => k0_pay439 (vtB t x s n) (vzB t x s n)) 4 := by
  sl_kernel_rfl
theorem piecesC16 (c : Dev nD) (h : t.val % 16 = 15) :
    (rC c t h x s).2.2.2.2.2.1 = walk (ms0_16 t).view [] Rvz (fun n _ => k0_pay437 (vtB t x s n) (vzB t x s n)) 4 := by
  sl_kernel_rfl
theorem piecesC17 (c : Dev nD) (h : t.val % 16 = 15) :
    (rC c t h x s).2.2.2.2.2.2.1 = walk (ms0_17 t).view [] Rvz (fun n _ => k0_pay438 (vzB t x s n)) 4 := by
  sl_kernel_rfl
end

theorem ofBits_16 : Ideal.ofBits .f32 0x41800000#32 = ((16 : ℝ) : EReal) := by
  simp [Ideal.ofBits, Ideal.ieee]
  rw [← EReal.coe_mul]
  norm_num
theorem ofBits_bf16_16 : Ideal.ofBits .bf16 0x4180#16 = Ideal.ofBits .f32 0x41800000#32 := by
  rw [ofBits_16]
  simp [Ideal.ofBits, Ideal.ieee]
  rw [← EReal.coe_mul]
  norm_num

/-- Two codes packed in a byte, the second in the high half. -/
def packOf (a b : EReal) : BitVec 8 := (Ideal.fptosi 32 (a + Ideal.ofBits .f32 0x41800000#32 * b)).setWidth 8

theorem src_even : ∀ r : Fin 64, src (lo64 r) = ⟨2 * r.val, by omega⟩ := by decide +kernel
theorem src_odd : ∀ r : Fin 64, src (hi64 r) = ⟨2 * r.val + 1, by omega⟩ := by decide +kernel

/-- A product with the packing matrix. -/
theorem sum_pack {P : S128x128.Idx → EReal} (h : IsPerm P) (z : EReal) (a : Fin 128 → EReal) (r : Fin 64) :
    ∑ c, (P (ix2 (lo64 r) c) + z * P (ix2 (hi64 r) c)) * a c = a ⟨2 * r.val, by omega⟩ + z * a ⟨2 * r.val + 1, by omega⟩ := by
  have e : ∀ c, (P (ix2 (lo64 r) c) + z * P (ix2 (hi64 r) c)) * a c = a c * P (ix2 (lo64 r) c) + (z * a c) * P (ix2 (hi64 r) c) := by
    intro c
    rw [h, h, src_even, src_odd]
    by_cases h1 : c = ⟨2 * r.val, by omega⟩
    · rw [if_pos h1, if_neg (by rw [h1]; simp)]; simp
    · rw [if_neg h1]
      by_cases h2 : c = ⟨2 * r.val + 1, by omega⟩
      · rw [if_pos h2]; simp
      · rw [if_neg h2]; simp
  rw [Finset.sum_congr rfl fun c _ => e c, Finset.sum_add_distrib, sum_perm h, sum_perm h, src_even, src_odd]

theorem pay431_apply {P : S128x128.Idx → EReal} (h : IsPerm P) (v : S1x1x128x128.Idx → EReal) (r : Fin 64) (k : Fin 128) :
    k0_pay431 (F := Ideal) (k0_pay423 P) (k0_pay427 v) (ix4 0 0 r k)
      = packOf (qcode (grp (fun k => v (ix4 0 0 k ⟨2 * r.val, by omega⟩)) ⟨k.val / 32, by omega⟩) ⟨k.val % 32, by omega⟩)
          (qcode (grp (fun k => v (ix4 0 0 k ⟨2 * r.val + 1, by omega⟩)) ⟨k.val / 32, by omega⟩) ⟨k.val % 32, by omega⟩) := by
  unfold packOf
  rw [← sum_pack h _ (fun d => qcode (grp (fun k => v (ix4 0 0 k d)) ⟨k.val / 32, by omega⟩) ⟨k.val % 32, by omega⟩) r]
  have e25 : ∀ (g : Fin 4) (d : Fin 128), k0_pay425 (F := Ideal) v (ix2 g d) = qlo (grp (fun k => v (ix4 0 0 k d)) g) := by
    intro g d; pointwise [k0_pay425, k0_pay424]; rfl
  have e26 : ∀ (g : Fin 4) (d : Fin 128), k0_pay426 (F := Ideal) v (ix2 g d) = qscale (grp (fun k => v (ix4 0 0 k d)) g) := by
    intro g d; pointwise [k0_pay426, k0_pay425, k0_pay424]; rfl
  unfold k0_pay427
  generalize e5 : k0_pay425 (F := Ideal) v = a at e25 ⊢
  generalize e6 : k0_pay426 (F := Ideal) v = b at e26 ⊢
  pointwise [k0_pay431, k0_pay423, k0_pay428, k0_pay424]
  simp only [e25, e26]
  refine congrArg (BitVec.setWidth 8) (congrArg (Ideal.fptosi 32) (Finset.sum_congr rfl fun c _ => ?_))
  have hk : grp (fun k => v (ix4 0 0 k c)) ⟨k.val / 32, by omega⟩ ⟨k.val % 32, by omega⟩ = v (ix4 0 0 k c) := by
    unfold grp
    exact congrArg (fun k => v (ix4 0 0 k c)) (Fin.ext (by simp only; omega))
  unfold qcode
  rw [hk, ofBits_bf16_16]

theorem pay433_apply {P : S128x128.Idx → EReal} (h : IsPerm P) (v : S1x1x128x128.Idx → EReal) (r k : Fin 128) :
    k0_pay433 (F := Ideal) P v (ix2 r k) = v (ix4 0 0 k (src r)) := by
  rw [← sum_perm' h (fun c => v (ix4 0 0 k c)) r]
  pointwise [k0_pay433]
theorem pay434_apply {P : S128x128.Idx → EReal} (h : IsPerm P) (v : S1x1x128x128.Idx → EReal) (k : Fin 128) :
    k0_pay434 (F := Ideal) P v (ix2 0 k) = qlo (fun d => v (ix4 0 0 k d)) := by
  rw [← qlo_equiv _ src]
  have e33 := pay433_apply h v
  unfold k0_pay434
  generalize k0_pay433 (F := Ideal) P v = a at e33 ⊢
  pointwise
  simp only [e33]; rfl
theorem pay435_apply {P : S128x128.Idx → EReal} (h : IsPerm P) (v : S1x1x128x128.Idx → EReal) (k : Fin 128) :
    k0_pay435 (F := Ideal) (k0_pay433 P v) (k0_pay434 P v) (ix2 0 k) = qscale (fun d => v (ix4 0 0 k d)) := by
  have e33 := pay433_apply h v
  have e34 := pay434_apply h v
  rw [← qscale_equiv _ src]
  generalize k0_pay433 (F := Ideal) P v = a at e33 ⊢
  generalize k0_pay434 (F := Ideal) P v = b at e34 ⊢
  pointwise [k0_pay435]
  simp only [e33, e34, ← qlo_equiv (fun d => v (ix4 0 0 k d)) src]; rfl
theorem pay437_apply {P : S128x128.Idx → EReal} (h : IsPerm P) (v : S1x1x128x128.Idx → EReal) (k : Fin 128) :
    k0_pay437 (F := Ideal) (k0_pay433 P v) (k0_pay434 P v) (ix3 0 0 k) = qscale (fun d => v (ix4 0 0 k d)) := by
  rw [← pay435_apply h]
  pointwise [k0_pay437]
theorem pay438_apply {P : S128x128.Idx → EReal} (h : IsPerm P) (v : S1x1x128x128.Idx → EReal) (k : Fin 128) :
    k0_pay438 (F := Ideal) (k0_pay434 P v) (ix3 0 0 k) = qlo (fun d => v (ix4 0 0 k d)) := by
  rw [← pay434_apply h]
  pointwise [k0_pay438]
theorem pay439_apply {P : S128x128.Idx → EReal} (h : IsPerm P) (v : S1x1x128x128.Idx → EReal) (r : Fin 64) (k : Fin 128) :
    k0_pay439 (F := Ideal) (k0_pay433 P v) (k0_pay434 P v) (ix4 0 0 r k)
      = packOf (qcode (fun d => v (ix4 0 0 k d)) ⟨2 * r.val, by omega⟩) (qcode (fun d => v (ix4 0 0 k d)) ⟨2 * r.val + 1, by omega⟩) := by
  rw [← src_even, ← src_odd]
  have e33 := pay433_apply h v
  have e34 := pay434_apply h v
  have e35 := pay435_apply h v
  unfold k0_pay439 k0_pay436
  generalize k0_pay435 (F := Ideal) (k0_pay433 P v) (k0_pay434 P v) = c at e35 ⊢
  generalize k0_pay433 (F := Ideal) P v = a at e33 ⊢
  generalize k0_pay434 (F := Ideal) P v = b at e34 ⊢
  pointwise
  simp only [e33, e34, e35]
  rfl

/-! The output blocks. -/

theorem mem_Rcd (n : ℕ) (hn : n < 4) (y : S1x4x64x128.Idx) : y ∈ (Rcd n).set ↔ (y 1).val = n := by
  rw [Rect.mem_set_unit]
  have h0 : (y 0).val < 1 := (y 0).isLt
  have h1 : (y 1).val < 4 := (y 1).isLt
  have h2 : (y 2).val < 64 := (y 2).isLt
  have h3 : (y 3).val < 128 := (y 3).isLt
  rw [Fin.forall_fin_succ, Fin.forall_fin_succ, Fin.forall_fin_two]
  simp [S1x1x64x128]
  omega
theorem mem_Rvz (n : ℕ) (hn : n < 4) (y : S1x4x128.Idx) : y ∈ (Rvz n).set ↔ (y 1).val = n := by
  rw [Rect.mem_set_unit]
  have h0 : (y 0).val < 1 := (y 0).isLt
  have h1 : (y 1).val < 4 := (y 1).isLt
  have h2 : (y 2).val < 128 := (y 2).isLt
  rw [Fin.forall_fin_succ, Fin.forall_fin_two]
  simp [S1x1x128]
  omega
theorem emb_Rcd (n : ℕ) (r : Fin 64) (k : Fin 128) : (Rcd n).emb (ix4 0 0 r k) = ix4 0 ⟨n % 4, by omega⟩ r k := by idx_ext
theorem emb_Rvz (n : ℕ) (k : Fin 128) : (Rvz n).emb (ix3 0 0 k) = ix3 0 ⟨n % 4, by omega⟩ k := by idx_ext

section
variable (m : (ℓ : Loc nD τ sig) → Buf (Elt Ideal) ℓ) (c : Dev nD) (t : Fin cfg0.N) (x : Ins Ideal) (hb : Blocks m c t x)
include hb
theorem knB_eq (n : ℕ) (k d : Fin 128) : knB t x n (ix4 0 0 k d) = m ((c : Thread nD τ).loc main_arg1) (ix4 (row t) k ⟨n % 4, by omega⟩ d) := by
  rw [show knB t x n (ix4 0 0 k d) = x.x9 ((Rt n).emb (ix4 0 0 k d)) from ld9_apply t x _ _, emb_Rt, x9_apply m c t x hb]
theorem vnB_eq (n : ℕ) (k d : Fin 128) : vnB t x n (ix4 0 0 k d) = m ((c : Thread nD τ).loc main_arg2) (ix4 (row t) k ⟨n % 4, by omega⟩ d) := by
  rw [show vnB t x n (ix4 0 0 k d) = x.x10 ((Rt n).emb (ix4 0 0 k d)) from ldx_apply t x _ _, emb_Rt, x10_apply m c t x hb]
end

section
variable (m : (ℓ : Loc nD τ sig) → Buf (Elt Ideal) ℓ) (c : Dev nD)
/-- The new keys' packed codes: of each batch row, head, pair of channels and token. -/
def newKeyCodes : S32x4x64x128.Idx → BitVec 8 := fun i =>
  packOf (qcode (grp (fun k => m ((c : Thread nD τ).loc main_arg1) (ix4 (i 0) k (i 1) ⟨2 * (i 2).val, by have : (i 2).val < 64 := (i 2).isLt; omega⟩)) ⟨(i 3).val / 32, by have : (i 3).val < 128 := (i 3).isLt; omega⟩) ⟨(i 3).val % 32, by omega⟩)
    (qcode (grp (fun k => m ((c : Thread nD τ).loc main_arg1) (ix4 (i 0) k (i 1) ⟨2 * (i 2).val + 1, by have : (i 2).val < 64 := (i 2).isLt; omega⟩)) ⟨(i 3).val / 32, by have : (i 3).val < 128 := (i 3).isLt; omega⟩) ⟨(i 3).val % 32, by omega⟩)
/-- The new values' packed codes. -/
def newValCodes : S32x4x64x128.Idx → BitVec 8 := fun i =>
  packOf (qcode (fun d => m ((c : Thread nD τ).loc main_arg2) (ix4 (i 0) (i 3) (i 1) d)) ⟨2 * (i 2).val, by have : (i 2).val < 64 := (i 2).isLt; omega⟩)
    (qcode (fun d => m ((c : Thread nD τ).loc main_arg2) (ix4 (i 0) (i 3) (i 1) d)) ⟨2 * (i 2).val + 1, by have : (i 2).val < 64 := (i 2).isLt; omega⟩)
/-- The new values' scales: of each batch row, head and token. -/
def newValScale : S32x4x128.Idx → EReal := fun i => qscale fun d => m ((c : Thread nD τ).loc main_arg2) (ix4 (i 0) (i 2) (i 1) d)
/-- The new values' zeros. -/
def newValZero : S32x4x128.Idx → EReal := fun i => qlo fun d => m ((c : Thread nD τ).loc main_arg2) (ix4 (i 0) (i 2) (i 1) d)

variable (t : Fin cfg0.N) (h : t.val % 16 = 15) (x : Ins Ideal) (hb : Blocks m c t x) (s : Scr Ideal) (hP : IsPerm (rd0 (F := Ideal) s))
include hb hP
theorem out12 (a : Fin 4) (r : Fin 64) (k : Fin 128) : outC_12 c t h x s (ix4 0 a r k) = newKeyCodes m c (ix4 (row t) a r k) := by
  unfold outC_12
  rw [View.read_writes_junk_eq_canon]
  refine (congrArg (fun L => View.canon L _) (piecesC12 t x s c h)).trans ?_
  refine (canon_walk _ _ _ _ (fun y : S1x4x64x128.Idx => newKeyCodes m c (ix4 (row t) (y 1) (y 2) (y 3))) (fun y => (y 1).val) 4 mem_Rcd ?_ 4 le_rfl (ix4 0 a r k)).trans (if_pos ?_)
  swap; · exact a.isLt
  intro n hn z
  idx_vars z
  rw [Subsingleton.elim z0 0, Subsingleton.elim z1 0, emb_Rcd, pay431_apply hP]
  simp only [knB_eq m c t x hb]
  rfl
theorem out15 (a : Fin 4) (r : Fin 64) (k : Fin 128) : outC_15 c t h x s (ix4 0 a r k) = newValCodes m c (ix4 (row t) a r k) := by
  unfold outC_15
  rw [View.read_writes_junk_eq_canon]
  refine (congrArg (fun L => View.canon L _) (piecesC15 t x s c h)).trans ?_
  refine (canon_walk _ _ _ _ (fun y : S1x4x64x128.Idx => newValCodes m c (ix4 (row t) (y 1) (y 2) (y 3))) (fun y => (y 1).val) 4 mem_Rcd ?_ 4 le_rfl (ix4 0 a r k)).trans (if_pos ?_)
  swap; · exact a.isLt
  intro n hn z
  idx_vars z
  rw [Subsingleton.elim z0 0, Subsingleton.elim z1 0, emb_Rcd, pay439_apply hP]
  simp only [vnB_eq m c t x hb]
  rfl
theorem out16 (a : Fin 4) (k : Fin 128) : outC_16 c t h x s (ix3 0 a k) = newValScale m c (ix3 (row t) a k) := by
  unfold outC_16
  rw [View.read_writes_junk_eq_canon]
  refine (congrArg (fun L => View.canon L _) (piecesC16 t x s c h)).trans ?_
  refine (canon_walk _ _ _ _ (fun y : S1x4x128.Idx => newValScale m c (ix3 (row t) (y 1) (y 2))) (fun y => (y 1).val) 4 mem_Rvz ?_ 4 le_rfl (ix3 0 a k)).trans (if_pos ?_)
  swap; · exact a.isLt
  intro n hn z
  idx_vars z
  rw [Subsingleton.elim z0 0, Subsingleton.elim z1 0, emb_Rvz, pay437_apply hP]
  simp only [vnB_eq m c t x hb]
  rfl
theorem out17 (a : Fin 4) (k : Fin 128) : outC_17 c t h x s (ix3 0 a k) = newValZero m c (ix3 (row t) a k) := by
  unfold outC_17
  rw [View.read_writes_junk_eq_canon]
  refine (congrArg (fun L => View.canon L _) (piecesC17 t x s c h)).trans ?_
  refine (canon_walk _ _ _ _ (fun y : S1x4x128.Idx => newValZero m c (ix3 (row t) (y 1) (y 2))) (fun y => (y 1).val) 4 mem_Rvz ?_ 4 le_rfl (ix3 0 a k)).trans (if_pos ?_)
  swap; · exact a.isLt
  intro n hn z
  idx_vars z
  rw [Subsingleton.elim z0 0, Subsingleton.elim z1 0, emb_Rvz, pay438_apply hP]
  simp only [vnB_eq m c t x hb]
  rfl
end
end Cert.KernelIdeal.Body
end
-- ==== Proof.Val.Claim.lean ====
/-
  What the kernel's results hold at the end of the run, as functions of the arguments.
-/
module
public import proofs.«01_k».proof.Proof.Val.Quant
public import proofs.«01_k».proof.Proof.Val.Blocks
public import proofs.«01_k».proof.Proof.Val.Final
public import proofs.«01_k».proof.Proof.Val.Value
public import proofs.«01_k».proof.Proof.Val.Codes
@[expose] public section
noncomputable section
namespace Cert.KernelIdeal.Body
open Cert.KernelIdeal Cert.KernelIdeal.Gen
open Idealize.ShloMosaic Idealize.ShloMosaic.TcCoe Idealize.ShloMosaic.Pipeline

variable (m : (ℓ : Loc nD τ sig) → Buf (Elt Ideal) ℓ)

/-- The new keys' scales: of each batch row, head, group of 32 tokens and channel. -/
def newKeyScale (c : Dev nD) : S32x4x4x128.Idx → EReal :=
  fun i => qscale (grp (fun r => m ((c : Thread nD τ).loc main_arg1) (ix4 (i 0) r (i 1) (i 3))) (i 2))
/-- The new keys' zeros. -/
def newKeyZero (c : Dev nD) : S32x4x4x128.Idx → EReal :=
  fun i => qlo (grp (fun r => m ((c : Thread nD τ).loc main_arg1) (ix4 (i 0) r (i 1) (i 3))) (i 2))

/-- The attention's weighted means. -/
def attn (c : Dev nD) : S32x128x4096.Idx → EReal := yAt (args m c)

/-- What is tracked on device `c`: the scratch within a batch row, and the blocks of the seven results. -/
def track (c : Dev nD) : Track Ideal where
  Inv n s := n % 16 ≠ 0 → ∀ h : n / 16 < 32, Holds (args m c) ⟨n / 16, h⟩ (n % 16 * 1024) s
  O11 n X := ∀ (h : n / 16 < 32) (a : Fin 128) (j : Fin 4096), X (ix3 0 a j) = attn m c (ix3 ⟨n / 16, h⟩ a j)
  O12 n X := ∀ (h : n / 16 < 32) (a : Fin 4) (b : Fin 64) (d : Fin 128), X (ix4 0 a b d) = newKeyCodes m c (ix4 ⟨n / 16, h⟩ a b d)
  O13 n X := ∀ (h : n / 16 < 32) (a b : Fin 4) (d : Fin 128), X (ix4 0 a b d) = newKeyScale m c (ix4 ⟨n / 16, h⟩ a b d)
  O14 n X := ∀ (h : n / 16 < 32) (a b : Fin 4) (d : Fin 128), X (ix4 0 a b d) = newKeyZero m c (ix4 ⟨n / 16, h⟩ a b d)
  O15 n X := ∀ (h : n / 16 < 32) (a : Fin 4) (b : Fin 64) (d : Fin 128), X (ix4 0 a b d) = newValCodes m c (ix4 ⟨n / 16, h⟩ a b d)
  O16 n X := ∀ (h : n / 16 < 32) (a : Fin 4) (b : Fin 128), X (ix3 0 a b) = newValScale m c (ix3 ⟨n / 16, h⟩ a b)
  O17 n X := ∀ (h : n / 16 < 32) (a : Fin 4) (b : Fin 128), X (ix3 0 a b) = newValZero m c (ix3 ⟨n / 16, h⟩ a b)

/-- The body's runs keep it. -/
theorem steps (c : Dev nD) : Steps m c (track m c) where
  inv0 _ := fun h => absurd rfl h
  stepA t h x hb := fun _ h' => by
    have e := holdsA m c t h x hb
    rw [show row t = ⟨(t.val + 1) / 16, h'⟩ from Fin.ext (by show t.val / 16 = (t.val + 1) / 16; omega)] at e
    rw [show (t.val + 1) % 16 * 1024 = 1024 by omega]
    exact e
  stepB t h x s hb inv := fun _ h' => by
    have e := holdsB m c t h x hb s (inv h.1 (row t).isLt)
    rw [show row t = ⟨(t.val + 1) / 16, h'⟩ from Fin.ext (by show t.val / 16 = (t.val + 1) / 16; omega)] at e
    rw [show (t.val + 1) % 16 * 1024 = t.val % 16 * 1024 + 1024 by omega]
    exact e
  stepC t h _ _ _ _ := fun h' => absurd (show (t.val + 1) % 16 = 0 by omega) h'
  out11 t h x s hb inv := fun _ a j => by
    have e := inv (by omega) (row t).isLt
    rw [h] at e
    exact outY m c t h x hb s e a j
  out12 t h x s hb inv := fun _ a b d => out12 m c t h x hb s (rd0_perm _ _ _ s (inv (by omega) (row t).isLt)) a b d
  out13 t h x s hb _ := fun _ a b d => by
    rw [outC_13_apply]
    refine congrArg (fun f => qscale (grp f b)) (funext fun r => ?_)
    exact x9_apply m c t x hb a r d
  out14 t h x s hb _ := fun _ a b d => by
    rw [outC_14_apply]
    refine congrArg (fun f => qlo (grp f b)) (funext fun r => ?_)
    exact x9_apply m c t x hb a r d
  out15 t h x s hb inv := fun _ a b d => out15 m c t h x hb s (rd0_perm _ _ _ s (inv (by omega) (row t).isLt)) a b d
  out16 t h x s hb inv := fun _ a b => out16 m c t h x hb s (rd0_perm _ _ _ s (inv (by omega) (row t).isLt)) a b
  out17 t h x s hb inv := fun _ a b => out17 m c t h x hb s (rd0_perm _ _ _ s (inv (by omega) (row t).isLt)) a b

/-- The kernel's run: the results tracked, and the arguments as they were. -/
theorem value_run (ρ : Dev nD → PrngReg) :
    θ_run defs (onTc (τ := τ) (main (F := Ideal))) ⟨m, fun _ => 0, ρ⟩ (fun r => ∀ c : Dev nD,
      Pipeline.RDat.FramePost (cfgs 0) (rdat m (track m 0)) (V m) r
      ∧ r.2.mem ((c : Thread nD τ).loc main_v10_0) = attn m c
      ∧ r.2.mem ((c : Thread nD τ).loc main_v10_1) = newKeyCodes m c
      ∧ r.2.mem ((c : Thread nD τ).loc main_v10_2) = newKeyScale m c
      ∧ r.2.mem ((c : Thread nD τ).loc main_v10_3) = newKeyZero m c
      ∧ r.2.mem ((c : Thread nD τ).loc main_v10_4) = newValCodes m c
      ∧ r.2.mem ((c : Thread nD τ).loc main_v10_5) = newValScale m c
      ∧ r.2.mem ((c : Thread nD τ).loc main_v10_6) = newValZero m c) :=
  (θ_run defs _ _).mono (fun r h c => by
    obtain rfl : c = 0 := Subsingleton.elim _ _
    refine ⟨h.1, ?_, ?_, ?_, ?_, ?_, ?_, ?_⟩
    · exact final_11 m _ h.1 0 _ fun t _ X hX a b => hX _ a b
    · exact final_12 m _ h.1 0 _ fun t _ X hX a b d => hX _ a b d
    · exact final_13 m _ h.1 0 _ fun t _ X hX a b d => hX _ a b d
    · exact final_14 m _ h.1 0 _ fun t _ X hX a b d => hX _ a b d
    · exact final_15 m _ h.1 0 _ fun t _ X hX a b d => hX _ a b d
    · exact final_16 m _ h.1 0 _ fun t _ X hX a b => hX _ a b
    · exact final_17 m _ h.1 0 _ fun t _ X hX a b => hX _ a b)
    (run_quiescent m ρ (track m 0) fun c => by
      obtain rfl : c = 0 := Subsingleton.elim _ _
      exact steps m 0)

end Cert.KernelIdeal.Body
end
-- ==== Proof.Val.Ref.lean ====
/-
  The reference's quantiser of the new keys, read at an index.
-/
module
public import proofs.«01_k».proof.Proof.Gen.ReferenceIdeal.Run
public import proofs.«01_k».proof.Proof.Val.Quant
public import Idealize.ShloMosaic.Lib.Pointwise
@[expose] public section
set_option maxRecDepth 16384
noncomputable section
namespace Cert.ReferenceIdeal.Value
open Cert.ReferenceIdeal Cert.ReferenceIdeal.Gen
open Idealize.ShloMosaic Idealize.ShloMosaic.TcCoe Idealize.ShloMosaic.StableHlo
open Cert.KernelIdeal.Body (qlo qhi qscale grp)

/-- A minimum over the rows of a group is the fold of `min` over the group's 32 rows. -/
theorem redMin (x : S32x4x32x4x128.Idx → EReal) (b : Fin 32) (g h : Fin 4) (d : Fin 128) :
    Host.reduce (FloatOps.minimumf (F := Ideal) (φ := .f32)) x (constant (F := Ideal) S_ .f32 0x7F800000#32) reducesTo_S32x4x32x4x128_S32x4x4x128_d2 h_S_ (ix4 b g h d)
      = Finset.univ.fold min (Ideal.ofBits .f32 0x7F800000#32) (fun r : Fin 32 => x (ix5 b g r h d)) := by
  rw [Host.reduce_eq_fold_single (FloatOps.minimumf (F := Ideal) (φ := .f32)) x _ _ (by decide : S32x4x32x4x128.Reduces [2] S32x4x4x128) h_S_]
  have e : x ∘ (by decide : S32x4x32x4x128.Reduces [2] S32x4x4x128).lift (ix4 b g h d) = fun r : Fin 32 => x (ix5 b g r h d) := by
    funext r
    refine congrArg x (funext fun i => ?_)
    fin_cases i <;> rfl
  rw [e]
  congr 1

/-- A maximum over the rows of a group is the fold of `max` over the group's 32 rows. -/
theorem redMax (x : S32x4x32x4x128.Idx → EReal) (b : Fin 32) (g h : Fin 4) (d : Fin 128) :
    Host.reduce (FloatOps.maximumf (F := Ideal) (φ := .f32)) x (constant (F := Ideal) S_ .f32 0xFF800000#32) reducesTo_S32x4x32x4x128_S32x4x4x128_d2 h_S_ (ix4 b g h d)
      = Finset.univ.fold max (Ideal.ofBits .f32 0xFF800000#32) (fun r : Fin 32 => x (ix5 b g r h d)) := by
  rw [Host.reduce_eq_fold_single (FloatOps.maximumf (F := Ideal) (φ := .f32)) x _ _ (by decide : S32x4x32x4x128.Reduces [2] S32x4x4x128) h_S_]
  have e : x ∘ (by decide : S32x4x32x4x128.Reduces [2] S32x4x4x128).lift (ix4 b g h d) = fun r : Fin 32 => x (ix5 b g r h d) := by
    funext r
    refine congrArg x (funext fun i => ?_)
    fin_cases i <;> rfl
  rw [e]
  congr 1

/-- A minimum along a row is the fold of `min` over the row's 128 entries. -/
theorem redMinV (x : S32x128x4x128.Idx → EReal) (b : Fin 32) (r : Fin 128) (h : Fin 4) :
    Host.reduce (FloatOps.minimumf (F := Ideal) (φ := .f32)) x (constant (F := Ideal) S_ .f32 0x7F800000#32) reducesTo_S32x128x4x128_S32x128x4_d3 h_S_ (ix3 b r h)
      = Finset.univ.fold min (Ideal.ofBits .f32 0x7F800000#32) (fun d : Fin 128 => x (ix4 b r h d)) := by
  rw [Host.reduce_eq_fold_single (FloatOps.minimumf (F := Ideal) (φ := .f32)) x _ _ (by decide : S32x128x4x128.Reduces [3] S32x128x4) h_S_]
  have e : x ∘ (by decide : S32x128x4x128.Reduces [3] S32x128x4).lift (ix3 b r h) = fun d : Fin 128 => x (ix4 b r h d) := by
    funext d
    refine congrArg x (funext fun i => ?_)
    fin_cases i <;> rfl
  rw [e]
  congr 1

/-- A maximum along a row is the fold of `max` over the row's 128 entries. -/
theorem redMaxV (x : S32x128x4x128.Idx → EReal) (b : Fin 32) (r : Fin 128) (h : Fin 4) :
    Host.reduce (FloatOps.maximumf (F := Ideal) (φ := .f32)) x (constant (F := Ideal) S_ .f32 0xFF800000#32) reducesTo_S32x128x4x128_S32x128x4_d3 h_S_ (ix3 b r h)
      = Finset.univ.fold max (Ideal.ofBits .f32 0xFF800000#32) (fun d : Fin 128 => x (ix4 b r h d)) := by
  rw [Host.reduce_eq_fold_single (FloatOps.maximumf (F := Ideal) (φ := .f32)) x _ _ (by decide : S32x128x4x128.Reduces [3] S32x128x4) h_S_]
  have e : x ∘ (by decide : S32x128x4x128.Reduces [3] S32x128x4).lift (ix3 b r h) = fun d : Fin 128 => x (ix4 b r h d) := by
    funext d
    refine congrArg x (funext fun i => ?_)
    fin_cases i <;> rfl
  rw [e]
  congr 1

theorem v2_apply (V0 : Valuation τ sig (Elt Ideal)) (b : Fin 32) (g h : Fin 4) (r : Fin 32) (d : Fin 128) :
    res_main_v2 V0 (ix5 b g r h d) = V0 (Proc.devRef .tc main_arg1) (ix4 b ⟨g.val * 32 + r.val, by omega⟩ h d) := by
  pointwise [res_main_v2]

/-- An entry of a group's step from its extremes. -/
theorem step_k (mx : S32x4x4x128.Idx → EReal) (lo : S32x4x1x4x128.Idx → EReal) (b : Fin 32) (g h : Fin 4) (d : Fin 128) :
    select (cmpf (F := Ideal) .ogt (subf (broadcastInDim S32x4x1x4x128 ![0, 1, 3, 4] bcast_S32x4x4x128_S32x4x1x4x128_0_1_3_4 mx) lo : FVec Ideal S32x4x1x4x128 .f32) (broadcastInDim S32x4x1x4x128 ![] bcast_S_S32x4x1x4x128 (constant (F := Ideal) S_ .f32 0x00000000#32))) (Host.divf (subf (broadcastInDim S32x4x1x4x128 ![0, 1, 3, 4] bcast_S32x4x4x128_S32x4x1x4x128_0_1_3_4 mx) lo : FVec Ideal S32x4x1x4x128 .f32) (broadcastInDim S32x4x1x4x128 ![] bcast_S_S32x4x1x4x128 (constant (F := Ideal) S_ .f32 0x41700000#32))) (broadcastInDim S32x4x1x4x128 ![] bcast_S_S32x4x1x4x128 (id (constant (F := Ideal) S_ .f32 0x3F800000#32))) (ix5 b g 0 h d)
      = if 0 < mx (ix4 b g h d) - lo (ix5 b g 0 h d) then Ideal.div (mx (ix4 b g h d) - lo (ix5 b g 0 h d)) (Ideal.ofBits .f32 0x41700000#32) else 1 := by
  pointwise [id_eq]

theorem bc_k (mx : S32x4x4x128.Idx → EReal) (b : Fin 32) (g h : Fin 4) (d : Fin 128) :
    broadcastInDim S32x4x1x4x128 ![0, 1, 3, 4] bcast_S32x4x4x128_S32x4x1x4x128_0_1_3_4 mx (ix5 b g 0 h d) = mx (ix4 b g h d) := by
  pointwise
theorem v4_apply (V0 : Valuation τ sig (Elt Ideal)) (b : Fin 32) (g h : Fin 4) (d : Fin 128) :
    res_main_v4 V0 (ix5 b g 0 h d) = qlo (grp (fun r => V0 (Proc.devRef .tc main_arg1) (ix4 b r h d)) g) := by
  unfold res_main_v4
  refine (bc_k _ b g h d).trans ((redMin _ b g h d).trans ?_)
  simp only [v2_apply]
  rfl
theorem v12_apply (V0 : Valuation τ sig (Elt Ideal)) (b : Fin 32) (g h : Fin 4) (d : Fin 128) :
    res_main_v12 V0 (ix5 b g 0 h d) = qscale (grp (fun r => V0 (Proc.devRef .tc main_arg1) (ix4 b r h d)) g) := by
  unfold res_main_v12 res_main_v7
  refine (step_k _ _ b g h d).trans ?_
  rw [redMax, v4_apply]
  simp only [v2_apply]
  rfl

theorem v22_apply (V0 : Valuation τ sig (Elt Ideal)) (b : Fin 32) (r : Fin 128) (h : Fin 4) (d : Fin 128) :
    res_main_v22 V0 (ix4 b r h d) = V0 (Proc.devRef .tc main_arg2) (ix4 b r h d) := by
  pointwise [res_main_v22]

/-- An entry of a row's step from its extremes. -/
theorem step_v (mx : S32x128x4.Idx → EReal) (lo : S32x128x4x1.Idx → EReal) (b : Fin 32) (r : Fin 128) (h : Fin 4) :
    select (cmpf (F := Ideal) .ogt (subf (broadcastInDim S32x128x4x1 ![0, 1, 2] bcast_S32x128x4_S32x128x4x1_0_1_2 mx) lo : FVec Ideal S32x128x4x1 .f32) (broadcastInDim S32x128x4x1 ![] bcast_S_S32x128x4x1 (constant (F := Ideal) S_ .f32 0x00000000#32))) (Host.divf (subf (broadcastInDim S32x128x4x1 ![0, 1, 2] bcast_S32x128x4_S32x128x4x1_0_1_2 mx) lo : FVec Ideal S32x128x4x1 .f32) (broadcastInDim S32x128x4x1 ![] bcast_S_S32x128x4x1 (constant (F := Ideal) S_ .f32 0x41700000#32))) (broadcastInDim S32x128x4x1 ![] bcast_S_S32x128x4x1 (id (constant (F := Ideal) S_ .f32 0x3F800000#32))) (ix4 b r h 0)
      = if 0 < mx (ix3 b r h) - lo (ix4 b r h 0) then Ideal.div (mx (ix3 b r h) - lo (ix4 b r h 0)) (Ideal.ofBits .f32 0x41700000#32) else 1 := by
  pointwise [id_eq]

theorem bc_v (mx : S32x128x4.Idx → EReal) (b : Fin 32) (r : Fin 128) (h : Fin 4) :
    broadcastInDim S32x128x4x1 ![0, 1, 2] bcast_S32x128x4_S32x128x4x1_0_1_2 mx (ix4 b r h 0) = mx (ix3 b r h) := by
  pointwise
theorem v24_apply (V0 : Valuation τ sig (Elt Ideal)) (b : Fin 32) (r : Fin 128) (h : Fin 4) :
    res_main_v24 V0 (ix4 b r h 0) = qlo (fun d => V0 (Proc.devRef .tc main_arg2) (ix4 b r h d)) := by
  unfold res_main_v24
  refine (bc_v _ b r h).trans ((redMinV _ b r h).trans ?_)
  simp only [v22_apply]
  rfl
theorem v32_apply (V0 : Valuation τ sig (Elt Ideal)) (b : Fin 32) (r : Fin 128) (h : Fin 4) :
    res_main_v32 V0 (ix4 b r h 0) = qscale (fun d => V0 (Proc.devRef .tc main_arg2) (ix4 b r h d)) := by
  unfold res_main_v32 res_main_v27
  refine (step_v _ _ b r h).trans ?_
  rw [redMaxV, v24_apply]
  simp only [v22_apply]
  rfl

/-! The scales and zeros as the reference returns them. -/

theorem result3 (V0 : Valuation τ sig (Elt Ideal)) (b : Fin 32) (h g : Fin 4) (d : Fin 128) :
    transpose S32x4x4x128 [0, 2, 1, 3] (res_main_v20 V0) transposes_S32x4x4x128_S32x4x4x128_0_2_1_3 (ix4 b h g d) = qscale (grp (fun r => V0 (Proc.devRef .tc main_arg1) (ix4 b r h d)) g) := by
  rw [← v12_apply]
  pointwise [res_main_v20]
theorem result4 (V0 : Valuation τ sig (Elt Ideal)) (b : Fin 32) (h g : Fin 4) (d : Fin 128) :
    transpose S32x4x4x128 [0, 2, 1, 3] (res_main_v21 V0) transposes_S32x4x4x128_S32x4x4x128_0_2_1_3 (ix4 b h g d) = qlo (grp (fun r => V0 (Proc.devRef .tc main_arg1) (ix4 b r h d)) g) := by
  rw [← v4_apply]
  pointwise [res_main_v21]
theorem result6 (V0 : Valuation τ sig (Elt Ideal)) (b : Fin 32) (h : Fin 4) (r : Fin 128) :
    transpose S32x4x128 [0, 2, 1] (res_main_v40 V0) transposes_S32x128x4_S32x4x128_0_2_1 (ix3 b h r) = qscale (fun d => V0 (Proc.devRef .tc main_arg2) (ix4 b r h d)) := by
  rw [← v32_apply]
  pointwise [res_main_v40]
theorem result7 (V0 : Valuation τ sig (Elt Ideal)) (b : Fin 32) (h : Fin 4) (r : Fin 128) :
    transpose S32x4x128 [0, 2, 1] (res_main_v41 V0) transposes_S32x128x4_S32x4x128_0_2_1 (ix3 b h r) = qlo (fun d => V0 (Proc.devRef .tc main_arg2) (ix4 b r h d)) := by
  rw [← v24_apply]
  pointwise [res_main_v41]
end Cert.ReferenceIdeal.Value
end
-- ==== Proof.Val.RefY.lean ====
/-
  The reference's attention, read at an index: its keys, values, scores, weights and weighted means are those of `Spec`.
-/
module
public import proofs.«01_k».proof.Proof.Gen.ReferenceIdeal.Run
public import proofs.«01_k».proof.Proof.Val.Ref
public import proofs.«01_k».proof.Proof.Val.Spec
public import Idealize.ShloMosaic.Lib.Pointwise
@[expose] public section
set_option maxRecDepth 16384
noncomputable section
namespace Cert.ReferenceIdeal.Value
open Cert.ReferenceIdeal Cert.ReferenceIdeal.Gen
open Idealize.ShloMosaic Idealize.ShloMosaic.TcCoe Idealize.ShloMosaic.StableHlo
open Cert.KernelIdeal.Body (qlo qhi qscale grp nib byteOf deq qcode lscale Args keyAt valAt qAt hd scoreAt meanAt yAt)

open Cert.Val (runMax runSum runAcc)

/-! Scalars. -/

theorem byte_lo : ∀ w : BitVec 8, (w.setWidth 32 &&& 15#32).toInt = ((w &&& 15#8).toNat : ℤ) := by decide
theorem byte_hi : ∀ w : BitVec 8, (IntOp.shrsi .host (w.setWidth 32) 4#32).toInt = ((w >>> 4).toNat : ℤ) := by decide

theorem ofBits_15 : Ideal.ofBits .f32 0x41700000#32 = ((15 : ℝ) : EReal) := by
  simp [Ideal.ofBits, Ideal.ieee]
  rw [← EReal.coe_mul]
  norm_num
theorem ofBits_128 : Ideal.ofBits .f32 0x43000000#32 = ((128 : ℝ) : EReal) := by
  simp [Ideal.ofBits, Ideal.ieee]
  rw [← EReal.coe_mul]
  norm_num

/-- A code is a whole number from 0 to 15. -/
theorem qcode_int {n : ℕ} (f : Fin n → EReal) (i : Fin n) : ∃ k : ℤ, 0 ≤ k ∧ k ≤ 15 ∧ qcode f i = (((k : ℤ) : ℝ) : EReal) := by
  unfold qcode
  rw [ofBits_15]
  generalize Ideal.div (f i - qlo f) (qscale f) = y
  have z : (((0#32).toInt : ℝ) : EReal) = ((0 : ℝ) : EReal) := by norm_num
  rw [z]
  induction y with
  | bot => exact ⟨0, le_rfl, by norm_num, by
      show min _ (max _ (⊥ : EReal)) = _
      simp⟩
  | top => exact ⟨15, by norm_num, le_rfl, by
      show min _ (max _ (⊤ : EReal)) = _
      simp⟩
  | coe r =>
    refine ⟨min 15 (max 0 (Ideal.roundHalfEven r)), le_min (by norm_num) (le_max_left _ _), min_le_left _ _, ?_⟩
    show min ((15 : ℝ) : EReal) (max ((0 : ℝ) : EReal) (((Ideal.roundHalfEven r : ℤ) : ℝ) : EReal)) = _
    push_cast
    rw [EReal.coe_strictMono.monotone.map_min, EReal.coe_strictMono.monotone.map_max]
    simp only [EReal.coe_zero]
/-- A code survives the conversion to integers and back. -/
theorem code_back {n : ℕ} (f : Fin n → EReal) (i : Fin n) : (((Ideal.fptosi 32 (qcode f i)).toInt : ℝ) : EReal) = qcode f i := by
  obtain ⟨k, h0, h1, e⟩ := qcode_int f i
  rw [e]
  congr 2
  have e2 : Ideal.toIntClamped (-(2 ^ (32 - 1) : Nat)) ((2 ^ (32 - 1) : Nat) - 1) (((k : ℤ) : ℝ) : EReal) = k := by
    show max _ (min _ (if 0 ≤ ((k : ℤ) : ℝ) then ⌊((k : ℤ) : ℝ)⌋ else ⌈((k : ℤ) : ℝ)⌉)) = k
    rw [if_pos (by exact_mod_cast h0), Int.floor_intCast]
    norm_num
    omega
  unfold Ideal.fptosi
  rw [e2]
  interval_cases k <;> rfl

/-- Half a byte as the reference reads it. -/
theorem nib_ref (w : BitVec 8) (d : Fin 128) :
    (FloatOps.sitofp (F := Ideal) FTy.f32 (if _ : d.val % 2 < 1 then IntOp.andi (w.setWidth 32) 15#32 else IntOp.shrsi .host (w.setWidth 32) 4#32) : EReal) = nib w d := by
  unfold nib
  by_cases h : d.val % 2 = 0
  · rw [dif_pos (by omega), if_pos h]
    show (((w.setWidth 32 &&& 15#32).toInt : ℝ) : EReal) = _
    rw [byte_lo]
    push_cast
    rfl
  · rw [dif_neg (by omega), if_neg h]
    show (((IntOp.shrsi .host (w.setWidth 32) 4#32).toInt : ℝ) : EReal) = _
    rw [byte_hi]
    push_cast
    rfl

theorem mask_sel (n s : ℕ) (hn : n < 16512) (hs : s < 128) (a b : EReal) :
    Scalar.select (IntOp.cmpi CmpIPredicate.sle (BitVec.ofNat 32 n) (IntOp.addi (16384#32) (BitVec.ofNat 32 s))) a b = if n ≤ 16384 + s then a else b := by
  have t : ∀ k < 2 ^ 31, (BitVec.ofNat 32 k).toInt = (k : ℤ) := fun k hk => by
    rw [BitVec.toInt_eq_toNat_of_lt (by rw [BitVec.toNat_ofNat]; omega), BitVec.toNat_ofNat, Nat.mod_eq_of_lt (by omega)]
  have e : IntOp.addi (16384#32) (BitVec.ofNat 32 s) = BitVec.ofNat 32 (16384 + s) := by
    show 16384#32 + BitVec.ofNat 32 s = _
    rw [BitVec.ofNat_add]
  rw [e]
  have c : IntOp.cmpi CmpIPredicate.sle (BitVec.ofNat 32 n) (BitVec.ofNat 32 (16384 + s)) = BitVec.ofBool (decide (n ≤ 16384 + s)) := by
    show BitVec.ofBool (BitVec.sle _ _) = _
    rw [BitVec.sle_eq_decide, t n (by omega), t _ (by omega)]
    congr 2
    simp only [Nat.cast_le]
  rw [c]
  by_cases h : n ≤ 16384 + s
  · rw [if_pos h, decide_eq_true h]; rfl
  · rw [if_neg h, decide_eq_false h]; rfl

theorem sqrt_128 : Ideal.sqrt ((128 : ℝ) : EReal) = ((Real.sqrt 128 : ℝ) : EReal) := by
  show (if (128 : ℝ) < 0 then (⊥ : EReal) else (Real.sqrt 128 : EReal)) = _
  rw [if_neg (by norm_num)]

/-! The layouts. -/

theorem cat3 (x : S32x16256x4x128.Idx → EReal) (y z : S32x128x4x128.Idx → EReal) (b : Fin 32) (n : Fin 16512) (h : Fin 4) (d : Fin 128) :
    concatenate S32x16512x4x128 1 [⟨S32x16256x4x128, x⟩, ⟨S32x128x4x128, y⟩, ⟨S32x128x4x128, z⟩] concatenates_S32x16256x4x128_S32x128x4x128_S32x128x4x128_S32x16512x4x128_d1 (ix4 b n h d)
      = if h1 : n.val < 16256 then x (ix4 b ⟨n.val, h1⟩ h d) else if h2 : n.val - 16256 < 128 then y (ix4 b ⟨n.val - 16256, h2⟩ h d)
        else z (ix4 b ⟨n.val - 16384, by omega⟩ h d) := by
  pointwise
  have e : n.val - 16256 - 128 = n.val - 16384 := by omega
  simp only [e]

/-- A cached key. -/
theorem key_c (w : IVec S32x16256x4x64 8) (ks kz : FVec Ideal S32x508x4x128 .f32) (b : Fin 32) (n : Fin 16256) (h : Fin 4) (d : Fin 128) :
    ((shapeCast _ (addf (mulf (truncf .bf16 (sitofp .f32 (shapeCast _ (shapeCast _ (concatenate S32x16256x4x64x2 4 [⟨S32x16256x4x64x1, (broadcastInDim S32x16256x4x64x1 ![0, 1, 2, 3] bcast_S32x16256x4x64_S32x16256x4x64x1_0_1_2_3 (andi (extui 32 w natLt_8_32) (broadcastInDim S32x16256x4x64 ![] bcast_S_S32x16256x4x64 (constantI S_ 32 15#32))))⟩, ⟨S32x16256x4x64x1, (broadcastInDim S32x16256x4x64x1 ![0, 1, 2, 3] bcast_S32x16256x4x64_S32x16256x4x64x1_0_1_2_3 (Host.shrsi (extui 32 w natLt_8_32) (broadcastInDim S32x16256x4x64 ![] bcast_S_S32x16256x4x64 (constantI S_ 32 4#32))))⟩] concatenates_S32x16256x4x64x1_S32x16256x4x64x1_S32x16256x4x64x2_d4) shapeCasts_S32x16256x4x64x2_S32x16256x4x128) shapeCasts_S32x16256x4x128_S32x508x32x4x128)) bitsLt_bf16_f32) (broadcastInDim S32x508x32x4x128 ![0, 1, 2, 3, 4] bcast_S32x508x1x4x128_S32x508x32x4x128_0_1_2_3_4 (truncf .bf16 (broadcastInDim S32x508x1x4x128 ![0, 1, 3, 4] bcast_S32x508x4x128_S32x508x1x4x128_0_1_3_4 ks) bitsLt_bf16_f32))) (broadcastInDim S32x508x32x4x128 ![0, 1, 2, 3, 4] bcast_S32x508x1x4x128_S32x508x32x4x128_0_1_2_3_4 (truncf .bf16 (broadcastInDim S32x508x1x4x128 ![0, 1, 3, 4] bcast_S32x508x4x128_S32x508x1x4x128_0_1_3_4 kz) bitsLt_bf16_f32))) shapeCasts_S32x508x32x4x128_S32x16256x4x128) : (⟨S32x16256x4x128, .bf16⟩ : BufTy).Contents (Elt Ideal)) (ix4 b n h d)
      = nib (w (ix4 b n h (byteOf d))) d * ks (ix4 b ⟨n.val / 32, by omega⟩ h d) + kz (ix4 b ⟨n.val / 32, by omega⟩ h d) := by
  pointwise
  exact congrArg (fun z : EReal => z * ks (ix4 b ⟨n.val / 32, by omega⟩ h d) + kz (ix4 b ⟨n.val / 32, by omega⟩ h d)) (nib_ref (w (ix4 b n h (byteOf d))) d)
/-- A new key. -/
theorem key_n (q : IVec S32x4x32x4x128 32) (sc lo : FVec Ideal S32x4x4x128 .f32) (b : Fin 32) (r : Fin 128) (h : Fin 4) (d : Fin 128) :
    ((shapeCast _ (addf (mulf (truncf .bf16 (sitofp .f32 q) bitsLt_bf16_f32) (broadcastInDim S32x4x32x4x128 ![0, 1, 2, 3, 4] bcast_S32x4x1x4x128_S32x4x32x4x128_0_1_2_3_4 (truncf .bf16 (broadcastInDim S32x4x1x4x128 ![0, 1, 3, 4] bcast_S32x4x4x128_S32x4x1x4x128_0_1_3_4 sc) bitsLt_bf16_f32))) (broadcastInDim S32x4x32x4x128 ![0, 1, 2, 3, 4] bcast_S32x4x1x4x128_S32x4x32x4x128_0_1_2_3_4 (truncf .bf16 (broadcastInDim S32x4x1x4x128 ![0, 1, 3, 4] bcast_S32x4x4x128_S32x4x1x4x128_0_1_3_4 lo) bitsLt_bf16_f32))) shapeCasts_S32x4x32x4x128_S32x128x4x128) : (⟨S32x128x4x128, .bf16⟩ : BufTy).Contents (Elt Ideal)) (ix4 b r h d)
      = (((q (ix5 b ⟨r.val / 32, by omega⟩ ⟨r.val % 32, by omega⟩ h d)).toInt : ℝ) : EReal) * sc (ix4 b ⟨r.val / 32, by omega⟩ h d) + lo (ix4 b ⟨r.val / 32, by omega⟩ h d) := by
  pointwise
  rfl
/-- A cached value. -/
theorem val_c (w : IVec S32x16256x4x64 8) (vs vz : FVec Ideal S32x16256x4 .f32) (b : Fin 32) (n : Fin 16256) (h : Fin 4) (d : Fin 128) :
    ((addf (mulf (truncf .bf16 (sitofp .f32 (shapeCast _ (concatenate S32x16256x4x64x2 4 [⟨S32x16256x4x64x1, (broadcastInDim S32x16256x4x64x1 ![0, 1, 2, 3] bcast_S32x16256x4x64_S32x16256x4x64x1_0_1_2_3 (andi (extui 32 w natLt_8_32) (broadcastInDim S32x16256x4x64 ![] bcast_S_S32x16256x4x64 (constantI S_ 32 15#32))))⟩, ⟨S32x16256x4x64x1, (broadcastInDim S32x16256x4x64x1 ![0, 1, 2, 3] bcast_S32x16256x4x64_S32x16256x4x64x1_0_1_2_3 (Host.shrsi (extui 32 w natLt_8_32) (broadcastInDim S32x16256x4x64 ![] bcast_S_S32x16256x4x64 (constantI S_ 32 4#32))))⟩] concatenates_S32x16256x4x64x1_S32x16256x4x64x1_S32x16256x4x64x2_d4) shapeCasts_S32x16256x4x64x2_S32x16256x4x128)) bitsLt_bf16_f32) (broadcastInDim S32x16256x4x128 ![0, 1, 2, 3] bcast_S32x16256x4x1_S32x16256x4x128_0_1_2_3 (truncf .bf16 (broadcastInDim S32x16256x4x1 ![0, 1, 2] bcast_S32x16256x4_S32x16256x4x1_0_1_2 vs) bitsLt_bf16_f32))) (broadcastInDim S32x16256x4x128 ![0, 1, 2, 3] bcast_S32x16256x4x1_S32x16256x4x128_0_1_2_3 (truncf .bf16 (broadcastInDim S32x16256x4x1 ![0, 1, 2] bcast_S32x16256x4_S32x16256x4x1_0_1_2 vz) bitsLt_bf16_f32))) : (⟨S32x16256x4x128, .bf16⟩ : BufTy).Contents (Elt Ideal)) (ix4 b n h d)
      = nib (w (ix4 b n h (byteOf d))) d * vs (ix3 b n h) + vz (ix3 b n h) := by
  pointwise
  exact congrArg (fun z : EReal => z * vs (ix3 b n h) + vz (ix3 b n h)) (nib_ref (w (ix4 b n h (byteOf d))) d)
/-- A new value. -/
theorem val_n (q : IVec S32x128x4x128 32) (sc lo : FVec Ideal S32x128x4 .f32) (b : Fin 32) (r : Fin 128) (h : Fin 4) (d : Fin 128) :
    ((addf (mulf (truncf .bf16 (sitofp .f32 q) bitsLt_bf16_f32) (broadcastInDim S32x128x4x128 ![0, 1, 2, 3] bcast_S32x128x4x1_S32x128x4x128_0_1_2_3 (truncf .bf16 (broadcastInDim S32x128x4x1 ![0, 1, 2] bcast_S32x128x4_S32x128x4x1_0_1_2 sc) bitsLt_bf16_f32))) (broadcastInDim S32x128x4x128 ![0, 1, 2, 3] bcast_S32x128x4x1_S32x128x4x128_0_1_2_3 (truncf .bf16 (broadcastInDim S32x128x4x1 ![0, 1, 2] bcast_S32x128x4_S32x128x4x1_0_1_2 lo) bitsLt_bf16_f32))) : (⟨S32x128x4x128, .bf16⟩ : BufTy).Contents (Elt Ideal)) (ix4 b r h d)
      = (((q (ix4 b r h d)).toInt : ℝ) : EReal) * sc (ix3 b r h) + lo (ix3 b r h) := by
  pointwise
  rfl

/-- The key head, query head of the key head, and token of a column. -/
abbrev colOf (h : Fin 4) (g : Fin 8) (s : Fin 128) : Fin 4096 := ⟨(h.val * 8 + g.val) * 128 + s.val, by omega⟩

/-- A score. -/
theorem score_apply (K : FVec Ideal S32x16512x4x128 .bf16) (x : FVec Ideal S32x128x4096 .bf16) (b : Fin 32) (h : Fin 4) (g : Fin 8) (s : Fin 128) (n : Fin 16512) :
    (select (broadcastInDim S32x4x8x128x16512 ![3, 4] bcast_S128x16512_S32x4x8x128x16512_3_4 (cmpi .sle (broadcastInDim S128x16512 ![0, 1] bcast_S1x16512_S128x16512_0_1 (broadcastInDim S1x16512 ![1] bcast_S16512_S1x16512_1 (iotaInDim S16512 32 0))) (broadcastInDim S128x16512 ![0, 1] bcast_S128x1_S128x16512_0_1 (addi (broadcastInDim S128x1 ![] bcast_S_S128x1 (constantI S_ 32 16384#32)) (broadcastInDim S128x1 ![0] bcast_S128_S128x1_0 (iotaInDim S128 32 0)))))) (Host.divf (transpose S32x4x8x128x16512 [0, 1, 4, 3, 2] (Host.dotGeneral dot_S32x16512x4x128_S32x128x4x8x128_S32x4x16512x128x8_3_4_1_13_02_02 none K (shapeCast _ x shapeCasts_S32x128x4096_S32x128x4x8x128)) transposes_S32x4x16512x128x8_S32x4x8x128x16512_0_1_4_3_2) (broadcastInDim S32x4x8x128x16512 ![] bcast_S_S32x4x8x128x16512 (id (Host.sqrt (constant S_ .f32 0x43000000#32))))) (broadcastInDim S32x4x8x128x16512 ![] bcast_S_S32x4x8x128x16512 (id (constant S_ .f32 0xFF800000#32)))) (ix5 b h g s n)
      = if n.val ≤ 16384 + s.val then Ideal.div (∑ d, K (ix4 b n h d) * x (ix3 b s ⟨(h.val * 8 + g.val) * 128 + d.val, by omega⟩)) ((Real.sqrt 128 : ℝ) : EReal) else ⊥ := by
  pointwise [id_eq]
  rw [mask_sel n.val s.val (by omega) (by omega), ofBits_128, Cert.KernelIdeal.Body.ofBits_bot, sqrt_128]
  have e : ∀ d : Fin 128, h.val * 1024 + g.val * 128 + d.val = (h.val * 8 + g.val) * 128 + d.val := fun d => by omega
  simp only [e]
/-- A weighted mean. -/
theorem mean_apply (P : FVec Ideal S32x4x8x128x16512 .f32) (V : FVec Ideal S32x16512x4x128 .bf16) (b : Fin 32) (s : Fin 128) (j : Fin 4096) :
    (truncf .bf16 (shapeCast _ (transpose S32x128x4x8x128 [0, 3, 1, 2, 4] (Host.divf (Host.dotGeneral dot_S32x4x8x128x16512_S32x16512x4x128_S32x4x8x128x128_4_1_23_3_01_02 none (truncf .bf16 P bitsLt_bf16_f32) V) (broadcastInDim S32x4x8x128x128 ![0, 1, 2, 3, 4] bcast_S32x4x8x128x1_S32x4x8x128x128_0_1_2_3_4 (broadcastInDim S32x4x8x128x1 ![0, 1, 2, 3] bcast_S32x4x8x128_S32x4x8x128x1_0_1_2_3 (Host.reduceAdd P (constant S_ .f32 0x00000000#32) reducesTo_S32x4x8x128x16512_S32x4x8x128_d4 h_S_)))) transposes_S32x4x8x128x128_S32x128x4x8x128_0_3_1_2_4) shapeCasts_S32x128x4x8x128_S32x128x4096) bitsLt_bf16_f32) (ix3 b s j)
      = Ideal.div (∑ n, P (ix5 b ⟨j.val / 1024, by omega⟩ ⟨j.val / 128 % 8, by omega⟩ s n) * V (ix4 b n ⟨j.val / 1024, by omega⟩ ⟨j.val % 128, by omega⟩))
        (∑ n, P (ix5 b ⟨j.val / 1024, by omega⟩ ⟨j.val / 128 % 8, by omega⟩ s n)) := by
  pointwise

/-- A maximum along a column is the fold of `max` over its scores. -/
theorem redMaxS (x : S32x4x8x128x16512.Idx → EReal) (b : Fin 32) (h : Fin 4) (g : Fin 8) (s : Fin 128) :
    Host.reduce (FloatOps.maximumf (F := Ideal) (φ := .f32)) x (constant (F := Ideal) S_ .f32 0xFF800000#32) reducesTo_S32x4x8x128x16512_S32x4x8x128_d4 h_S_ (ix4 b h g s)
      = Finset.univ.fold max (Ideal.ofBits .f32 0xFF800000#32) (fun n : Fin 16512 => x (ix5 b h g s n)) := by
  rw [Host.reduce_eq_fold_single (FloatOps.maximumf (F := Ideal) (φ := .f32)) x _ _ (by decide : S32x4x8x128x16512.Reduces [4] S32x4x8x128) h_S_]
  have e : x ∘ (by decide : S32x4x8x128x16512.Reduces [4] S32x4x8x128).lift (ix4 b h g s) = fun n : Fin 16512 => x (ix5 b h g s n) := by
    funext d
    refine congrArg x (funext fun i => ?_)
    fin_cases i <;> rfl
  rw [e]
  congr 1

/-! The new tokens' codes. -/

theorem code_k (a : FVec Ideal S32x4x32x4x128 .f32) (lo sc : FVec Ideal S32x4x1x4x128 .f32) (b : Fin 32) (g h : Fin 4) (r : Fin 32) (d : Fin 128) :
    (fptosi 32 (minimumf (broadcastInDim S32x4x32x4x128 ![] bcast_S_S32x4x32x4x128 (id (constant S_ .f32 0x41700000#32))) (maximumf (broadcastInDim S32x4x32x4x128 ![] bcast_S_S32x4x32x4x128 (sitofp .f32 (constantI S_ 32 0#32))) (Host.roundeven (Host.divf (subf a (broadcastInDim S32x4x32x4x128 ![0, 1, 2, 3, 4] bcast_S32x4x1x4x128_S32x4x32x4x128_0_1_2_3_4 lo)) (broadcastInDim S32x4x32x4x128 ![0, 1, 2, 3, 4] bcast_S32x4x1x4x128_S32x4x32x4x128_0_1_2_3_4 sc)))))) (ix5 b g r h d)
      = Ideal.fptosi 32 (min (Ideal.ofBits .f32 0x41700000#32) (max (((0#32).toInt : ℝ) : EReal) (Ideal.liftRound Ideal.roundHalfEven (Ideal.div (a (ix5 b g r h d) - lo (ix5 b g 0 h d)) (sc (ix5 b g 0 h d)))))) := by
  pointwise [id_eq]
  rfl
theorem code_v (a : FVec Ideal S32x128x4x128 .f32) (lo sc : FVec Ideal S32x128x4x1 .f32) (b : Fin 32) (h : Fin 4) (r : Fin 128) (d : Fin 128) :
    (fptosi 32 (minimumf (broadcastInDim S32x128x4x128 ![] bcast_S_S32x128x4x128 (id (constant S_ .f32 0x41700000#32))) (maximumf (broadcastInDim S32x128x4x128 ![] bcast_S_S32x128x4x128 (sitofp .f32 (constantI S_ 32 0#32))) (Host.roundeven (Host.divf (subf a (broadcastInDim S32x128x4x128 ![0, 1, 2, 3] bcast_S32x128x4x1_S32x128x4x128_0_1_2_3 lo)) (broadcastInDim S32x128x4x128 ![0, 1, 2, 3] bcast_S32x128x4x1_S32x128x4x128_0_1_2_3 sc)))))) (ix4 b r h d)
      = Ideal.fptosi 32 (min (Ideal.ofBits .f32 0x41700000#32) (max (((0#32).toInt : ℝ) : EReal) (Ideal.liftRound Ideal.roundHalfEven (Ideal.div (a (ix4 b r h d) - lo (ix4 b r h 0)) (sc (ix4 b r h 0)))))) := by
  pointwise [id_eq]
  rfl
theorem v19_apply (V0 : Valuation τ sig (Elt Ideal)) (b : Fin 32) (g h : Fin 4) (r : Fin 32) (d : Fin 128) :
    res_main_v19 V0 (ix5 b g r h d) = Ideal.fptosi 32 (qcode (grp (fun r => V0 (Proc.devRef .tc main_arg1) (ix4 b r h d)) g) r) := by
  unfold res_main_v19
  refine (code_k _ _ _ b g h r d).trans ?_
  rw [v4_apply, v12_apply, v2_apply]
  rfl
theorem v39_apply (V0 : Valuation τ sig (Elt Ideal)) (b : Fin 32) (h : Fin 4) (r : Fin 128) (d : Fin 128) :
    res_main_v39 V0 (ix4 b r h d) = Ideal.fptosi 32 (qcode (fun d => V0 (Proc.devRef .tc main_arg2) (ix4 b r h d)) d) := by
  unfold res_main_v39
  refine (code_v _ _ _ b h r d).trans ?_
  rw [v24_apply, v32_apply, v22_apply]
  rfl
theorem v20_apply (V0 : Valuation τ sig (Elt Ideal)) (b : Fin 32) (g h : Fin 4) (d : Fin 128) :
    res_main_v20 V0 (ix4 b g h d) = qscale (grp (fun r => V0 (Proc.devRef .tc main_arg1) (ix4 b r h d)) g) := by
  rw [← v12_apply]
  pointwise [res_main_v20]
theorem v21_apply (V0 : Valuation τ sig (Elt Ideal)) (b : Fin 32) (g h : Fin 4) (d : Fin 128) :
    res_main_v21 V0 (ix4 b g h d) = qlo (grp (fun r => V0 (Proc.devRef .tc main_arg1) (ix4 b r h d)) g) := by
  rw [← v4_apply]
  pointwise [res_main_v21]
theorem v40_apply (V0 : Valuation τ sig (Elt Ideal)) (b : Fin 32) (r : Fin 128) (h : Fin 4) :
    res_main_v40 V0 (ix3 b r h) = qscale (fun d => V0 (Proc.devRef .tc main_arg2) (ix4 b r h d)) := by
  rw [← v32_apply]
  pointwise [res_main_v40]
theorem v41_apply (V0 : Valuation τ sig (Elt Ideal)) (b : Fin 32) (r : Fin 128) (h : Fin 4) :
    res_main_v41 V0 (ix3 b r h) = qlo (fun d => V0 (Proc.devRef .tc main_arg2) (ix4 b r h d)) := by
  rw [← v24_apply]
  pointwise [res_main_v41]

/-- The arguments as valued. -/
def argsOf (V0 : Valuation τ sig (Elt Ideal)) : Args where
  x := V0 (Proc.devRef .tc main_arg0)
  kn := V0 (Proc.devRef .tc main_arg1)
  vn := V0 (Proc.devRef .tc main_arg2)
  kc := V0 (Proc.devRef .tc main_arg3)
  ks := V0 (Proc.devRef .tc main_arg4)
  kz := V0 (Proc.devRef .tc main_arg5)
  vc := V0 (Proc.devRef .tc main_arg6)
  vs := V0 (Proc.devRef .tc main_arg7)
  vz := V0 (Proc.devRef .tc main_arg8)
  kt := V0 (Proc.devRef .tc main_arg9)
  vt := V0 (Proc.devRef .tc main_arg10)

variable (V0 : Valuation τ sig (Elt Ideal))

section
variable {V0}
/-- Three pieces make the keys. -/
theorem keyR {x : S32x16256x4x128.Idx → EReal} {y z : S32x128x4x128.Idx → EReal} (b : Fin 32)
    (hx : ∀ n h d, x (ix4 b n h d) = nib ((argsOf V0).kc (ix4 b n h (byteOf d))) d * (argsOf V0).ks (ix4 b ⟨n.val / 32, by omega⟩ h d) + (argsOf V0).kz (ix4 b ⟨n.val / 32, by omega⟩ h d))
    (hy : ∀ r h d, y (ix4 b r h d) = (argsOf V0).kt (ix4 b r h d))
    (hz : ∀ r h d, z (ix4 b r h d) = deq (grp (fun r => (argsOf V0).kn (ix4 b r h d)) ⟨r.val / 32, by omega⟩) ⟨r.val % 32, by omega⟩)
    (n : Fin 16512) (h : Fin 4) (d : Fin 128) :
    concatenate S32x16512x4x128 1 [⟨S32x16256x4x128, x⟩, ⟨S32x128x4x128, y⟩, ⟨S32x128x4x128, z⟩] concatenates_S32x16256x4x128_S32x128x4x128_S32x128x4x128_S32x16512x4x128_d1 (ix4 b n h d)
      = keyAt (argsOf V0) b h n.val d := by
  rw [cat3]
  unfold keyAt
  by_cases h1 : n.val < 16256
  · rw [dif_pos h1, dif_pos h1, hx]
  · rw [dif_neg h1, dif_neg h1]
    by_cases h2 : n.val - 16256 < 128
    · rw [dif_pos h2, dif_pos h2, hy]
    · rw [dif_neg h2, dif_neg h2, dif_pos (by omega), hz]
/-- Three pieces make the values. -/
theorem valR {x : S32x16256x4x128.Idx → EReal} {y z : S32x128x4x128.Idx → EReal} (b : Fin 32)
    (hx : ∀ n h d, x (ix4 b n h d) = nib ((argsOf V0).vc (ix4 b n h (byteOf d))) d * (argsOf V0).vs (ix3 b n h) + (argsOf V0).vz (ix3 b n h))
    (hy : ∀ r h d, y (ix4 b r h d) = (argsOf V0).vt (ix4 b r h d))
    (hz : ∀ r h d, z (ix4 b r h d) = deq (fun d => (argsOf V0).vn (ix4 b r h d)) d)
    (n : Fin 16512) (h : Fin 4) (d : Fin 128) :
    concatenate S32x16512x4x128 1 [⟨S32x16256x4x128, x⟩, ⟨S32x128x4x128, y⟩, ⟨S32x128x4x128, z⟩] concatenates_S32x16256x4x128_S32x128x4x128_S32x128x4x128_S32x16512x4x128_d1 (ix4 b n h d)
      = valAt (argsOf V0) b h n.val d := by
  rw [cat3]
  unfold valAt
  by_cases h1 : n.val < 16256
  · rw [dif_pos h1, dif_pos h1, hx]
  · rw [dif_neg h1, dif_neg h1]
    by_cases h2 : n.val - 16256 < 128
    · rw [dif_pos h2, dif_pos h2, hy]
    · rw [dif_neg h2, dif_neg h2, dif_pos (by omega), hz]
end

/-- A new key's code, scale and zero make its value read back. -/
theorem keyN (b : Fin 32) (r : Fin 128) (h : Fin 4) (d : Fin 128) :
    (((res_main_v19 V0 (ix5 b ⟨r.val / 32, by omega⟩ ⟨r.val % 32, by omega⟩ h d)).toInt : ℝ) : EReal) * res_main_v20 V0 (ix4 b ⟨r.val / 32, by omega⟩ h d)
      + res_main_v21 V0 (ix4 b ⟨r.val / 32, by omega⟩ h d)
      = deq (grp (fun r => (argsOf V0).kn (ix4 b r h d)) ⟨r.val / 32, by omega⟩) ⟨r.val % 32, by omega⟩ := by
  rw [v19_apply, code_back, v20_apply, v21_apply]
  rfl
theorem valN (b : Fin 32) (r : Fin 128) (h : Fin 4) (d : Fin 128) :
    (((res_main_v39 V0 (ix4 b r h d)).toInt : ℝ) : EReal) * res_main_v40 V0 (ix3 b r h) + res_main_v41 V0 (ix3 b r h)
      = deq (fun d => (argsOf V0).vn (ix4 b r h d)) d := by
  rw [v39_apply, code_back, v40_apply, v41_apply]
  rfl

theorem log_pos : 0 < (Real.log 2)⁻¹ := inv_pos.2 (Real.log_pos (by norm_num))

/-- A score of the reference. -/
def scR (V0 : Valuation τ sig (Elt Ideal)) (b : Fin 32) (h : Fin 4) (g : Fin 8) (s : Fin 128) (n : Fin 16512) : EReal := res_main_v120 V0 (ix5 b h g s n)
/-- The reference's scores, in base two. -/
theorem scoreR (b : Fin 32) (h : Fin 4) (g : Fin 8) (s : Fin 128) (n : Fin 16512) :
    scR V0 b h g s n * (((Real.log 2)⁻¹ : ℝ) : EReal) = scoreAt (argsOf V0) b (colOf h g s) n.val := by
  have e : scR V0 b h g s n = if n.val ≤ 16384 + s.val then Ideal.div (∑ d, keyAt (argsOf V0) b h n.val d * (argsOf V0).x (ix3 b s ⟨(h.val * 8 + g.val) * 128 + d.val, by omega⟩)) ((Real.sqrt 128 : ℝ) : EReal) else ⊥ := by
    unfold scR res_main_v120
    refine (score_apply _ _ b h g s n).trans ?_
    refine congrArg (fun z => if n.val ≤ 16384 + s.val then Ideal.div z ((Real.sqrt 128 : ℝ) : EReal) else ⊥) (Finset.sum_congr rfl fun d _ => ?_)
    exact congrArg (· * _) (keyR (V0 := V0) b (fun n h d => key_c _ _ _ b n h d) (fun _ _ _ => rfl) (fun r h d => (key_n _ _ _ b r h d).trans (keyN V0 b r h d)) n h d)
  rw [e]
  unfold scoreAt qAt
  have e1 : (colOf h g s).val % 128 = s.val := by show ((h.val * 8 + g.val) * 128 + s.val) % 128 = _; omega
  have e2 : hd (colOf h g s) = h := Fin.ext (by show ((h.val * 8 + g.val) * 128 + s.val) / 1024 = _; omega)
  have e3 : (⟨(colOf h g s).val % 128, by omega⟩ : Fin 128) = s := Fin.ext e1
  have e4 : ∀ d : Fin 128, (⟨(colOf h g s).val / 128 * 128 + d.val, by omega⟩ : Fin 4096) = ⟨(h.val * 8 + g.val) * 128 + d.val, by omega⟩ := fun d =>
    Fin.ext (by show ((h.val * 8 + g.val) * 128 + s.val) / 128 * 128 + d.val = (h.val * 8 + g.val) * 128 + d.val; omega)
  rw [e2]
  simp only [e3, e4]
  rw [e1]
  by_cases hc : n.val ≤ 16384 + s.val
  · rw [if_pos hc, if_pos hc]
    unfold Ideal.div lscale
    rw [if_neg (by simp), mul_assoc, ← EReal.coe_inv, ← EReal.coe_mul]
  · rw [if_neg hc, if_neg hc]
    exact EReal.bot_mul_coe_of_pos log_pos

theorem exp_apply (S : FVec Ideal S32x4x8x128x16512 .f32) (M : FVec Ideal S32x4x8x128 .f32) (b : Fin 32) (h : Fin 4) (g : Fin 8) (s : Fin 128) (n : Fin 16512) :
    Host.exp (subf S (broadcastInDim S32x4x8x128x16512 ![0, 1, 2, 3, 4] bcast_S32x4x8x128x1_S32x4x8x128x16512_0_1_2_3_4 (broadcastInDim S32x4x8x128x1 ![0, 1, 2, 3] bcast_S32x4x8x128_S32x4x8x128x1_0_1_2_3 M))) (ix5 b h g s n)
      = Ideal.exp (S (ix5 b h g s n) - M (ix4 b h g s)) := by
  pointwise

theorem sup_run (f : ℕ → EReal) (N : ℕ) : (Finset.univ.sup fun n : Fin N => f n.val) = runMax f N := by
  have e := Cert.Val.runMax_add f 0 N
  rw [Cert.Val.runMax_zero, Nat.zero_add] at e
  rw [e]
  simp

/-- The reference's weights. -/
theorem weightR (b : Fin 32) (h : Fin 4) (g : Fin 8) (s : Fin 128) (n : Fin 16512) :
    res_main_v125 V0 (ix5 b h g s n) = Ideal.exp2 (scoreAt (argsOf V0) b (colOf h g s) n.val - runMax (scoreAt (argsOf V0) b (colOf h g s)) 16512) := by
  unfold res_main_v125
  refine (exp_apply _ _ b h g s n).trans ?_
  rw [redMaxS, Cert.KernelIdeal.Body.ofBits_bot]
  show Ideal.exp (scR V0 b h g s n - Finset.univ.sup fun n : Fin 16512 => scR V0 b h g s n) = _
  rw [Cert.Val.exp_eq_exp2, Cert.Val.sub_mul_pos _ _ log_pos, scoreR]
  have e : (Finset.univ.sup fun n : Fin 16512 => scR V0 b h g s n) * (((Real.log 2)⁻¹ : ℝ) : EReal)
      = runMax (scoreAt (argsOf V0) b (colOf h g s)) 16512 := by
    rw [Cert.Val.sup_mul_pos _ _ log_pos, ← sup_run]
    simp only [scoreR]
  rw [e]

/-- The reference's first result. -/
theorem result1 (P : FVec Ideal S32x4x8x128x16512 .f32) (V : FVec Ideal S32x16512x4x128 .bf16) (b : Fin 32)
    (hP : ∀ h g s n, P (ix5 b h g s n) = Ideal.exp2 (scoreAt (argsOf V0) b (colOf h g s) n.val - runMax (scoreAt (argsOf V0) b (colOf h g s)) 16512))
    (hV : ∀ n h d, V (ix4 b n h d) = valAt (argsOf V0) b h n.val d) (s : Fin 128) (j : Fin 4096) :
    (truncf .bf16 (shapeCast _ (transpose S32x128x4x8x128 [0, 3, 1, 2, 4] (Host.divf (Host.dotGeneral dot_S32x4x8x128x16512_S32x16512x4x128_S32x4x8x128x128_4_1_23_3_01_02 none (truncf .bf16 P bitsLt_bf16_f32) V) (broadcastInDim S32x4x8x128x128 ![0, 1, 2, 3, 4] bcast_S32x4x8x128x1_S32x4x8x128x128_0_1_2_3_4 (broadcastInDim S32x4x8x128x1 ![0, 1, 2, 3] bcast_S32x4x8x128_S32x4x8x128x1_0_1_2_3 (Host.reduceAdd P (constant S_ .f32 0x00000000#32) reducesTo_S32x4x8x128x16512_S32x4x8x128_d4 h_S_)))) transposes_S32x4x8x128x128_S32x128x4x8x128_0_3_1_2_4) shapeCasts_S32x128x4x8x128_S32x128x4096) bitsLt_bf16_f32) (ix3 b s j) = yAt (argsOf V0) (ix3 b s j) := by
  refine (mean_apply _ _ b s j).trans ?_
  have ek : (⟨j.val / 128 * 128 + s.val, by omega⟩ : Fin 4096) = colOf ⟨j.val / 1024, by omega⟩ ⟨j.val / 128 % 8, by omega⟩ s := Fin.ext (by
    show j.val / 128 * 128 + s.val = (j.val / 1024 * 8 + j.val / 128 % 8) * 128 + s.val
    omega)
  show _ = meanAt (argsOf V0) b ⟨j.val / 128 * 128 + s.val, _⟩ ⟨j.val % 128, _⟩
  rw [ek]
  unfold meanAt runAcc runSum
  have e2 : hd (colOf ⟨j.val / 1024, by omega⟩ ⟨j.val / 128 % 8, by omega⟩ s) = ⟨j.val / 1024, by omega⟩ := Fin.ext (by
    show ((j.val / 1024 * 8 + j.val / 128 % 8) * 128 + s.val) / 1024 = j.val / 1024
    omega)
  rw [e2, Finset.sum_range, Finset.sum_range]
  refine congrArg₂ Ideal.div (Finset.sum_congr rfl fun n _ => ?_) (Finset.sum_congr rfl fun n _ => hP _ _ s n)
  rw [mul_comm]
  exact congrArg₂ (· * ·) (hV n _ _) (hP _ _ s n)
end Cert.ReferenceIdeal.Value
end
-- ==== Proof.Val.RefCodes.lean ====
/-
  The packed codes as the reference returns them, read at an index.
-/
module
public import proofs.«01_k».proof.Proof.Val.RefY
public import proofs.«01_k».proof.Proof.Val.Codes
@[expose] public section
set_option maxRecDepth 16384
noncomputable section
namespace Cert.ReferenceIdeal.Value
open Cert.ReferenceIdeal Cert.ReferenceIdeal.Gen
open Idealize.ShloMosaic Idealize.ShloMosaic.TcCoe Idealize.ShloMosaic.StableHlo
open Cert.KernelIdeal.Body (grp qcode packOf ofBits_16)

/-- A small nonnegative integer converts to itself. -/
theorem fptosi_int (k : ℤ) (h0 : 0 ≤ k) (h1 : k ≤ 255) : Ideal.fptosi 32 (((k : ℤ) : ℝ) : EReal) = BitVec.ofInt 32 k := by
  have e2 : Ideal.toIntClamped (-(2 ^ (32 - 1) : Nat)) ((2 ^ (32 - 1) : Nat) - 1) (((k : ℤ) : ℝ) : EReal) = k := by
    show max _ (min _ (if 0 ≤ ((k : ℤ) : ℝ) then ⌊((k : ℤ) : ℝ)⌋ else ⌈((k : ℤ) : ℝ)⌉)) = k
    rw [if_pos (by exact_mod_cast h0), Int.floor_intCast]
    norm_num
    omega
  unfold Ideal.fptosi
  rw [e2]
theorem pack_bits : ∀ a b : Fin 16, (BitVec.ofInt 32 ((a.val : ℤ) + 16 * b.val)).setWidth 8
    = (IntOp.ori (BitVec.ofInt 32 a.val) (IntOp.shli .host (BitVec.ofInt 32 b.val) 4#32)).setWidth 8 := by decide +kernel
/-- Two codes packed by a sum, and by bits. -/
theorem pack_code {n n' : ℕ} (f : Fin n → EReal) (i : Fin n) (f' : Fin n' → EReal) (i' : Fin n') :
    (IntOp.ori (Ideal.fptosi 32 (qcode f i)) (IntOp.shli .host (Ideal.fptosi 32 (qcode f' i')) 4#32)).setWidth 8
      = packOf (qcode f i) (qcode f' i') := by
  unfold packOf
  obtain ⟨k, h0, h1, e⟩ := qcode_int f i
  obtain ⟨k', h0', h1', e'⟩ := qcode_int f' i'
  have es : (((k : ℤ) : ℝ) : EReal) + ((16 : ℝ) : EReal) * (((k' : ℤ) : ℝ) : EReal) = (((k + 16 * k' : ℤ) : ℝ) : EReal) := by
    push_cast; rfl
  rw [e, e', ofBits_16, es, fptosi_int _ (by omega) (by omega), fptosi_int _ (by omega) (by omega), fptosi_int _ (by omega) (by omega)]
  have hb := pack_bits ⟨k.toNat, by omega⟩ ⟨k'.toNat, by omega⟩
  simp only [Int.toNat_of_nonneg h0, Int.toNat_of_nonneg h0'] at hb
  exact hb.symm

theorem v135_apply (V0 : Valuation τ sig (Elt Ideal)) (b : Fin 32) (k : Fin 128) (h : Fin 4) (d : Fin 128) :
    res_main_v135 V0 (ix4 b k h d) = res_main_v19 V0 (ix5 b ⟨k.val / 32, by omega⟩ ⟨k.val % 32, by omega⟩ h d) := by
  pointwise [res_main_v135]

/-- The two halves of a byte. -/
theorem packR (q : IVec S32x128x4x128 32) (b : Fin 32) (h : Fin 4) (r : Fin 64) (k : Fin 128) :
    transpose S32x4x64x128 [0, 2, 3, 1] (trunci 8 (ori (Host.slice S32x128x4x64 ![0, 0, 0, 0] ![1, 1, 1, 2] q slicesBy_S32x128x4x128_S32x128x4x64_0s1_0s1_0s1_0s2) (Host.shli (Host.slice S32x128x4x64 ![0, 0, 0, 1] ![1, 1, 1, 2] q slicesBy_S32x128x4x128_S32x128x4x64_0s1_0s1_0s1_1s2) (broadcastInDim S32x128x4x64 ![] bcast_S_S32x128x4x64 (constantI S_ 32 4#32)))) natLt_8_32) transposes_S32x128x4x64_S32x4x64x128_0_2_3_1 (ix4 b h r k)
      = (IntOp.ori (q (ix4 b k h ⟨2 * r.val, by omega⟩)) (IntOp.shli .host (q (ix4 b k h ⟨2 * r.val + 1, by omega⟩)) 4#32)).setWidth 8 := by
  pointwise
  simp only [Nat.add_comm 1]

/-- The packed codes as the reference returns them. -/
theorem result2 (V0 : Valuation τ sig (Elt Ideal)) (b : Fin 32) (h : Fin 4) (r : Fin 64) (k : Fin 128) :
    transpose S32x4x64x128 [0, 2, 3, 1] (trunci 8 (ori (Host.slice S32x128x4x64 ![0, 0, 0, 0] ![1, 1, 1, 2] (res_main_v135 V0) slicesBy_S32x128x4x128_S32x128x4x64_0s1_0s1_0s1_0s2) (Host.shli (Host.slice S32x128x4x64 ![0, 0, 0, 1] ![1, 1, 1, 2] (res_main_v135 V0) slicesBy_S32x128x4x128_S32x128x4x64_0s1_0s1_0s1_1s2) (broadcastInDim S32x128x4x64 ![] bcast_S_S32x128x4x64 (constantI S_ 32 4#32)))) natLt_8_32) transposes_S32x128x4x64_S32x4x64x128_0_2_3_1 (ix4 b h r k)
      = packOf (qcode (grp (fun k => V0 (Proc.devRef .tc main_arg1) (ix4 b k h ⟨2 * r.val, by omega⟩)) ⟨k.val / 32, by omega⟩) ⟨k.val % 32, by omega⟩)
          (qcode (grp (fun k => V0 (Proc.devRef .tc main_arg1) (ix4 b k h ⟨2 * r.val + 1, by omega⟩)) ⟨k.val / 32, by omega⟩) ⟨k.val % 32, by omega⟩) := by
  rw [packR, v135_apply, v135_apply, v19_apply, v19_apply]
  exact pack_code _ _ _ _
theorem result5 (V0 : Valuation τ sig (Elt Ideal)) (b : Fin 32) (h : Fin 4) (r : Fin 64) (k : Fin 128) :
    transpose S32x4x64x128 [0, 2, 3, 1] (trunci 8 (ori (Host.slice S32x128x4x64 ![0, 0, 0, 0] ![1, 1, 1, 2] (res_main_v39 V0) slicesBy_S32x128x4x128_S32x128x4x64_0s1_0s1_0s1_0s2) (Host.shli (Host.slice S32x128x4x64 ![0, 0, 0, 1] ![1, 1, 1, 2] (res_main_v39 V0) slicesBy_S32x128x4x128_S32x128x4x64_0s1_0s1_0s1_1s2) (broadcastInDim S32x128x4x64 ![] bcast_S_S32x128x4x64 (constantI S_ 32 4#32)))) natLt_8_32) transposes_S32x128x4x64_S32x4x64x128_0_2_3_1 (ix4 b h r k)
      = packOf (qcode (fun d => V0 (Proc.devRef .tc main_arg2) (ix4 b k h d)) ⟨2 * r.val, by omega⟩)
          (qcode (fun d => V0 (Proc.devRef .tc main_arg2) (ix4 b k h d)) ⟨2 * r.val + 1, by omega⟩) := by
  rw [packR, v39_apply, v39_apply]
  exact pack_code _ _ _ _
end Cert.ReferenceIdeal.Value
end
-- ==== Proof.lean ====
/-
  The claims of this certificate: the frames of the kernel, of its ideal reading and of the reference, the one named constant of
  the ideal reading, and that the kernel and the reference return the same seven arrays over the extended reals.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.K.Frame
public import proofs.«01_k».proof.Proof.KI.Frame
public import proofs.«01_k».proof.Proof.Val.Claim
public import proofs.«01_k».proof.Proof.Val.Ref
public import proofs.«01_k».proof.Proof.Val.RefCodes
public import Idealize.ShloMosaic.Adequacy
public import Idealize.ShloMosaic.Init

@[expose] public section

noncomputable section

namespace Cert.Proof

open Idealize.ShloMosaic Idealize.SL.Sem

/-- The reference terminates, leaves its arguments unchanged and every semaphore at zero. -/
theorem reference_frame : Cert.quiescent_ReferenceIdeal (hReferenceIdeal := Cert.ReferenceIdeal.Gen.facts) :=
  fun m ρ _ => (θ_run Cert.ReferenceIdeal.defs _ _).mono
    (fun r h => ⟨fun c => (h c).2.2.2.2.2.2.2, Idealize.ShloMosaic.sem_eq_zero_of_no_sems (by decide) r.2⟩)
    (Cert.ReferenceIdeal.Value.run (F := Ideal) m ρ)

/-- The constant that the ideal reading names is the kernel's own word up to rounding: `1 / √128` over `log 2`. -/
theorem preserves : Cert.preserves_Kernel_KernelIdeal :=
  IdealRules.named_const.statement Cert.KernelIdeal.κ "log2_scale" .f32 0x3E0293EE#32
    (((Real.sqrt 128)⁻¹ * (Real.log 2)⁻¹ : ℝ) : EReal) rfl

open Idealize.ShloMosaic.TcCoe in
/-- The kernel and the reference return the same attention, and the same codes, scales and zeros of the new keys and values. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨Cert.KernelIdeal.Body.attn m, Cert.KernelIdeal.Body.newKeyCodes m, Cert.KernelIdeal.Body.newKeyScale m,
    Cert.KernelIdeal.Body.newKeyZero m, Cert.KernelIdeal.Body.newValCodes m, Cert.KernelIdeal.Body.newValScale m,
    Cert.KernelIdeal.Body.newValZero m, ?_, ?_⟩
  · exact (θ_run Cert.KernelIdeal.defs _ _).mono (fun r h c =>
      ⟨(h c).2.1, (h c).2.2.1, (h c).2.2.2.1, (h c).2.2.2.2.1, (h c).2.2.2.2.2.1, (h c).2.2.2.2.2.2.1, (h c).2.2.2.2.2.2.2,
        Cert.KernelIdeal.Body.args_unchanged m _ (h c).1 c⟩) (Cert.KernelIdeal.Body.value_run m g)
  · refine (θ_run Cert.ReferenceIdeal.defs _ _).mono (fun r h c =>
      ⟨funext fun i => ?_, funext fun i => ?_, funext fun i => ?_, funext fun i => ?_, funext fun i => ?_, funext fun i => ?_,
        funext fun i => ?_, (h c).2.2.2.2.2.2.2⟩)
      (Cert.ReferenceIdeal.Value.run (F := Ideal) m' g')
    · rw [(h c).1]
      idx_vars i
      have ea : Cert.ReferenceIdeal.Value.argsOf (Idealize.ShloMosaic.StableHlo.launchContents m' c) = Cert.KernelIdeal.Body.args m c := by
        obtain ⟨h0, h1, h2, h3, h4, h5, h6, h7, h8, h9, h10⟩ := hargs c
        unfold Cert.ReferenceIdeal.Value.argsOf Cert.KernelIdeal.Body.args
        rw [Cert.KernelIdeal.Body.Args.mk.injEq]
        exact ⟨h0, h1, h2, h3, h4, h5, h6, h7, h8, h9, h10⟩
      refine (Cert.ReferenceIdeal.Value.result1 _ _ _ _ (Cert.ReferenceIdeal.Value.weightR _ _)
        (Cert.ReferenceIdeal.Value.valR _ (fun n h d => Cert.ReferenceIdeal.Value.val_c _ _ _ _ n h d) (fun _ _ _ => rfl)
          (fun r h d => (Cert.ReferenceIdeal.Value.val_n _ _ _ _ r h d).trans (Cert.ReferenceIdeal.Value.valN _ _ r h d))) _ _).trans ?_
      rw [ea]
      rfl
    · rw [(h c).2.1]
      idx_vars i
      refine (Cert.ReferenceIdeal.Value.result2 _ _ _ _ _).trans ?_
      exact congrArg₂ (fun f f' => Cert.KernelIdeal.Body.packOf (Cert.KernelIdeal.Body.qcode (Cert.KernelIdeal.Body.grp f _) _)
        (Cert.KernelIdeal.Body.qcode (Cert.KernelIdeal.Body.grp f' _) _))
        (funext fun k => congrFun (hargs c).2.1 _) (funext fun k => congrFun (hargs c).2.1 _)
    · rw [(h c).2.2.1]
      idx_vars i
      refine (Cert.ReferenceIdeal.Value.result3 _ _ _ _ _).trans ?_
      exact congrArg (fun f => Cert.KernelIdeal.Body.qscale (Cert.KernelIdeal.Body.grp f _)) (funext fun r => congrFun (hargs c).2.1 _)
    · rw [(h c).2.2.2.1]
      idx_vars i
      refine (Cert.ReferenceIdeal.Value.result4 _ _ _ _ _).trans ?_
      exact congrArg (fun f => Cert.KernelIdeal.Body.qlo (Cert.KernelIdeal.Body.grp f _)) (funext fun r => congrFun (hargs c).2.1 _)
    · rw [(h c).2.2.2.2.1]
      idx_vars i
      refine (Cert.ReferenceIdeal.Value.result5 _ _ _ _ _).trans ?_
      exact congrArg (fun f => Cert.KernelIdeal.Body.packOf (Cert.KernelIdeal.Body.qcode f _) (Cert.KernelIdeal.Body.qcode f _))
        (funext fun d => congrFun (hargs c).2.2.1 _)
    · rw [(h c).2.2.2.2.2.1]
      idx_vars i
      refine (Cert.ReferenceIdeal.Value.result6 _ _ _ _).trans ?_
      exact congrArg Cert.KernelIdeal.Body.qscale (funext fun d => congrFun (hargs c).2.2.1 _)
    · rw [(h c).2.2.2.2.2.2.1]
      idx_vars i
      refine (Cert.ReferenceIdeal.Value.result7 _ _ _ _).trans ?_
      exact congrArg Cert.KernelIdeal.Body.qlo (funext fun d => congrFun (hargs c).2.2.1 _)

theorem claim : Cert.Claim :=
  ⟨Cert.Kernel.Gen.facts, Cert.KernelIdeal.Gen.facts, Cert.ReferenceIdeal.Gen.facts,
    fun m ρ _ => Cert.Kernel.Body.frame_claim m ρ,
    fun m ρ _ => Cert.KernelIdeal.Body.frame_claim m ρ,
    reference_frame, preserves, algebraic⟩

end Cert.Proof

end
